-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed_and_fits_KernelIdeal [hPre_routed_and_fits_KernelIdeal : Cert.Pre_routed_and_fits_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routed_and_fits_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_routed_and_fits_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed_and_fits_ReferenceIdeal [hPre_routed_and_fits_ReferenceIdeal : Cert.Pre_routed_and_fits_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed_and_fits_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_routed_and_fits_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_routed_and_fits_KernelIdeal [hKernelIdeal : Cert.KernelIdeal.Facts] [hPre_routed_and_fits_KernelIdeal : Cert.Pre_routed_and_fits_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed_and_fits_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_routed_and_fits_ReferenceIdeal [hReferenceIdeal : Cert.ReferenceIdeal.Facts] [hPre_routed_and_fits_ReferenceIdeal : Cert.Pre_routed_and_fits_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed_and_fits_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_routed_and_fits_KernelIdeal [hKernelIdeal : Cert.KernelIdeal.Facts] [hReferenceIdeal : Cert.ReferenceIdeal.Facts] [hPre_routed_and_fits_KernelIdeal : Cert.Pre_routed_and_fits_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed_and_fits_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![8, 1024, 1024]⟩ ⟨3, ![64, 1024, 1024]⟩ 0 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v20) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_routed_and_fits_KernelIdeal : Cert.Pre_routed_and_fits_KernelIdeal.Facts) (hPre_routed_and_fits_ReferenceIdeal : Cert.Pre_routed_and_fits_ReferenceIdeal.Facts),
    quiescent_Kernel (hKernel := hKernel)
    ∧ quiescent_KernelIdeal (hKernelIdeal := hKernelIdeal)
    ∧ quiescent_KernelIdeal_pre_routed_and_fits_KernelIdeal (hKernelIdeal := hKernelIdeal) (hPre_routed_and_fits_KernelIdeal := hPre_routed_and_fits_KernelIdeal)
    ∧ quiescent_ReferenceIdeal (hReferenceIdeal := hReferenceIdeal)
    ∧ quiescent_ReferenceIdeal_pre_routed_and_fits_ReferenceIdeal (hReferenceIdeal := hReferenceIdeal) (hPre_routed_and_fits_ReferenceIdeal := hPre_routed_and_fits_ReferenceIdeal)
    ∧ preserves_Kernel_KernelIdeal
    ∧ algebraic_KernelIdeal_ReferenceIdeal_pre_routed_and_fits_KernelIdeal (hKernelIdeal := hKernelIdeal) (hReferenceIdeal := hReferenceIdeal) (hPre_routed_and_fits_KernelIdeal := hPre_routed_and_fits_KernelIdeal)
-- ==== Pre_routed_and_fits_KernelIdeal.lean ====
abbrev S2048x1024 : Shape := ⟨2, ![2048, 1024]⟩
abbrev S1024x64 : Shape := ⟨2, ![1024, 64]⟩
abbrev S2048x1 : Shape := ⟨2, ![2048, 1]⟩
abbrev S8x1024x1024 : Shape := ⟨3, ![8, 1024, 1024]⟩
abbrev S1024x1024 : Shape := ⟨2, ![1024, 1024]⟩
abbrev S2048x64 : Shape := ⟨2, ![2048, 64]⟩
abbrev S_ : Shape := ⟨0, ![]⟩
abbrev S64 : Shape := ⟨1, ![64]⟩

class Facts : Prop where
  bcast_S2048x1_S2048x64_0_1 : S2048x1.BroadcastsInDim S2048x64 (![0, 1] : Fin 2 → Fin S2048x64.rank)
  bcast_S_S2048x64 : S_.BroadcastsInDim S2048x64 (![] : Fin 0 → Fin S2048x64.rank)
  reducesTo_S2048x64_S64_d0 : S2048x64.ReducesTo [0] S64
  h_S_ : 0 < S_.numel
  bcast_S_S2048x1 : S_.BroadcastsInDim S2048x1 (![] : Fin 0 → Fin S2048x1.rank)
  bcast_S_S64 : S_.BroadcastsInDim S64 (![] : Fin 0 → Fin S64.rank)

variable [Facts]

def fn_where {F : FTy → Type} [FloatOps F] (arg0 : IVec S2048x64 1) (arg1 : FVec F S_ .f32) (arg2 : FVec F S_ .f32) : FVec F S2048x64 .f32 :=
  let v0 : FVec F S2048x64 .f32 := broadcastInDim S2048x64 ![] bcast_S_S2048x64 arg1
  let v1 : FVec F S2048x64 .f32 := broadcastInDim S2048x64 ![] bcast_S_S2048x64 arg2
  let v2 : FVec F S2048x64 .f32 := select arg0 v0 v1
  v2

def fn {F : FTy → Type} [FloatOps F] (main_arg0 : FVec F S2048x1024 .bf16) (main_arg1 : FVec F S1024x64 .bf16) (main_arg2 : IVec S2048x1 32) (main_arg3 : FVec F S8x1024x1024 .f32) (main_arg4 : FVec F S1024x1024 .bf16) : IVec S2048x1 1 × IVec S64 1 :=
  let main_v0 : IVec S2048x64 32 := iotaInDim S2048x64 32 1
  let main_v1 : IVec S2048x64 32 := broadcastInDim S2048x64 ![0, 1] bcast_S2048x1_S2048x64_0_1 main_arg2
  let main_v2 : IVec S2048x64 1 := cmpi .eq main_v1 main_v0
  let main_cst : FVec F S_ .f32 := constant S_ .f32 0x3F800000#32
  let main_cst_0 : FVec F S_ .f32 := constant S_ .f32 0x00000000#32
  let main_v3 : FVec F S2048x64 .f32 := fn_where (F := F) main_v2 main_cst main_cst_0
  let main_v4 : FVec F S2048x64 .f32 := id main_v3
  let main_cst_1 : FVec F S_ .f32 := constant S_ .f32 0x00000000#32
  let main_v5 : FVec F S64 .f32 := (fun x v => Host.reduceAdd x v reducesTo_S2048x64_S64_d0 h_S_) main_v4 main_cst_1
  let main_c : IVec S_ 32 := constantI S_ 32 0#32
  let main_v6 : IVec S2048x1 32 := broadcastInDim S2048x1 ![] bcast_S_S2048x1 main_c
  let main_v7 : IVec S2048x1 1 := cmpi .sge main_arg2 main_v6
  let main_c_2 : IVec S_ 32 := constantI S_ 32 64#32
  let main_v8 : IVec S2048x1 32 := broadcastInDim S2048x1 ![] bcast_S_S2048x1 main_c_2
  let main_v9 : IVec S2048x1 1 := cmpi .slt main_arg2 main_v8
  let main_v10 : IVec S2048x1 1 := andi main_v7 main_v9
  let main_cst_3 : FVec F S_ .f32 := constant S_ .f32 0x42800000#32
  let main_v11 : FVec F S64 .f32 := broadcastInDim S64 ![] bcast_S_S64 main_cst_3
  let main_v12 : IVec S64 1 := cmpf .ole main_v5 main_v11
  (main_v10, main_v12)
-- ==== Pre_routed_and_fits_ReferenceIdeal.lean ====
abbrev S2048x1024 : Shape := ⟨2, ![2048, 1024]⟩
abbrev S1024x64 : Shape := ⟨2, ![1024, 64]⟩
abbrev S2048x1 : Shape := ⟨2, ![2048, 1]⟩
abbrev S64x1024x1024 : Shape := ⟨3, ![64, 1024, 1024]⟩
abbrev S1024x1024 : Shape := ⟨2, ![1024, 1024]⟩
abbrev S2048x64 : Shape := ⟨2, ![2048, 64]⟩
abbrev S_ : Shape := ⟨0, ![]⟩
abbrev S64 : Shape := ⟨1, ![64]⟩

class Facts : Prop where
  bcast_S2048x1_S2048x64_0_1 : S2048x1.BroadcastsInDim S2048x64 (![0, 1] : Fin 2 → Fin S2048x64.rank)
  bcast_S_S2048x64 : S_.BroadcastsInDim S2048x64 (![] : Fin 0 → Fin S2048x64.rank)
  reducesTo_S2048x64_S64_d0 : S2048x64.ReducesTo [0] S64
  h_S_ : 0 < S_.numel
  bcast_S_S2048x1 : S_.BroadcastsInDim S2048x1 (![] : Fin 0 → Fin S2048x1.rank)
  bcast_S_S64 : S_.BroadcastsInDim S64 (![] : Fin 0 → Fin S64.rank)

variable [Facts]

def fn_where {F : FTy → Type} [FloatOps F] (arg0 : IVec S2048x64 1) (arg1 : FVec F S_ .f32) (arg2 : FVec F S_ .f32) : FVec F S2048x64 .f32 :=
  let v0 : FVec F S2048x64 .f32 := broadcastInDim S2048x64 ![] bcast_S_S2048x64 arg1
  let v1 : FVec F S2048x64 .f32 := broadcastInDim S2048x64 ![] bcast_S_S2048x64 arg2
  let v2 : FVec F S2048x64 .f32 := select arg0 v0 v1
  v2

def fn {F : FTy → Type} [FloatOps F] (main_arg0 : FVec F S2048x1024 .bf16) (main_arg1 : FVec F S1024x64 .bf16) (main_arg2 : IVec S2048x1 32) (main_arg3 : FVec F S64x1024x1024 .f32) (main_arg4 : FVec F S1024x1024 .bf16) : IVec S2048x1 1 × IVec S64 1 :=
  let main_v0 : IVec S2048x64 32 := iotaInDim S2048x64 32 1
  let main_v1 : IVec S2048x64 32 := broadcastInDim S2048x64 ![0, 1] bcast_S2048x1_S2048x64_0_1 main_arg2
  let main_v2 : IVec S2048x64 1 := cmpi .eq main_v1 main_v0
  let main_cst : FVec F S_ .f32 := constant S_ .f32 0x3F800000#32
  let main_cst_0 : FVec F S_ .f32 := constant S_ .f32 0x00000000#32
  let main_v3 : FVec F S2048x64 .f32 := fn_where (F := F) main_v2 main_cst main_cst_0
  let main_v4 : FVec F S2048x64 .f32 := id main_v3
  let main_cst_1 : FVec F S_ .f32 := constant S_ .f32 0x00000000#32
  let main_v5 : FVec F S64 .f32 := (fun x v => Host.reduceAdd x v reducesTo_S2048x64_S64_d0 h_S_) main_v4 main_cst_1
  let main_c : IVec S_ 32 := constantI S_ 32 0#32
  let main_v6 : IVec S2048x1 32 := broadcastInDim S2048x1 ![] bcast_S_S2048x1 main_c
  let main_v7 : IVec S2048x1 1 := cmpi .sge main_arg2 main_v6
  let main_c_2 : IVec S_ 32 := constantI S_ 32 64#32
  let main_v8 : IVec S2048x1 32 := broadcastInDim S2048x1 ![] bcast_S_S2048x1 main_c_2
  let main_v9 : IVec S2048x1 1 := cmpi .slt main_arg2 main_v8
  let main_v10 : IVec S2048x1 1 := andi main_v7 main_v9
  let main_cst_3 : FVec F S_ .f32 := constant S_ .f32 0x42800000#32
  let main_v11 : FVec F S64 .f32 := broadcastInDim S64 ![] bcast_S_S64 main_cst_3
  let main_v12 : IVec S64 1 := cmpf .ole main_v5 main_v11
  (main_v10, main_v12)
-- ==== Kernel.lean ====
abbrev S2048x1024 : Shape := ⟨2, ![2048, 1024]⟩
abbrev S1024x64 : Shape := ⟨2, ![1024, 64]⟩
abbrev S2048x1 : Shape := ⟨2, ![2048, 1]⟩
abbrev S8x1024x1024 : Shape := ⟨3, ![8, 1024, 1024]⟩
abbrev S1024x1024 : Shape := ⟨2, ![1024, 1024]⟩
abbrev S3x1024x1024 : Shape := ⟨3, ![3, 1024, 1024]⟩
abbrev S2048x512 : Shape := ⟨2, ![2048, 512]⟩
abbrev S512x1024 : Shape := ⟨2, ![512, 1024]⟩
abbrev S4x256x1024 : Shape := ⟨3, ![4, 256, 1024]⟩
abbrev S3x256x1024 : Shape := ⟨3, ![3, 256, 1024]⟩
abbrev S5x256x1024 : Shape := ⟨3, ![5, 256, 1024]⟩
abbrev S3 : Shape := ⟨1, ![3]⟩
abbrev S4 : Shape := ⟨1, ![4]⟩
abbrev S1 : Shape := ⟨1, ![1]⟩
abbrev S_ : Shape := ⟨0, ![]⟩
abbrev S1x1024x1024 : Shape := ⟨3, ![1, 1024, 1024]⟩
abbrev S2048x64 : Shape := ⟨2, ![2048, 64]⟩
abbrev S2048 : Shape := ⟨1, ![2048]⟩
abbrev S2048x8 : Shape := ⟨2, ![2048, 8]⟩
abbrev S1x8 : Shape := ⟨2, ![1, 8]⟩
abbrev S2047x8 : Shape := ⟨2, ![2047, 8]⟩
abbrev S2x8 : Shape := ⟨2, ![2, 8]⟩
abbrev S2046x8 : Shape := ⟨2, ![2046, 8]⟩
abbrev S4x8 : Shape := ⟨2, ![4, 8]⟩
abbrev S2044x8 : Shape := ⟨2, ![2044, 8]⟩
abbrev S8x8 : Shape := ⟨2, ![8, 8]⟩
abbrev S2040x8 : Shape := ⟨2, ![2040, 8]⟩
abbrev S16x8 : Shape := ⟨2, ![16, 8]⟩
abbrev S2032x8 : Shape := ⟨2, ![2032, 8]⟩
abbrev S32x8 : Shape := ⟨2, ![32, 8]⟩
abbrev S2016x8 : Shape := ⟨2, ![2016, 8]⟩
abbrev S64x8 : Shape := ⟨2, ![64, 8]⟩
abbrev S1984x8 : Shape := ⟨2, ![1984, 8]⟩
abbrev S128x8 : Shape := ⟨2, ![128, 8]⟩
abbrev S1920x8 : Shape := ⟨2, ![1920, 8]⟩
abbrev S256x8 : Shape := ⟨2, ![256, 8]⟩
abbrev S1792x8 : Shape := ⟨2, ![1792, 8]⟩
abbrev S512x8 : Shape := ⟨2, ![512, 8]⟩
abbrev S1536x8 : Shape := ⟨2, ![1536, 8]⟩
abbrev S1024x8 : Shape := ⟨2, ![1024, 8]⟩
abbrev S512x1 : Shape := ⟨2, ![512, 1]⟩
abbrev S64x1024 : Shape := ⟨2, ![64, 1024]⟩
abbrev S64x1 : Shape := ⟨2, ![64, 1]⟩
abbrev S256x512 : Shape := ⟨2, ![256, 512]⟩
abbrev S256x1024 : Shape := ⟨2, ![256, 1024]⟩
abbrev S1x256x1024 : Shape := ⟨3, ![1, 256, 1024]⟩

abbrev nBuf : Space → Nat
  | .hbm => 6
  | .vmem => 14
  | .smem => 0
  | _ => 0

abbrev bufTy : (tb : Table) → Fin (tcTables nBuf tb) → BufTy
  | .hbm, ⟨0, _⟩ => ⟨S2048x1024, .bf16⟩
  | .hbm, ⟨1, _⟩ => ⟨S1024x64, .bf16⟩
  | .hbm, ⟨2, _⟩ => ⟨S2048x1, .i32⟩
  | .hbm, ⟨3, _⟩ => ⟨S8x1024x1024, .f32⟩
  | .hbm, ⟨4, _⟩ => ⟨S1024x1024, .bf16⟩
  | .hbm, ⟨5, _⟩ => ⟨S2048x1024, .f32⟩
  | .local _ .vmem, ⟨0, _⟩ => ⟨S2048x1024, .bf16⟩
  | .local _ .vmem, ⟨1, _⟩ => ⟨S1024x64, .bf16⟩
  | .local _ .vmem, ⟨2, _⟩ => ⟨S2048x1, .i32⟩
  | .local _ .vmem, ⟨3, _⟩ => ⟨S1024x1024, .bf16⟩
  | .local _ .vmem, ⟨4, _⟩ => ⟨S2048x1024, .f32⟩
  | .local _ .vmem, ⟨5, _⟩ => ⟨S3x1024x1024, .f32⟩
  | .local _ .vmem, ⟨6, _⟩ => ⟨S2048x512, .bf16⟩
  | .local _ .vmem, ⟨7, _⟩ => ⟨S512x1024, .bf16⟩
  | .local _ .vmem, ⟨8, _⟩ => ⟨S4x256x1024, .bf16⟩
  | .local _ .vmem, ⟨9, _⟩ => ⟨S4x256x1024, .bf16⟩
  | .local _ .vmem, ⟨10, _⟩ => ⟨S3x256x1024, .bf16⟩
  | .local _ .vmem, ⟨11, _⟩ => ⟨S3x256x1024, .bf16⟩
  | .local _ .vmem, ⟨12, _⟩ => ⟨S5x256x1024, .bf16⟩
  | .local _ .vmem, ⟨13, _⟩ => ⟨S4x256x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 1 → Bool
  | ⟨0, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 1 36 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_scratch5 : Ref sig .tc := ⟨.vmem, 10, rfl⟩
abbrev cc0_scratch6 : Ref sig .tc := ⟨.vmem, 11, rfl⟩
abbrev cc0_scratch7 : Ref sig .tc := ⟨.vmem, 12, rfl⟩
abbrev cc0_scratch8 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_34 : BitVec 32 := 1#32
  let v44 : BitVec 32 := Scalar.muli v13 c1_i32_34
  let v45 : BitVec 32 := Scalar.addi c0_i32_35 v44
  v45.toNat
def k0_dev2 (d0 : Dev nD) : Nat :=
  let c0_i32_38 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_37 : BitVec 32 := 1#32
  let v46 : BitVec 32 := Scalar.muli v24 c1_i32_37
  let v47 : BitVec 32 := Scalar.addi c0_i32_38 v46
  v47.toNat
def k0_off1 (d0 : Dev nD) (c0_i32_206 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_205 : BitVec 32 := 4#32
  let v337 : BitVec 32 := Scalar.addi v2 c4_i32_205
  let v338 : BitVec 32 := Scalar.subi v337 c0_i32_206
  let c8_i32_207 : BitVec 32 := 8#32
  let c0_i32_208 : BitVec 32 := 0#32
  let v339 : BitVec 1 := Scalar.cmpi .eq c8_i32_207 c0_i32_208
  let c1_i32_209 : BitVec 32 := 1#32
  let v340 : BitVec 32 := Scalar.select v339 c1_i32_209 c8_i32_207
  let v341 : BitVec 32 := Scalar.remsi v338 v340
  let c0_i32_211 : BitVec 32 := 0#32
  let v343 : BitVec 1 := Scalar.cmpi .slt v341 c0_i32_211
  let c0_i32_212 : BitVec 32 := 0#32
  let v344 : BitVec 1 := Scalar.cmpi .slt v340 c0_i32_212
  let v345 : BitVec 1 := Scalar.xori v343 v344
  let c0_i32_210 : BitVec 32 := 0#32
  let v342 : BitVec 1 := Scalar.cmpi .ne v341 c0_i32_210
  let v346 : BitVec 1 := Scalar.andi v345 v342
  let v347 : BitVec 32 := Scalar.addi v341 v340
  let v348 : BitVec 32 := Scalar.select v346 v347 v341
  let c256_i32 : BitVec 32 := 256#32
  let v349 : BitVec 32 := Scalar.muli v348 c256_i32
  let v350 : Index := Scalar.indexCast v349
  let c0_213 : Index := 0#32
  ![v350.toNat, 0]
def k0_off2 (d0 : Dev nD) (c0_i32_206 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_205 : BitVec 32 := 4#32
  let v337 : BitVec 32 := Scalar.addi v2 c4_i32_205
  let v338 : BitVec 32 := Scalar.subi v337 c0_i32_206
  let c8_i32_217 : BitVec 32 := 8#32
  let c0_i32_218 : BitVec 32 := 0#32
  let v354 : BitVec 1 := Scalar.cmpi .eq c8_i32_217 c0_i32_218
  let c1_i32_219 : BitVec 32 := 1#32
  let v355 : BitVec 32 := Scalar.select v354 c1_i32_219 c8_i32_217
  let v356 : BitVec 32 := Scalar.remsi v338 v355
  let c0_i32_221 : BitVec 32 := 0#32
  let v358 : BitVec 1 := Scalar.cmpi .slt v356 c0_i32_221
  let c0_i32_222 : BitVec 32 := 0#32
  let v359 : BitVec 1 := Scalar.cmpi .slt v355 c0_i32_222
  let v360 : BitVec 1 := Scalar.xori v358 v359
  let c0_i32_220 : BitVec 32 := 0#32
  let v357 : BitVec 1 := Scalar.cmpi .ne v356 c0_i32_220
  let v361 : BitVec 1 := Scalar.andi v360 v357
  let v362 : BitVec 32 := Scalar.addi v356 v355
  let v363 : BitVec 32 := Scalar.select v361 v362 v356
  let c256_i32_223 : BitVec 32 := 256#32
  let v364 : BitVec 32 := Scalar.muli v363 c256_i32_223
  let v365 : Index := Scalar.indexCast v364
  let c0_224 : Index := 0#32
  ![v365.toNat, 0]
def k0_dev3 (d0 : Dev nD) : Nat :=
  let c0_i32_243 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_242 : BitVec 32 := 1#32
  let v387 : BitVec 32 := Scalar.muli v24 c1_i32_242
  let v388 : BitVec 32 := Scalar.addi c0_i32_243 v387
  v388.toNat
def k0_off3 (d0 : Dev nD) (c0_i32_249 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_248 : BitVec 32 := 3#32
  let v397 : BitVec 32 := Scalar.subi v2 c3_i32_248
  let v398 : BitVec 32 := Scalar.addi v397 c0_i32_249
  let c8_i32_250 : BitVec 32 := 8#32
  let c0_i32_251 : BitVec 32 := 0#32
  let v399 : BitVec 1 := Scalar.cmpi .eq c8_i32_250 c0_i32_251
  let c1_i32_252 : BitVec 32 := 1#32
  let v400 : BitVec 32 := Scalar.select v399 c1_i32_252 c8_i32_250
  let v401 : BitVec 32 := Scalar.remsi v398 v400
  let c0_i32_254 : BitVec 32 := 0#32
  let v403 : BitVec 1 := Scalar.cmpi .slt v401 c0_i32_254
  let c0_i32_255 : BitVec 32 := 0#32
  let v404 : BitVec 1 := Scalar.cmpi .slt v400 c0_i32_255
  let v405 : BitVec 1 := Scalar.xori v403 v404
  let c0_i32_253 : BitVec 32 := 0#32
  let v402 : BitVec 1 := Scalar.cmpi .ne v401 c0_i32_253
  let v406 : BitVec 1 := Scalar.andi v405 v402
  let v407 : BitVec 32 := Scalar.addi v401 v400
  let v408 : BitVec 32 := Scalar.select v406 v407 v401
  let c256_i32_256 : BitVec 32 := 256#32
  let v409 : BitVec 32 := Scalar.muli v408 c256_i32_256
  let v410 : Index := Scalar.indexCast v409
  let c0_257 : Index := 0#32
  ![v410.toNat, 0]
def k0_off4 (d0 : Dev nD) (c0_i32_249 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_248 : BitVec 32 := 3#32
  let v397 : BitVec 32 := Scalar.subi v2 c3_i32_248
  let v398 : BitVec 32 := Scalar.addi v397 c0_i32_249
  let c8_i32_261 : BitVec 32 := 8#32
  let c0_i32_262 : BitVec 32 := 0#32
  let v414 : BitVec 1 := Scalar.cmpi .eq c8_i32_261 c0_i32_262
  let c1_i32_263 : BitVec 32 := 1#32
  let v415 : BitVec 32 := Scalar.select v414 c1_i32_263 c8_i32_261
  let v416 : BitVec 32 := Scalar.remsi v398 v415
  let c0_i32_265 : BitVec 32 := 0#32
  let v418 : BitVec 1 := Scalar.cmpi .slt v416 c0_i32_265
  let c0_i32_266 : BitVec 32 := 0#32
  let v419 : BitVec 1 := Scalar.cmpi .slt v415 c0_i32_266
  let v420 : BitVec 1 := Scalar.xori v418 v419
  let c0_i32_264 : BitVec 32 := 0#32
  let v417 : BitVec 1 := Scalar.cmpi .ne v416 c0_i32_264
  let v421 : BitVec 1 := Scalar.andi v420 v417
  let v422 : BitVec 32 := Scalar.addi v416 v415
  let v423 : BitVec 32 := Scalar.select v421 v422 v416
  let c256_i32_267 : BitVec 32 := 256#32
  let v424 : BitVec 32 := Scalar.muli v423 c256_i32_267
  let v425 : Index := Scalar.indexCast v424
  let c0_268 : Index := 0#32
  ![v425.toNat, 0]
def k0_dev4 (d0 : Dev nD) : Nat :=
  let c0_i32_287 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_286 : BitVec 32 := 1#32
  let v447 : BitVec 32 := Scalar.muli v13 c1_i32_286
  let v448 : BitVec 32 := Scalar.addi c0_i32_287 v447
  v448.toNat
def k0_dev5 (d0 : Dev nD) : Nat :=
  let c0_i32_365 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_364 : BitVec 32 := 1#32
  let v549 : BitVec 32 := Scalar.muli v24 c1_i32_364
  let v550 : BitVec 32 := Scalar.addi c0_i32_365 v549
  v550.toNat
def k0_dev6 (d0 : Dev nD) : Nat :=
  let c0_i32_401 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_400 : BitVec 32 := 1#32
  let v591 : BitVec 32 := Scalar.muli v13 c1_i32_400
  let v592 : BitVec 32 := Scalar.addi c0_i32_401 v591
  v592.toNat
def k0_dev7 (d0 : Dev nD) : Nat :=
  let c0_i32_479 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_478 : BitVec 32 := 1#32
  let v693 : BitVec 32 := Scalar.muli v24 c1_i32_478
  let v694 : BitVec 32 := Scalar.addi c0_i32_479 v693
  v694.toNat
def k0_dev8 (d0 : Dev nD) : Nat :=
  let c0_i32_515 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_514 : BitVec 32 := 1#32
  let v735 : BitVec 32 := Scalar.muli v13 c1_i32_514
  let v736 : BitVec 32 := Scalar.addi c0_i32_515 v735
  v736.toNat
def k0_dev9 (d0 : Dev nD) : Nat :=
  let c0_i32_571 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_570 : BitVec 32 := 1#32
  let v807 : BitVec 32 := Scalar.muli v24 c1_i32_570
  let v808 : BitVec 32 := Scalar.addi c0_i32_571 v807
  v808.toNat
def k0_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_576 : BitVec 32 := 8#32
  let c0_i32_577 : BitVec 32 := 0#32
  let v817 : BitVec 1 := Scalar.cmpi .eq c8_i32_576 c0_i32_577
  let c1_i32_578 : BitVec 32 := 1#32
  let v818 : BitVec 32 := Scalar.select v817 c1_i32_578 c8_i32_576
  let v819 : BitVec 32 := Scalar.remsi v2 v818
  let c0_i32_580 : BitVec 32 := 0#32
  let v821 : BitVec 1 := Scalar.cmpi .slt v819 c0_i32_580
  let c0_i32_581 : BitVec 32 := 0#32
  let v822 : BitVec 1 := Scalar.cmpi .slt v818 c0_i32_581
  let v823 : BitVec 1 := Scalar.xori v821 v822
  let c0_i32_579 : BitVec 32 := 0#32
  let v820 : BitVec 1 := Scalar.cmpi .ne v819 c0_i32_579
  let v824 : BitVec 1 := Scalar.andi v823 v820
  let v825 : BitVec 32 := Scalar.addi v819 v818
  let v826 : BitVec 32 := Scalar.select v824 v825 v819
  let c256_i32_582 : BitVec 32 := 256#32
  let v827 : BitVec 32 := Scalar.muli v826 c256_i32_582
  let v828 : Index := Scalar.indexCast v827
  let c0_583 : Index := 0#32
  ![v828.toNat, 0]
def k0_off6 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_587 : BitVec 32 := 8#32
  let c0_i32_588 : BitVec 32 := 0#32
  let v832 : BitVec 1 := Scalar.cmpi .eq c8_i32_587 c0_i32_588
  let c1_i32_589 : BitVec 32 := 1#32
  let v833 : BitVec 32 := Scalar.select v832 c1_i32_589 c8_i32_587
  let v834 : BitVec 32 := Scalar.remsi v2 v833
  let c0_i32_591 : BitVec 32 := 0#32
  let v836 : BitVec 1 := Scalar.cmpi .slt v834 c0_i32_591
  let c0_i32_592 : BitVec 32 := 0#32
  let v837 : BitVec 1 := Scalar.cmpi .slt v833 c0_i32_592
  let v838 : BitVec 1 := Scalar.xori v836 v837
  let c0_i32_590 : BitVec 32 := 0#32
  let v835 : BitVec 1 := Scalar.cmpi .ne v834 c0_i32_590
  let v839 : BitVec 1 := Scalar.andi v838 v835
  let v840 : BitVec 32 := Scalar.addi v834 v833
  let v841 : BitVec 32 := Scalar.select v839 v840 v834
  let c256_i32_593 : BitVec 32 := 256#32
  let v842 : BitVec 32 := Scalar.muli v841 c256_i32_593
  let v843 : Index := Scalar.indexCast v842
  let c0_594 : Index := 0#32
  ![v843.toNat, 0]
def k0_dev10 (d0 : Dev nD) : Nat :=
  let c0_i32_675 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_674 : BitVec 32 := 1#32
  let v950 : BitVec 32 := Scalar.muli v24 c1_i32_674
  let v951 : BitVec 32 := Scalar.addi c0_i32_675 v950
  v951.toNat
def k0_dev11 (d0 : Dev nD) : Nat :=
  let c0_i32_685 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_684 : BitVec 32 := 1#32
  let v960 : BitVec 32 := Scalar.muli v13 c1_i32_684
  let v961 : BitVec 32 := Scalar.addi c0_i32_685 v960
  v961.toNat
def k0_dev12 (d0 : Dev nD) : Nat :=
  let c0_i32_705 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_704 : BitVec 32 := 1#32
  let v978 : BitVec 32 := Scalar.muli v24 c1_i32_704
  let v979 : BitVec 32 := Scalar.addi c0_i32_705 v978
  v979.toNat
def k0_off7 (d0 : Dev nD) (c1_i32_713 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v991 : BitVec 32 := Scalar.subi v2 c1_i32_713
  let c8_i32_714 : BitVec 32 := 8#32
  let c0_i32_715 : BitVec 32 := 0#32
  let v992 : BitVec 1 := Scalar.cmpi .eq c8_i32_714 c0_i32_715
  let c1_i32_716 : BitVec 32 := 1#32
  let v993 : BitVec 32 := Scalar.select v992 c1_i32_716 c8_i32_714
  let v994 : BitVec 32 := Scalar.remsi v991 v993
  let c0_i32_718 : BitVec 32 := 0#32
  let v996 : BitVec 1 := Scalar.cmpi .slt v994 c0_i32_718
  let c0_i32_719 : BitVec 32 := 0#32
  let v997 : BitVec 1 := Scalar.cmpi .slt v993 c0_i32_719
  let v998 : BitVec 1 := Scalar.xori v996 v997
  let c0_i32_717 : BitVec 32 := 0#32
  let v995 : BitVec 1 := Scalar.cmpi .ne v994 c0_i32_717
  let v999 : BitVec 1 := Scalar.andi v998 v995
  let v1000 : BitVec 32 := Scalar.addi v994 v993
  let v1001 : BitVec 32 := Scalar.select v999 v1000 v994
  let c256_i32_720 : BitVec 32 := 256#32
  let v1002 : BitVec 32 := Scalar.muli v1001 c256_i32_720
  let v1003 : Index := Scalar.indexCast v1002
  let c0_721 : Index := 0#32
  ![v1003.toNat, 0]
def k0_dev13 (d0 : Dev nD) : Nat :=
  let c0_i32_737 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_736 : BitVec 32 := 1#32
  let v1013 : BitVec 32 := Scalar.muli v13 c1_i32_736
  let v1014 : BitVec 32 := Scalar.addi c0_i32_737 v1013
  v1014.toNat
def k0_off8 (d0 : Dev nD) (c1_i32_745 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1026 : BitVec 32 := Scalar.addi v2 c1_i32_745
  let c8_i32_746 : BitVec 32 := 8#32
  let c0_i32_747 : BitVec 32 := 0#32
  let v1027 : BitVec 1 := Scalar.cmpi .eq c8_i32_746 c0_i32_747
  let c1_i32_748 : BitVec 32 := 1#32
  let v1028 : BitVec 32 := Scalar.select v1027 c1_i32_748 c8_i32_746
  let v1029 : BitVec 32 := Scalar.remsi v1026 v1028
  let c0_i32_750 : BitVec 32 := 0#32
  let v1031 : BitVec 1 := Scalar.cmpi .slt v1029 c0_i32_750
  let c0_i32_751 : BitVec 32 := 0#32
  let v1032 : BitVec 1 := Scalar.cmpi .slt v1028 c0_i32_751
  let v1033 : BitVec 1 := Scalar.xori v1031 v1032
  let c0_i32_749 : BitVec 32 := 0#32
  let v1030 : BitVec 1 := Scalar.cmpi .ne v1029 c0_i32_749
  let v1034 : BitVec 1 := Scalar.andi v1033 v1030
  let v1035 : BitVec 32 := Scalar.addi v1029 v1028
  let v1036 : BitVec 32 := Scalar.select v1034 v1035 v1029
  let c256_i32_752 : BitVec 32 := 256#32
  let v1037 : BitVec 32 := Scalar.muli v1036 c256_i32_752
  let v1038 : Index := Scalar.indexCast v1037
  let c0_753 : Index := 0#32
  ![v1038.toNat, 0]
def k0_dev14 (d0 : Dev nD) : Nat :=
  let c0_i32_769 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_768 : BitVec 32 := 1#32
  let v1048 : BitVec 32 := Scalar.muli v24 c1_i32_768
  let v1049 : BitVec 32 := Scalar.addi c0_i32_769 v1048
  v1049.toNat
def k0_dev15 (d0 : Dev nD) : Nat :=
  let c0_i32_801 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_800 : BitVec 32 := 1#32
  let v1083 : BitVec 32 := Scalar.muli v13 c1_i32_800
  let v1084 : BitVec 32 := Scalar.addi c0_i32_801 v1083
  v1084.toNat
def k0_dev16 (d0 : Dev nD) : Nat :=
  let c0_i32_833 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_832 : BitVec 32 := 1#32
  let v1118 : BitVec 32 := Scalar.muli v24 c1_i32_832
  let v1119 : BitVec 32 := Scalar.addi c0_i32_833 v1118
  v1119.toNat
abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S2048x1024 : Shape := ⟨2, ![2048, 1024]⟩
abbrev S1024x64 : Shape := ⟨2, ![1024, 64]⟩
abbrev S2048x1 : Shape := ⟨2, ![2048, 1]⟩
abbrev S64x1024x1024 : Shape := ⟨3, ![64, 1024, 1024]⟩
abbrev S1024x1024 : Shape := ⟨2, ![1024, 1024]⟩
abbrev S2048x64 : Shape := ⟨2, ![2048, 64]⟩
abbrev S_ : Shape := ⟨0, ![]⟩
abbrev S2048 : Shape := ⟨1, ![2048]⟩
abbrev S2048x1x1 : Shape := ⟨3, ![2048, 1, 1]⟩
abbrev S2048x1024x1024 : Shape := ⟨3, ![2048, 1024, 1024]⟩

abbrev nBuf : Space → Nat
  | .hbm => 37
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x64, .bf16⟩
  | .hbm, ⟨2, _⟩ => ⟨S2048x1, .i32⟩
  | .hbm, ⟨3, _⟩ => ⟨S64x1024x1024, .f32⟩
  | .hbm, ⟨4, _⟩ => ⟨S1024x1024, .bf16⟩
  | .hbm, ⟨5, _⟩ => ⟨S2048x1024, .f32⟩
  | .hbm, ⟨6, _⟩ => ⟨S1024x64, .f32⟩
  | .hbm, ⟨7, _⟩ => ⟨S2048x64, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S2048x64, .f32⟩
  | .hbm, ⟨12, _⟩ => ⟨S2048x64, .f32⟩
  | .hbm, ⟨13, _⟩ => ⟨S2048x64, .f32⟩
  | .hbm, ⟨14, _⟩ => ⟨S_, .f32⟩
  | .hbm, ⟨15, _⟩ => ⟨S2048, .f32⟩
  | .hbm, ⟨16, _⟩ => ⟨S2048x1, .f32⟩
  | .hbm, ⟨17, _⟩ => ⟨S2048x64, .f32⟩
  | .hbm, ⟨18, _⟩ => ⟨S2048x64, .f32⟩
  | .hbm, ⟨19, _⟩ => ⟨S1024x1024, .f32⟩
  | .hbm, ⟨20, _⟩ => ⟨S2048x1024, .f32⟩
  | .hbm, ⟨21, _⟩ => ⟨S_, .i32⟩
  | .hbm, ⟨22, _⟩ => ⟨S2048x1, .i32⟩
  | .hbm, ⟨23, _⟩ => ⟨S2048x1, .i1⟩
  | .hbm, ⟨24, _⟩ => ⟨S_, .i32⟩
  | .hbm, ⟨25, _⟩ => ⟨S2048x1, .i32⟩
  | .hbm, ⟨26, _⟩ => ⟨S2048x1, .i32⟩
  | .hbm, ⟨27, _⟩ => ⟨S2048x1, .i32⟩
  | .hbm, ⟨28, _⟩ => ⟨S2048x1x1, .i32⟩
  | .hbm, ⟨29, _⟩ => ⟨S2048x1, .f32⟩
  | .hbm, ⟨30, _⟩ => ⟨S2048, .i32⟩
  | .hbm, ⟨31, _⟩ => ⟨S2048x1, .i32⟩
  | .hbm, ⟨32, _⟩ => ⟨S2048x1024x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_v14 : Ref sig .tc := ⟨.hbm, 29, rfl⟩
abbrev main_v15 : Ref sig .tc := ⟨.hbm, 30, rfl⟩
abbrev main_call1_v0 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩

abbrev nD : Nat := 1
abbrev τ : Topo := Topo.v7x

variable {F : FTy → Type} [FloatOps F]
-- ==== Proof.Ring.lean ====
/-
The ring of eight devices: the neighbours the kernel names by its `device_id` arithmetic, and the row blocks its
offsets name, in closed form.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Frame
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.MoeRing

open Cert.KernelIdeal Cert.KernelIdeal.Gen

open Idealize.ShloMosaic
open Idealize.ShloMosaic.TcCoe

/-- The neighbours on the ring. -/
def right (c : Dev nD) : Dev nD := (c + 1 : Fin 8)
def left (c : Dev nD) : Dev nD := (c - 1 : Fin 8)

theorem left_right (c : Dev nD) : left (right c) = c := by revert c; decide
theorem right_left (c : Dev nD) : right (left c) = c := by revert c; decide
theorem right_ne_left (c : Dev nD) : right c ≠ left c := by revert c; decide

def ring : Dev nD ≃ Dev nD := ⟨right, left, left_right, right_left⟩

theorem dev1_eq (c : Dev nD) : (⟨k0_dev1 c, k0_dev1_lt c⟩ : Dev nD) = left c := by revert c; decide +kernel
theorem dev2_eq (c : Dev nD) : (⟨k0_dev2 c, k0_dev2_lt c⟩ : Dev nD) = right c := by revert c; decide +kernel
theorem dev3_eq (c : Dev nD) : (⟨k0_dev3 c, k0_dev3_lt c⟩ : Dev nD) = right c := by revert c; decide +kernel
theorem dev4_eq (c : Dev nD) : (⟨k0_dev4 c, k0_dev4_lt c⟩ : Dev nD) = left c := by revert c; decide +kernel
theorem dev5_eq (c : Dev nD) : (⟨k0_dev5 c, k0_dev5_lt c⟩ : Dev nD) = right c := by revert c; decide +kernel
theorem dev6_eq (c : Dev nD) : (⟨k0_dev6 c, k0_dev6_lt c⟩ : Dev nD) = left c := by revert c; decide +kernel
theorem dev7_eq (c : Dev nD) : (⟨k0_dev7 c, k0_dev7_lt c⟩ : Dev nD) = right c := by revert c; decide +kernel
theorem dev8_eq (c : Dev nD) : (⟨k0_dev8 c, k0_dev8_lt c⟩ : Dev nD) = left c := by revert c; decide +kernel
theorem dev9_eq (c : Dev nD) : (⟨k0_dev9 c, k0_dev9_lt c⟩ : Dev nD) = right c := by revert c; decide +kernel
theorem dev10_eq (c : Dev nD) : (⟨k0_dev10 c, k0_dev10_lt c⟩ : Dev nD) = right c := by revert c; decide +kernel
theorem dev11_eq (c : Dev nD) : (⟨k0_dev11 c, k0_dev11_lt c⟩ : Dev nD) = left c := by revert c; decide +kernel
theorem dev12_eq (c : Dev nD) : (⟨k0_dev12 c, k0_dev12_lt c⟩ : Dev nD) = right c := by revert c; decide +kernel
theorem dev13_eq (c : Dev nD) : (⟨k0_dev13 c, k0_dev13_lt c⟩ : Dev nD) = left c := by revert c; decide +kernel
theorem dev14_eq (c : Dev nD) : (⟨k0_dev14 c, k0_dev14_lt c⟩ : Dev nD) = right c := by revert c; decide +kernel
theorem dev15_eq (c : Dev nD) : (⟨k0_dev15 c, k0_dev15_lt c⟩ : Dev nD) = left c := by revert c; decide +kernel
theorem dev16_eq (c : Dev nD) : (⟨k0_dev16 c, k0_dev16_lt c⟩ : Dev nD) = right c := by revert c; decide +kernel

/-- The row block `s` steps before, or after, a device's own: the block the `s`-th partial sum sent right, or left, is for. -/
def rowR (c : Dev nD) (s : Fin 4) : Fin 8 := (c : Fin 8) + 4 - ⟨s.val, by omega⟩
def rowL (c : Dev nD) (s : Fin 4) : Fin 8 := (c : Fin 8) - 3 + ⟨s.val, by omega⟩

theorem off1_eq (c : Dev nD) (s : Fin 4) : k0_off1 c (BitVec.ofNat 32 s.val) = ![256 * (rowR c s).val, 0] := by revert c s; decide +kernel
theorem off2_eq (c : Dev nD) (s : Fin 4) : k0_off2 c (BitVec.ofNat 32 s.val) = ![256 * (rowR c s).val, 0] := by revert c s; decide +kernel
theorem off3_eq (c : Dev nD) (s : Fin 3) : k0_off3 c (BitVec.ofNat 32 s.val) = ![256 * (rowL c s.castSucc).val, 0] := by revert c s; decide +kernel
theorem off4_eq (c : Dev nD) (s : Fin 3) : k0_off4 c (BitVec.ofNat 32 s.val) = ![256 * (rowL c s.castSucc).val, 0] := by revert c s; decide +kernel
theorem off5_eq (c : Dev nD) : k0_off5 c = ![256 * c.val, 0] := by revert c; decide +kernel
theorem off6_eq (c : Dev nD) : k0_off6 c = ![256 * c.val, 0] := by revert c; decide +kernel
theorem off7_eq (c : Dev nD) (s : Fin 4) : k0_off7 c (BitVec.ofNat 32 (1 + s.val)) = ![256 * ((c : Fin 8) - ⟨s.val + 1, by omega⟩ : Fin 8).val, 0] := by
  revert c s; decide +kernel
theorem off8_eq (c : Dev nD) (s : Fin 3) : k0_off8 c (BitVec.ofNat 32 (1 + s.val)) = ![256 * ((c : Fin 8) + ⟨s.val + 1, by omega⟩ : Fin 8).val, 0] := by
  revert c s; decide +kernel

end Cert.MoeRing

end
-- ==== Proof.Common.lean ====
/-
The protocol of the kernel: the memrefs and semaphore cells, the contents every buffer holds when it is handed over,
the schedule of the handovers, what each device owes, and the levels that order the waits.
-/
module

public import Idealize.ShloMosaic.Lib.ValueIdxCore
public import proofs.«01_k».proof.Proof.Ring

@[expose] public section

noncomputable section

namespace Cert.MoeRing

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the ring's -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-- The memory at launch: arbitrary contents, every semaphore counter zero, arbitrary generator registers. -/
def s₀ (m : (ℓ : Loc nD τ sig) → Buf (Elt F) ℓ) (ρ : Dev nD → PrngReg) : MemSt nD τ sig (Elt F) := ⟨m, fun _ => 0, ρ⟩

/-! ## The memrefs -/

abbrev xM : Memref sig .tc .vmem S2048x1024 .bf16 := Memref.whole cc0_stg0_0
abbrev rwM : Memref sig .tc .vmem S1024x64 .bf16 := Memref.whole cc0_stg1_0
abbrev riM : Memref sig .tc .vmem S2048x1 .i32 := Memref.whole cc0_stg2_0
abbrev swM : Memref sig .tc .vmem S1024x1024 .bf16 := Memref.whole cc0_stg3_0
abbrev outM : Memref sig .tc .vmem S2048x1024 .f32 := Memref.whole cc0_stg4_0
abbrev weM : Memref sig .tc .hbm S8x1024x1024 .f32 := Memref.whole main_arg3
abbrev ewM : Memref sig .tc .vmem S3x1024x1024 .f32 := Memref.whole cc0_scratch0
abbrev gtM : Memref sig .tc .vmem S2048x512 .bf16 := Memref.whole cc0_scratch1
abbrev yM : Memref sig .tc .vmem S512x1024 .bf16 := Memref.whole cc0_scratch2
abbrev rsM : Memref sig .tc .vmem S4x256x1024 .bf16 := Memref.whole cc0_scratch3
abbrev rrM : Memref sig .tc .vmem S4x256x1024 .bf16 := Memref.whole cc0_scratch4
abbrev lsM : Memref sig .tc .vmem S3x256x1024 .bf16 := Memref.whole cc0_scratch5
abbrev lrM : Memref sig .tc .vmem S3x256x1024 .bf16 := Memref.whole cc0_scratch6
abbrev arM : Memref sig .tc .vmem S5x256x1024 .bf16 := Memref.whole cc0_scratch7
abbrev alM : Memref sig .tc .vmem S4x256x1024 .bf16 := Memref.whole cc0_scratch8

theorem inbW (k : Fin 3) : ∀ a, (![k.val, 0, 0] : Fin 3 → ℕ) a + S1x1024x1024.size a ≤ S3x1024x1024.size a := by revert k; decide
theorem inbE (k : Fin 8) : ∀ a, (![k.val, 0, 0] : Fin 3 → ℕ) a + S1x1024x1024.size a ≤ S8x1024x1024.size a := by revert k; decide
theorem inb3 (k : Fin 3) : ∀ a, (![k.val, 0, 0] : Fin 3 → ℕ) a + S1x256x1024.size a ≤ S3x256x1024.size a := by revert k; decide
theorem inb4 (k : Fin 4) : ∀ a, (![k.val, 0, 0] : Fin 3 → ℕ) a + S1x256x1024.size a ≤ S4x256x1024.size a := by revert k; decide
theorem inb5 (k : Fin 5) : ∀ a, (![k.val, 0, 0] : Fin 3 → ℕ) a + S1x256x1024.size a ≤ S5x256x1024.size a := by revert k; decide
theorem inbO (r : Fin 8) : ∀ a, (![256 * r.val, 0] : Fin 2 → ℕ) a + S256x1024.size a ≤ S2048x1024.size a := by revert r; decide
theorem inbG (r : Fin 8) : ∀ a, (![256 * r.val, 0] : Fin 2 → ℕ) a + S256x512.size a ≤ S2048x512.size a := by revert r; decide
theorem inbY (r : Fin 8) : ∀ a, (![64 * r.val, 0] : Fin 2 → ℕ) a + S64x1024.size a ≤ S512x1024.size a := by revert r; decide

abbrev rctW (k : Fin 3) : Rect S3x1024x1024 := Rect.unit (s := S3x1024x1024) ![k.val, 0, 0] S1x1024x1024.size (inbW k)
abbrev rctE (k : Fin 8) : Rect S8x1024x1024 := Rect.unit (s := S8x1024x1024) ![k.val, 0, 0] S1x1024x1024.size (inbE k)
abbrev rct3 (k : Fin 3) : Rect S3x256x1024 := Rect.unit (s := S3x256x1024) ![k.val, 0, 0] S1x256x1024.size (inb3 k)
abbrev rct4 (k : Fin 4) : Rect S4x256x1024 := Rect.unit (s := S4x256x1024) ![k.val, 0, 0] S1x256x1024.size (inb4 k)
abbrev rct5 (k : Fin 5) : Rect S5x256x1024 := Rect.unit (s := S5x256x1024) ![k.val, 0, 0] S1x256x1024.size (inb5 k)
abbrev rctO (r : Fin 8) : Rect S2048x1024 := Rect.unit (s := S2048x1024) ![256 * r.val, 0] S256x1024.size (inbO r)
abbrev rctG (r : Fin 8) : Rect S2048x512 := Rect.unit (s := S2048x512) ![256 * r.val, 0] S256x512.size (inbG r)
abbrev rctY (r : Fin 8) : Rect S512x1024 := Rect.unit (s := S512x1024) ![64 * r.val, 0] S64x1024.size (inbY r)

abbrev ewS (k : Fin 3) : Memref sig .tc .vmem S1x1024x1024 .f32 := ewM.slice (rctW k) (fun _ => rfl)
abbrev weS (k : Fin 8) : Memref sig .tc .hbm S1x1024x1024 .f32 := weM.slice (rctE k) (fun _ => rfl)
abbrev rsS (k : Fin 4) : Memref sig .tc .vmem S1x256x1024 .bf16 := rsM.slice (rct4 k) (fun _ => rfl)
abbrev rrS (k : Fin 4) : Memref sig .tc .vmem S1x256x1024 .bf16 := rrM.slice (rct4 k) (fun _ => rfl)
abbrev lsS (k : Fin 3) : Memref sig .tc .vmem S1x256x1024 .bf16 := lsM.slice (rct3 k) (fun _ => rfl)
abbrev lrS (k : Fin 3) : Memref sig .tc .vmem S1x256x1024 .bf16 := lrM.slice (rct3 k) (fun _ => rfl)
abbrev arS (k : Fin 5) : Memref sig .tc .vmem S1x256x1024 .bf16 := arM.slice (rct5 k) (fun _ => rfl)
abbrev alS (k : Fin 4) : Memref sig .tc .vmem S1x256x1024 .bf16 := alM.slice (rct4 k) (fun _ => rfl)
abbrev outS (r : Fin 8) : Memref sig .tc .vmem S256x1024 .f32 := outM.slice (rctO r) (fun _ => rfl)
abbrev yS (r : Fin 8) : Memref sig .tc .vmem S64x1024 .bf16 := yM.slice (rctY r) (fun _ => rfl)

/-! ## The cells -/

/-- The runtime's barrier semaphore, the only one the launch does not scope. -/
abbrev barS : Sem sig := (SemArray.scalar (sig.barrier 0 rfl) : Sems sig S_).sem

/-- The kernel's DMA semaphores, in the order they are allocated after the five of the staging buffers: three of the
    expert weights' slots, then for each direction of each phase its send and its receive semaphores. -/
abbrev osem : Fin 31 → SemLoc sig := fun k => .dma (⟨k.val + 5, by omega⟩ : Fin 36)
/-- All the semaphores the protocol uses: the barrier, and those. -/
abbrev csem : Fin 32 → SemLoc sig := fun k => match k with
  | ⟨0, _⟩ => .reg barS
  | ⟨n + 1, h⟩ => .dma (⟨n + 5, by omega⟩ : Fin 36)
abbrev kcell (ck : Dev nD × Fin 32) : GSem nD τ sig := ((ck.1 : Thread nD τ), csem ck.2)

theorem csem_injective : Function.Injective csem := by decide +kernel

theorem kcell_injective : Function.Injective (kcell : Dev nD × Fin 32 → GSem nD τ sig) := by
  rintro ⟨c, k⟩ ⟨c', k'⟩ h
  have h1 : c = c' := congrArg (fun g : GSem nD τ sig => g.1.1) h
  have h2 : k = k' := csem_injective (congrArg Prod.snd h)
  rw [h1, h2]

/-- What a weight copy credits, and what a transfer of a row block does. -/
abbrev NW : ℕ := (ewS 0).view.dmaCredit
abbrev NS : ℕ := (rsS 0).view.dmaCredit
theorem NW_pos : 0 < NW := View.dmaCredit_pos _ (by decide)
theorem NS_pos : 0 < NS := View.dmaCredit_pos _ (by decide)

/-! ## Contents -/

section Contents
variable (m : (ℓ : Loc nD τ sig) → Buf (Elt F) ℓ)

/-- The staged inputs of device `c`. -/
def xV (c : Dev nD) : FVec F S2048x1024 .bf16 := (win0_0.blk (0 : Fin 1)).view.read (Elt F) (m ((c : Thread nD τ).loc main_arg0))
def rwV (c : Dev nD) : FVec F S1024x64 .bf16 := (win0_1.blk (0 : Fin 1)).view.read (Elt F) (m ((c : Thread nD τ).loc main_arg1))
def riV (c : Dev nD) : Vec F S2048x1 .i32 := (win0_2.blk (0 : Fin 1)).view.read (Elt F) (m ((c : Thread nD τ).loc main_arg2))
def swV (c : Dev nD) : FVec F S1024x1024 .bf16 := (win0_3.blk (0 : Fin 1)).view.read (Elt F) (m ((c : Thread nD τ).loc main_arg4))
/-- Device `c`'s eight expert weights, and the `j`-th of them. -/
def weV (c : Dev nD) : FVec F S8x1024x1024 .f32 := m ((c : Thread nD τ).loc main_arg3)
def wV (c : Dev nD) (j : Fin 8) : FVec F S1x1024x1024 .f32 := fun i => weV m c ((rctE j).emb i)

/-- The device's place on the ring, as the kernel computes it. -/
abbrev meV (c : Dev nD) : BitVec 32 := Scalar.remsi (Scalar.divsi (Dev.word c) 1#32) 8#32

/-- The chosen expert's probability per token; the dispatch matrix; the slot coefficients; the gathered tokens. -/
def pV (c : Dev nD) : FVec F S2048x1 .f32 := k0_pay4 (k0_pay1 (xV m c) (rwV m c)) (k0_pay2 (xV m c) (rwV m c)) (riV m c)
def gtV (c : Dev nD) : FVec F S2048x512 .bf16 :=
  k0_pay10 (k0_pay9 (iota .tc S2048x8 32 [1] iota_S2048x8_d1_w32) (k0_pay5 (F := F) (meV c) (riV m c)) (k0_pay6 (meV c) (riV m c)) (k0_pay7 (meV c) (riV m c)) (k0_pay8 (meV c) (riV m c)))
def coefV (c : Dev nD) : FVec F S512x1 .f32 := k0_pay11 (pV m c) (gtV m c)
def xgV (c : Dev nD) : FVec F S512x1024 .bf16 := k0_pay12 (gtV m c) (xV m c)

/-- The experts' outputs, 64 slots an expert, and stacked. -/
def yV (c : Dev nD) : Fin 8 → FVec F S64x1024 .bf16
  | 0 => k0_pay13 (pV m c) (gtV m c) (xV m c) (wV m c 0)
  | 1 => k0_pay14 (coefV m c) (xgV m c) (wV m c 1)
  | 2 => k0_pay15 (coefV m c) (xgV m c) (wV m c 2)
  | 3 => k0_pay18 (coefV m c) (k0_pay16 (wV m c 3)) (k0_pay17 (xgV m c))
  | 4 => k0_pay19 (coefV m c) (xgV m c) (wV m c 4)
  | 5 => k0_pay20 (coefV m c) (xgV m c) (wV m c 5)
  | 6 => k0_pay21 (coefV m c) (xgV m c) (wV m c 6)
  | 7 => k0_pay22 (coefV m c) (xgV m c) (wV m c 7)

/-- Row blocks laid one above the other. -/
def stackY (B : Fin 8 → FVec F S64x1024 .bf16) : FVec F S512x1024 .bf16 := fun i =>
  B ⟨(i 0).val / 64, Nat.div_lt_of_lt_mul (i 0).isLt⟩ (ix2 (n0 := 64) (n1 := 1024) ⟨(i 0).val % 64, Nat.mod_lt _ (by decide)⟩ (i 1))
def stackO (B : Fin 8 → FVec F S256x1024 .f32) : FVec F S2048x1024 .f32 := fun i =>
  B ⟨(i 0).val / 256, Nat.div_lt_of_lt_mul (i 0).isLt⟩ (ix2 (n0 := 256) (n1 := 1024) ⟨(i 0).val % 256, Nat.mod_lt _ (by decide)⟩ (i 1))

def ybV (c : Dev nD) : FVec F S512x1024 .bf16 := stackY (yV m c)

/-- The row block `r` of the dispatch matrix and device `c`'s contribution to the result's row block `r`. -/
def gtR (c : Dev nD) (r : Fin 8) : FVec F S256x512 .bf16 := fun i => gtV m c ((rctG r).emb i)
def partV (c : Dev nD) (r : Fin 8) : FVec F S256x1024 .f32 := k0_pay23 (gtR m c r) (ybV m c)

/-- A partial sum plus what a neighbour sent, rounded for sending; and the first, which adds nothing. -/
def hop (P : FVec F S256x1024 .f32) (R : FVec F S1x256x1024 .bf16) : FVec F S1x256x1024 .bf16 := k0_pay33 P R
/-- The partial sum device `c` sends right, or left, at each step. -/
def sendR : ℕ → Dev nD → FVec F S1x256x1024 .bf16
  | 0, c => k0_pay24 (partV m c (rowR c 0))
  | s + 1, c => hop (partV m c (rowR c (Fin.ofNat 4 (s + 1)))) (sendR s (left c))
def sendL : ℕ → Dev nD → FVec F S1x256x1024 .bf16
  | 0, c => k0_pay27 (k0_pay26 (partV m c (rowL c 0)))
  | s + 1, c => hop (partV m c (rowL c (Fin.ofNat 4 (s + 1)))) (sendL s (right c))

/-- Device `c`'s own row block of the result: its contribution and the shared expert's, then what arrived from both sides. -/
def ownV (c : Dev nD) : FVec F S256x1024 .f32 :=
  k0_pay46 (k0_pay44 (k0_pay43 (partV m c c) (fun i => xV m c ((rctO c).emb i)) (swV m c)) (sendR m 3 (left c))) (k0_pay45 (sendL m 2 (right c)))
/-- The rounded block it sends round. -/
def agV (c : Dev nD) : FVec F S1x256x1024 .bf16 := k0_pay47 (ownV m c)

end Contents

/-! ## The schedule -/

section Sched
variable (m : (ℓ : Loc nD τ sig) → Buf (Elt F) ℓ)

/-- What a device's buffers hold when some contents are held there. -/
abbrev anyOwns (c : Dev nD) {sp : Space} {sh : Shape} {e : EltTy} (M : Memref sig .tc sp sh e) : sProp 𝕄 :=
  iprop(∃ X, owns (c : Thread nD τ) M fullShare X)

/-- What a device hands to the neighbour on its left, who sends to it: the slots for what comes from the left; -/
def slotsR (c : Dev nD) : sProp 𝕄 :=
  iprop(anyOwns c (rrS 0) ∗ anyOwns c (rrS 1) ∗ anyOwns c (rrS 2) ∗ anyOwns c (rrS 3)
    ∗ anyOwns c (arS 1) ∗ anyOwns c (arS 2) ∗ anyOwns c (arS 3) ∗ anyOwns c (arS 4))
/-- and to the neighbour on its right. -/
def slotsL (c : Dev nD) : sProp 𝕄 :=
  iprop(anyOwns c (lrS 0) ∗ anyOwns c (lrS 1) ∗ anyOwns c (lrS 2)
    ∗ anyOwns c (alS 1) ∗ anyOwns c (alS 2) ∗ anyOwns c (alS 3))

/-- The `n`-th weight copied to slot `n % 3`, and its source. -/
def ewPay (c : Dev nD) (j : Fin 3) (r : ℕ) : sProp 𝕄 :=
  if h : j.val + 3 * r < 8 then
    iprop(owns (c : Thread nD τ) (ewS j) fullShare (wV m c ⟨j.val + 3 * r, h⟩) ∗ owns (c : Thread nD τ) (weS ⟨j.val + 3 * r, h⟩) fullShare (wV m c ⟨j.val + 3 * r, h⟩))
  else iprop(emp)

/-- What the completion on DMA semaphore `s` of device `c` hands it. -/
def dmaPay (c : Dev nD) (s r : ℕ) : sProp 𝕄 := match s with
  | 5 => ewPay m c 0 r | 6 => ewPay m c 1 r | 7 => ewPay m c 2 r
  | 8 => owns (c : Thread nD τ) (rsS 0) fullShare (sendR m 0 c) | 9 => owns (c : Thread nD τ) (rsS 1) fullShare (sendR m 1 c)
  | 10 => owns (c : Thread nD τ) (rsS 2) fullShare (sendR m 2 c) | 11 => owns (c : Thread nD τ) (rsS 3) fullShare (sendR m 3 c)
  | 12 => owns (c : Thread nD τ) (rrS 0) fullShare (sendR m 0 (left c)) | 13 => owns (c : Thread nD τ) (rrS 1) fullShare (sendR m 1 (left c))
  | 14 => owns (c : Thread nD τ) (rrS 2) fullShare (sendR m 2 (left c)) | 15 => owns (c : Thread nD τ) (rrS 3) fullShare (sendR m 3 (left c))
  | 16 => owns (c : Thread nD τ) (lsS 0) fullShare (sendL m 0 c) | 17 => owns (c : Thread nD τ) (lsS 1) fullShare (sendL m 1 c)
  | 18 => owns (c : Thread nD τ) (lsS 2) fullShare (sendL m 2 c)
  | 19 => owns (c : Thread nD τ) (lrS 0) fullShare (sendL m 0 (right c)) | 20 => owns (c : Thread nD τ) (lrS 1) fullShare (sendL m 1 (right c))
  | 21 => owns (c : Thread nD τ) (lrS 2) fullShare (sendL m 2 (right c))
  | 22 => owns (c : Thread nD τ) (arS 0) fullShare (agV m c)
  | 23 => owns (c : Thread nD τ) (arS 1) fullShare.left (agV m (left c))
  | 24 => owns (c : Thread nD τ) (arS 2) fullShare.left (agV m (left (left c)))
  | 25 => owns (c : Thread nD τ) (arS 3) fullShare.left (agV m (left (left (left c))))
  | 26 => owns (c : Thread nD τ) (arS 1) fullShare (agV m (left c))
  | 27 => owns (c : Thread nD τ) (arS 2) fullShare (agV m (left (left c)))
  | 28 => owns (c : Thread nD τ) (arS 3) fullShare (agV m (left (left (left c))))
  | 29 => owns (c : Thread nD τ) (arS 4) fullShare (agV m (left (left (left (left c)))))
  | 30 => owns (c : Thread nD τ) (alS 0) fullShare (agV m c)
  | 31 => owns (c : Thread nD τ) (alS 1) fullShare.left (agV m (right c))
  | 32 => owns (c : Thread nD τ) (alS 2) fullShare.left (agV m (right (right c)))
  | 33 => owns (c : Thread nD τ) (alS 1) fullShare (agV m (right c))
  | 34 => owns (c : Thread nD τ) (alS 2) fullShare (agV m (right (right c)))
  | 35 => owns (c : Thread nD τ) (alS 3) fullShare (agV m (right (right (right c))))
  | _ => iprop(emp)

/-- How many rounds a semaphore goes through: three or two for the weights' slots, one for a transfer's. -/
def rounds (s : ℕ) : ℕ := if s < 5 then 0 else if s < 7 then 3 else if s = 7 then 2 else 1

/-- The schedule: a barrier cell has the duties `true`, paid by the device on its right, and `false`, by the one on its
    left, of one unit each; a DMA cell one duty a round. -/
def ringRd : Rounds.Schedule (GSem nD τ sig) Bool 𝕄 where
  duties g r := match g with
    | (⟨_, .tc⟩, .reg s) => if r = 0 then Finset.univ else ∅
    | (⟨_, .tc⟩, .dma s) => if r < rounds s.val then {false} else ∅
    | _ => ∅
  unitless _ := False
  amount g _ _ := match g.2 with
    | .reg _ => 1
    | .dma s => if s.val < 8 then NW else NS
  payload g r d := match g.2 with
    | .reg _ => bif d then slotsR (right g.1.1) else slotsL (left g.1.1)
    | .dma s => dmaPay m g.1.1 s.val r
  amount_pos g _ _ _ := by
    rcases g with ⟨t, s | s⟩
    · exact Nat.one_pos
    · dsimp only
      split
      · exact NW_pos
      · exact NS_pos

omit [FloatOps F] in
instance slotsR_storable (c : Dev nD) : BI.Storable (upEmb : UEmb _ 𝕄) (slotsR (F := F) c) := by unfold slotsR; infer_instance
omit [FloatOps F] in
instance slotsL_storable (c : Dev nD) : BI.Storable (upEmb : UEmb _ 𝕄) (slotsL (F := F) c) := by unfold slotsL; infer_instance
instance ewPay_storable (c : Dev nD) (j : Fin 3) (r : ℕ) : BI.Storable (upEmb : UEmb _ 𝕄) (ewPay m c j r) := by
  unfold ewPay; split <;> infer_instance
instance dmaPay_storable (c : Dev nD) (s r : ℕ) : BI.Storable (upEmb : UEmb _ 𝕄) (dmaPay m c s r) := by
  unfold dmaPay; split <;> infer_instance

instance ringRd_payload_storable (g : GSem nD τ sig) (r : ℕ) (d : Bool) :
    BI.Storable (upEmb : UEmb _ 𝕄) ((ringRd m).payload g r d) := by
  rcases g with ⟨t, s | s⟩
  · cases d
    · exact slotsL_storable _
    · exact slotsR_storable _
  · exact dmaPay_storable m _ _ _

theorem duties_bar (c : Dev nD) : (ringRd m).duties (kcell (c, 0)) 0 = Finset.univ := rfl
theorem duties_dma (c : Dev nD) (s : Fin 36) (r : ℕ) (h : r < rounds s.val) : (ringRd m).duties ((c : Thread nD τ), .dma s) r = {false} := if_pos h
theorem duties_bar_later (c : Dev nD) : ∀ r, 1 ≤ r → (ringRd m).duties (kcell (c, 0)) r = ∅ := fun r hr => if_neg (by omega)
theorem duties_dma_later (c : Dev nD) (s : Fin 36) : ∀ r, rounds s.val ≤ r → (ringRd m).duties ((c : Thread nD τ), .dma s) r = ∅ :=
  fun r hr => if_neg (by omega)

theorem expect_bar (c : Dev nD) : (ringRd m).expect (kcell (c, 0)) 0 = 2 := by
  unfold Schedule.expect Schedule.amountOf
  rw [duties_bar]
  rfl
theorem expect_dma (c : Dev nD) (s : Fin 36) (r : ℕ) (h : r < rounds s.val) :
    (ringRd m).expect ((c : Thread nD τ), .dma s) r = if s.val < 8 then NW else NS := by
  unfold Schedule.expect Schedule.amountOf
  rw [duties_dma m c s r h, Finset.sum_singleton]; rfl

theorem rest_bar (c : Dev nD) : bigSep ((ringRd m).duties (kcell (c, 0)) 0 \ ∅) (fun d => (ringRd m).payload (kcell (c, 0)) 0 d)
    = iprop(slotsL (left c) ∗ slotsR (right c)) := by
  rw [Finset.sdiff_empty, duties_bar, bigSep_univ_eq_bigSepL [false, true] (by decide) (by decide), bigSepL_cons_cons, bigSepL_singleton]
  rfl
theorem rest_dma (c : Dev nD) (s : Fin 36) (r : ℕ) (h : r < rounds s.val) :
    bigSep ((ringRd m).duties ((c : Thread nD τ), .dma s) r \ ∅) (fun d => (ringRd m).payload ((c : Thread nD τ), .dma s) r d) = dmaPay m c s.val r := by
  rw [Finset.sdiff_empty, duties_dma m c s r h, bigSep_singleton]; rfl

end Sched

/-! ## What each device owes; the levels -/

/-- The cells device `c` pays at its neighbours, in the program's order: the two barriers, then the transfers. -/
def debts (c : Dev nD) : List (Dev nD × Fin 32) :=
  [(left c, 0), (right c, 0), (right c, 8), (left c, 15), (right c, 9), (left c, 16), (right c, 10), (left c, 17), (right c, 11),
   (right c, 22), (left c, 29), (right c, 23), (left c, 30), (right c, 24), (left c, 31), (right c, 25)]

def amt (k : Fin 32) : ℕ := if k = 0 then 1 else NS

def owesL : List (Dev nD × Fin 32) → CellTallies nD τ sig Unit
  | [] => 0
  | ck :: l => owesL l + tallyAt (kcell ck) () (amt ck.2)

/-- What is still owed after `n` of them. -/
def O (n : ℕ) (c : Dev nD) : CellTallies nD τ sig Unit := owesL ((debts c).drop n)

def L (g : GSem nD τ sig) : Finset Unit := if g.1.2 = .tc then {()} else ∅
/-- The level of a DMA semaphore: a receive's by its step. -/
def lvD (s : ℕ) : ℕ := if 12 ≤ s ∧ s < 16 then 2 + (s - 12) else if 19 ≤ s ∧ s < 22 then 2 + (s - 19)
  else if 26 ≤ s ∧ s < 30 then 10 + (s - 26) else if 33 ≤ s ∧ s < 36 then 10 + (s - 33) else 0
def lvS : SemLoc sig → ℕ
  | .reg _ => 1
  | .dma s => lvD s.val
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

theorem owesL_pos {l : List (Dev nD × Fin 32)} {g : GSem nD τ sig} {u : Unit} (h : 0 < owesL l g u) : ∃ ck ∈ l, g = kcell ck := by
  induction l with
  | nil => exact absurd h (Nat.lt_irrefl 0)
  | cons ck l ih =>
    unfold owesL at h
    rw [Pi.add_apply, Finsupp.add_apply, tallyAt_apply] at h
    by_cases hg : g = kcell ck
    · exact ⟨ck, List.mem_cons_self .., hg⟩
    · rw [if_neg (fun h' => hg h'.1), Nat.add_zero] at h
      obtain ⟨ck', h1, h2⟩ := ih h
      exact ⟨ck', List.mem_cons_of_mem _ h1, h2⟩

omit [FloatOps F] in
/-- A wait below every level still owed is allowed. -/
theorem mayWait (c : Dev nD) (sm : SemLoc sig) (n : ℕ) (h : ∀ k ∈ ((debts c).drop n).map Prod.snd, lvS sm < lvS (csem k)) :
    (levAts L lv : sProp 𝕄) ⊢ MayWait (c : Thread nD τ) sm () (O n c) := by
  refine MayOwe.of_cut (L := L) (lev := lv) (lvS sm) (fun p hp => by rw [Finset.mem_singleton.mp hp, L_tc]; exact Finset.mem_singleton_self _)
    (fun g u hg => ?_) (fun p hp => by rw [Finset.mem_singleton.mp hp]; exact le_refl _) (fun g u hg => ?_)
  · obtain ⟨ck, -, rfl⟩ := owesL_pos hg
    exact Finset.mem_singleton_self _
  · obtain ⟨ck, h1, rfl⟩ := owesL_pos hg
    exact h ck.2 (List.mem_map_of_mem h1)

end Cert.MoeRing

end
-- ==== Proof.Steps.lean ====
/-
One rule for each kind of step the kernel's body takes — a load, a store, a weight copied in, a signal, the barrier's wait,
a block sent to a neighbour, the wait for one — over buffers owned at stated contents.
-/
module

public import Idealize.ShloMosaic.Lib.Writes
public import proofs.«01_k».proof.Proof.Common

@[expose] public section

noncomputable section

namespace Cert.MoeRing

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

/-- The body's weakest precondition on device `c`. -/
abbrev wpB (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## Loads and stores -/

section LoadStore
variable (c : Dev nD) {α : Type}

/-- A load from a rectangle owned on its own. -/
theorem ld_at {Q : α → sProp 𝕄} {cs : CoreSpace} {s : Shape} {e : EltTy} (M : Memref sig .tc cs s e) (off off' : Fin s.rank → ℕ) (hoff : off = off')
    {size : Fin s.rank → ℕ} {inb : ∀ a, off a + size a ≤ s.size a} (inb' : ∀ a, off' a + size a ≤ s.size a)
    {hl : M.view.LoadsAt (Rect.unit (s := s) off size inb).toLoadRect}
    {k : ((Rect.unit (s := s) off size inb).toLoadRect.shape.Idx → Elt F e) → Prog (TpuEff nD τ sig (Elt F) Λ₀ .tc) α}
    {hr : ∀ a, (Rect.unit (s := s) off' size inb').stride a = 1}
    {q : PosShare TreeShare} {X : (⟨s.rank, size⟩ : Shape).Idx → Elt F e} :
    (owns (c : Thread nD τ) (M.slice (Rect.unit (s := s) off' size inb') hr) q X : sProp 𝕄)
      ⊢ iprop((owns (c : Thread nD τ) (M.slice (Rect.unit (s := s) off' size inb') hr) q X -∗ wpB c (k X) Q)
          -∗ wpB c (.op (.load M (Rect.unit (s := s) off size inb).toLoadRect hl) k) Q) := by
  subst hoff
  unfold owns
  iintro ⟨%f, %hf, H⟩ Hk
  iapply (wp_load_rect 𝒱₀ (c : Thread nD τ) none Set.univ (r := Rect.unit (s := s) off size inb) (f := f) subset_rfl) $$ [H]
  · iexact H
  iintro H
  rw [show (M.access (Rect.unit (s := s) off size inb)).read (Elt F) f = X from hf]
  iapply Hk
  iexists f
  isplitr; · ipureintro; exact hf
  iexact H

/-- A store to a rectangle owned on its own. -/
theorem st_at {Q : α → sProp 𝕄} {cs : CoreSpace} {s : Shape} {e : EltTy} (M : Memref sig .tc cs s e) (off off' : Fin s.rank → ℕ) (hoff : off = off')
    {size : Fin s.rank → ℕ} {inb : ∀ a, off a + size a ≤ s.size a} (inb' : ∀ a, off' a + size a ≤ s.size a)
    {w : (Rect.unit (s := s) off size inb).shape.Idx → Elt F e} (w' : (⟨s.rank, size⟩ : Shape).Idx → Elt F e) (hw : w = w')
    {hx : (M.access (Rect.unit (s := s) off size inb)).Stores Finset.univ} {hm}
    {k : PUnit → Prog (TpuEff nD τ sig (Elt F) Λ₀ .tc) α}
    {hr : ∀ a, (Rect.unit (s := s) off' size inb').stride a = 1}
    {X : (⟨s.rank, size⟩ : Shape).Idx → Elt F e} :
    (owns (c : Thread nD τ) (M.slice (Rect.unit (s := s) off' size inb') hr) fullShare X : sProp 𝕄)
      ⊢ iprop((owns (c : Thread nD τ) (M.slice (Rect.unit (s := s) off' size inb') hr) fullShare w' -∗ wpB c (k ⟨⟩) Q)
          -∗ wpB c (.op (.store M (Rect.unit (s := s) off size inb) w Finset.univ hx hm) k) Q) := by
  subst hoff hw
  unfold owns
  iintro ⟨%f, %hf, H⟩ Hk
  iapply (wp_store 𝒱₀ (c : Thread nD τ) none Set.univ (m := M) (r := Rect.unit (s := s) off size inb) (f := f) (S := (M.access (Rect.unit (s := s) off size inb)).set) (View.setOn_subset_set _ _)) $$ [H]
  · iexact H
  iintro H
  iapply Hk
  iexists ((M.access (Rect.unit (s := s) off size inb)).write (Elt F) f w Finset.univ)
  isplitr; · ipureintro; exact View.read_write_univ (v := M.access (Rect.unit (s := s) off size inb)) f w
  iexact H

/-- A load of a part of a buffer owned whole. -/
theorem ld_sub {Q : α → sProp 𝕄} {cs : CoreSpace} {s : Shape} {e : EltTy} (M : Memref sig .tc cs s e) (off off' : Fin s.rank → ℕ) (hoff : off = off')
    {size : Fin s.rank → ℕ} {inb : ∀ a, off a + size a ≤ s.size a} (inb' : ∀ a, off' a + size a ≤ s.size a)
    {hl : M.view.LoadsAt (Rect.unit (s := s) off size inb).toLoadRect}
    {k : ((Rect.unit (s := s) off size inb).toLoadRect.shape.Idx → Elt F e) → Prog (TpuEff nD τ sig (Elt F) Λ₀ .tc) α}
    {q : PosShare TreeShare} {X : s.Idx → Elt F e} :
    (owns (c : Thread nD τ) M q X : sProp 𝕄)
      ⊢ iprop((owns (c : Thread nD τ) M q X -∗ wpB c (k (fun i => X ((Rect.unit (s := s) off' size inb').emb i))) Q)
          -∗ wpB c (.op (.load M (Rect.unit (s := s) off size inb).toLoadRect hl) k) Q) := by
  subst hoff
  unfold owns
  iintro ⟨%f, %hf, H⟩ Hk
  iapply (wp_load_rect 𝒱₀ (c : Thread nD τ) none Set.univ (r := Rect.unit (s := s) off size inb) (f := f) (S := M.view.set)
    (by rw [View.set_slice]; exact View.setOn_subset_set _ _)) $$ [H]
  · iexact H
  iintro H
  rw [show (M.access (Rect.unit (s := s) off size inb)).read (Elt F) f = fun i => X ((Rect.unit (s := s) off size inb).emb i) from by
    rw [← hf]; rfl]
  iapply Hk
  iexists f
  isplitr; · ipureintro; exact hf
  iexact H

theorem emb_zero {s : Shape} {off : Fin s.rank → ℕ} (hoff : off = fun _ => 0) (inb : ∀ a, off a + s.size a ≤ s.size a)
    (i : (Rect.unit (s := s) off s.size inb).shape.Idx) : (Rect.unit (s := s) off s.size inb).emb i = i := by
  subst hoff
  funext a
  exact Fin.ext (by simp [Rect.emb, Rect.unit])

/-- A load of all of a buffer owned whole. -/
theorem ld_all {Q : α → sProp 𝕄} {cs : CoreSpace} {s : Shape} {e : EltTy} (M : Memref sig .tc cs s e) (off : Fin s.rank → ℕ) (hoff : off = fun _ => 0)
    {inb : ∀ a, off a + s.size a ≤ s.size a}
    {hl : M.view.LoadsAt (Rect.unit (s := s) off s.size inb).toLoadRect}
    {k : ((Rect.unit (s := s) off s.size inb).toLoadRect.shape.Idx → Elt F e) → Prog (TpuEff nD τ sig (Elt F) Λ₀ .tc) α}
    {q : PosShare TreeShare} {X : s.Idx → Elt F e} :
    (owns (c : Thread nD τ) M q X : sProp 𝕄)
      ⊢ iprop((owns (c : Thread nD τ) M q X -∗ wpB c (k X) Q)
          -∗ wpB c (.op (.load M (Rect.unit (s := s) off s.size inb).toLoadRect hl) k) Q) := by
  have h := ld_sub (F := F) (Q := Q) c M off off rfl inb (hl := hl) (k := k) (q := q) (X := X)
  have e : (fun i => X ((Rect.unit (s := s) off s.size inb).emb i)) = X := funext fun i => congrArg X (emb_zero hoff inb i)
  rwa [e] at h

/-- A store over all of a buffer owned whole. -/
theorem st_all {Q : α → sProp 𝕄} {cs : CoreSpace} {s : Shape} {e : EltTy} (M : Memref sig .tc cs s e) (off : Fin s.rank → ℕ) (hoff : off = fun _ => 0)
    {inb : ∀ a, off a + s.size a ≤ s.size a}
    {w : (Rect.unit (s := s) off s.size inb).shape.Idx → Elt F e} (w' : s.Idx → Elt F e) (hw : w = w')
    {hx : (M.access (Rect.unit (s := s) off s.size inb)).Stores Finset.univ} {hm}
    {k : PUnit → Prog (TpuEff nD τ sig (Elt F) Λ₀ .tc) α} {X : s.Idx → Elt F e} :
    (owns (c : Thread nD τ) M fullShare X : sProp 𝕄)
      ⊢ iprop((owns (c : Thread nD τ) M fullShare w' -∗ wpB c (k ⟨⟩) Q)
          -∗ wpB c (.op (.store M (Rect.unit (s := s) off s.size inb) w Finset.univ hx hm) k) Q) := by
  subst hw
  unfold owns
  iintro ⟨%f, %hf, H⟩ Hk
  iapply (wp_store 𝒱₀ (c : Thread nD τ) none Set.univ (m := M) (r := Rect.unit (s := s) off s.size inb) (f := f) (S := M.view.set)
    ((View.setOn_subset_set _ _).trans (by rw [View.set_slice]; exact View.setOn_subset_set _ _))) $$ [H]
  · iexact H
  iintro H
  iapply Hk
  iexists ((M.access (Rect.unit (s := s) off s.size inb)).write (Elt F) f w Finset.univ)
  isplitr; rotate_left
  · iexact H
  ipureintro
  funext i
  have e : M.view.emb i = (M.access (Rect.unit (s := s) off s.size inb)).emb i := congrArg M.view.emb (emb_zero hoff inb i).symm
  have h := congrFun (View.read_write_univ (Val := Elt F) (v := M.access (Rect.unit (s := s) off s.size inb)) (f := f) (w := w)) i
  refine Eq.trans ?_ h
  rw [View.read_apply, View.read_apply]
  simp only [e]

end LoadStore

/-! ## The protocol's ghost state -/

section Proto
variable (m : (ℓ : Loc nD τ sig) → Buf (Elt F) ℓ) (K : Dev nD × Fin 32 → ℕ)

/-- Every cell's invariant and first round, and the levels: what every step may use and none uses up. -/
def env : sProp 𝕄 :=
  iprop((bigSep Finset.univ fun ck => cellInv ER (ringRd m) (K ck) (kcell ck)) ∗ (bigSep Finset.univ fun ck : Dev nD × Fin 32 => reached ER (kcell ck) 0) ∗ levAts L lv)
instance env_persistent : BI.Persistent (env m K) := by unfold env; infer_instance

theorem env_inv (ck : Dev nD × Fin 32) : env m K ⊢ cellInv ER (ringRd m) (K ck) (kcell ck) := by
  unfold env; exact sep_elim_left.trans (bigSep_elim (Finset.mem_univ ck))
theorem env_reached (ck : Dev nD × Fin 32) : env m K ⊢ reached ER (kcell ck) 0 := by
  unfold env; exact (sep_elim_right.trans sep_elim_left).trans (bigSep_elim (Finset.mem_univ ck))
theorem env_lev : env m K ⊢ levAts L lv := by unfold env; exact sep_elim_right.trans sep_elim_right

theorem duties_k (c : Dev nD) (k : Fin 32) (hk : k ≠ 0) (r : ℕ) (h : r < rounds (k.val + 4)) : (ringRd m).duties (kcell (c, k)) r = {false} := by
  obtain ⟨_ | n, hn⟩ := k
  · exact absurd rfl hk
  · exact if_pos h
theorem duties_k_later (c : Dev nD) (k : Fin 32) (hk : k ≠ 0) : ∀ r, rounds (k.val + 4) ≤ r → (ringRd m).duties (kcell (c, k)) r = ∅ := by
  obtain ⟨_ | n, hn⟩ := k
  · exact absurd rfl hk
  · exact fun r hr => if_neg (by exact Nat.not_lt.mpr hr)
theorem amount_k (c : Dev nD) (k : Fin 32) (hk : k ≠ 0) (r : ℕ) : (ringRd m).amount (kcell (c, k)) r false = if k.val < 4 then NW else NS := by
  obtain ⟨_ | n, hn⟩ := k
  · exact absurd rfl hk
  · show (if n + 5 < 8 then NW else NS) = if n + 1 < 4 then NW else NS
    simp only [show n + 5 < 8 ↔ n + 1 < 4 from by omega]
theorem payload_k (c : Dev nD) (k : Fin 32) (hk : k ≠ 0) (r : ℕ) : (ringRd m).payload (kcell (c, k)) r false = dmaPay m c (k.val + 4) r := by
  obtain ⟨_ | n, hn⟩ := k
  · exact absurd rfl hk
  · rfl
theorem expect_k (c : Dev nD) (k : Fin 32) (hk : k ≠ 0) (r : ℕ) (h : r < rounds (k.val + 4)) :
    (ringRd m).expect (kcell (c, k)) r = if k.val < 4 then NW else NS := by
  unfold Schedule.expect Schedule.amountOf
  rw [duties_k m c k hk r h, Finset.sum_singleton, amount_k m c k hk]
theorem rest_k (c : Dev nD) (k : Fin 32) (hk : k ≠ 0) (r : ℕ) (h : r < rounds (k.val + 4)) :
    bigSep ((ringRd m).duties (kcell (c, k)) r \ ∅) (fun d => (ringRd m).payload (kcell (c, k)) r d) = dmaPay m c (k.val + 4) r := by
  rw [Finset.sdiff_empty, duties_k m c k hk r h, bigSep_singleton, payload_k m c k hk]

/-- What is owed after the first `n` debts, at some record of the waits done. -/
def owesW (c : Dev nD) (n : ℕ) : sProp 𝕄 := iprop(∃ W, owes (c : Thread nD τ) (O n c) W)

/-- A semaphore's counter at rest, its protocol over; a transfer's completion still to be waited for; the right to make one. -/
abbrev done (c : Dev nD) (k : Fin 32) : sProp 𝕄 := semVal (kcell (c, k)) 0
def pending (c : Dev nD) (k : Fin 32) : sProp 𝕄 := iprop(cred (tallyAt (kcell (c, k)) () NS) ∗ atPos ER (kcell (c, k)) 0 ∅ 0)
def idle (c : Dev nD) (k : Fin 32) : sProp 𝕄 := atPos ER (kcell (c, k)) 0 ∅ 0
abbrev tok (c : Dev nD) (k : Fin 32) (r : ℕ) (b : Bool) : sProp 𝕄 := dutyTok ER (kcell (c, k)) r b

/-- The semaphore of the weights' slot `j`. -/
abbrev ewK (j : Fin 3) : Fin 32 := ⟨j.val + 1, by omega⟩
/-- The weights' slot `j` before its `r`-th copy, and during it. -/
def ewIdle (c : Dev nD) (j : Fin 3) (r : ℕ) : sProp 𝕄 :=
  iprop(atPos ER (kcell (c, (ewK j))) r ∅ 0 ∗ reached ER (kcell (c, (ewK j))) r)
def ewBusy (c : Dev nD) (j : Fin 3) (r : ℕ) : sProp 𝕄 :=
  iprop(atPos ER (kcell (c, (ewK j))) r ∅ 0 ∗ cred (tallyAt (kcell (c, (ewK j))) () NW))

def debtsK : List (Fin 32) := [0, 0, 8, 15, 9, 16, 10, 17, 11, 22, 29, 23, 30, 24, 31, 25]
theorem debts_map (c : Dev nD) : (debts c).map Prod.snd = debtsK := rfl
/-- Everything still owed after `n` debts lies above `sm`. -/
abbrev below (sm : SemLoc sig) (n : ℕ) : Prop := ∀ k ∈ debtsK.drop n, lvS sm < lvS (csem k)
theorem mayWait' (c : Dev nD) (sm : SemLoc sig) (n : ℕ) (h : below sm n) : env m K ⊢ MayWait (c : Thread nD τ) sm () (O n c) :=
  (env_lev m K).trans (mayWait c sm n (by rw [List.map_drop, debts_map]; exact h))

variable (c : Dev nD) {α : Type}

/-- A block read through the same reshape it is written through. -/
theorem read_land {κ κ' : Kind} {sp sp' : Space} {s s' : Shape} {e : EltTy} (vs : View sig κ sp s e) (vd : View sig κ' sp' s e)
    (h h' : s'.numel = s.numel) (fs : vs.ty.Contents (Elt F)) (fd : vd.ty.Contents (Elt F)) :
    vd.read (Elt F) ((vd.reshape s' h).write (Elt F) fd ((vs.reshape s' h').read (Elt F) fs) Finset.univ) = vs.read (Elt F) fs := by
  rw [View.write_reshape_univ, View.read_write_univ]
  funext x
  rw [View.read_apply, View.read_apply, View.emb_reshape]
  simp

theorem dmaPay_ew (j : Fin 3) (r : ℕ) (n : Fin 8) (hn : n.val = j.val + 3 * r) :
    dmaPay m c ((ewK j).val + 4) r
      = iprop(owns (c : Thread nD τ) (ewS j) fullShare (wV m c n) ∗ owns (c : Thread nD τ) (weS n) fullShare (wV m c n)) := by
  obtain ⟨n, h⟩ := n
  dsimp only at hn
  subst hn
  have hp : dmaPay m c ((ewK j).val + 4) r = ewPay m c j r := by
    match j with
    | 0 => rfl
    | 1 => rfl
    | 2 => rfl
  rw [hp]
  unfold ewPay
  rw [dif_pos h]

/-- A weight copied in. -/
theorem cp {Q : α → sProp 𝕄} (j : Fin 3) (n : Fin 8) (r : ℕ) (hn : n.val = j.val + 3 * r) {sem : SemLoc sig} (hs : csem (ewK j) = sem)
    {hsrc hdst hsem} {k : PUnit → Prog (TpuEff nD τ sig (Elt F) Λ₀ .tc) α} :
    iprop(env m K ∗ owns (c : Thread nD τ) (weS n) fullShare (wV m c n) ∗ anyOwns c (ewS j) ∗ tok c (ewK j) r false ∗ ewIdle c j r)
      ⊢ iprop((ewBusy c j r -∗ wpB c (k ⟨⟩) Q)
          -∗ wpB c (.op (.enqueueDma ((weS n).squeeze S1024x1024 squeezes_S1x1024x1024_S1024x1024)
              (.here ((ewS j).squeeze S1024x1024 squeezes_S1x1024x1024_S1024x1024)) sem hsrc hdst hsem) k) Q) := by
  subst hs
  have hk0 : (ewK j) ≠ 0 := fun h => absurd (congrArg Fin.val h) (Nat.succ_ne_zero _)
  have hr : r < rounds ((ewK j).val + 4) := by have := n.isLt; have := j.isLt; unfold rounds; dsimp only [ewK]; split_ifs <;> omega
  unfold ewIdle ewBusy anyOwns owns
  iintro ⟨#He, ⟨%fs, %hfs, Hs⟩, ⟨%X, %fd, %hfd, Hd⟩, Ht, Hat, #Hr⟩ Hk
  iapply (Rounds.wp_copy_pointsTo 𝒱₀ ER (ringRd m) (c : Thread nD τ) none (κ := K (c, (ewK j))) (r := r) (d := false)
      (fs := fs) (fd := fd) (q := fullShare)
      (by rw [duties_k m c _ hk0 r hr]; exact Finset.mem_singleton_self _) () NW rfl
      (by rw [amount_k m c _ hk0, if_pos (by dsimp only; omega)])
      (by
        rw [payload_k m c _ hk0]
        rw [dmaPay_ew m c j r n hn, View.set_reshape, View.set_reshape]
        unfold owns
        iintro ⟨Hd, Hs⟩
        isplitl [Hd]
        · iexists _
          isplitr; rotate_left; · iexact Hd
          ipureintro
          exact (read_land (F := F) _ _ _ _ _ _).trans hfs
        · iexists fs
          isplitr; · ipureintro; exact hfs
          iexact Hs)) $$ [Hs Hd Ht]
  · isplitr; · iapply (env_inv m K (c, (ewK j))) $$ He
    rw [View.set_reshape, View.set_reshape]
    isplitl [Hs]; · iexact Hs
    isplitl [Hd]; · iexact Hd
    isplitl [Ht]; · iexact Ht
    iexact Hr
  iintro Hc
  iapply Hk
  isplitl [Hat]; · iexact Hat
  iexact Hc

/-- The wait for a weight. -/
theorem wtE {Q : α → sProp 𝕄} (j : Fin 3) (n : Fin 8) (r : ℕ) (hn : n.val = j.val + 3 * r) (d : ℕ) {sem : DmaSem sig} (hs : csem (ewK j) = .dma sem)
    (hb : below (csem (ewK j)) d) {sp' : Space} {s' : Shape} {e' : EltTy} {src : Memref sig .tc sp' s' e'} {hsrc hdst}
    (hN : ((ewS j).squeeze S1024x1024 squeezes_S1x1024x1024_S1024x1024).view.dmaCredit = NW) {k : PUnit → Prog (TpuEff nD τ sig (Elt F) Λ₀ .tc) α} :
    iprop(env m K ∗ ewBusy c j r ∗ owesW c d)
      ⊢ iprop((iprop(ewIdle c j (r + 1) ∗ owns (c : Thread nD τ) (ewS j) fullShare (wV m c n) ∗ owns (c : Thread nD τ) (weS n) fullShare (wV m c n) ∗ owesW c d) -∗ wpB c (k ⟨⟩) Q)
          -∗ wpB c (.op (.waitDma2 sem src ((ewS j).squeeze S1024x1024 squeezes_S1x1024x1024_S1024x1024) hsrc hdst) k) Q) := by
  have hk0 : ewK j ≠ 0 := fun h => absurd (congrArg Fin.val h) (Nat.succ_ne_zero _)
  have hr : r < rounds ((ewK j).val + 4) := by have := n.isLt; have := j.isLt; unfold rounds; dsimp only [ewK]; split_ifs <;> omega
  unfold ewBusy owesW
  iintro ⟨#He, ⟨Hat, Hc⟩, ⟨%W, HO⟩⟩ Hk
  unfold ewIdle
  have hcell : kcell (c, ewK j) = ((c : Thread nD τ), .dma sem) := Prod.ext rfl hs
  iapply (Rounds.wp_wait_rest_token 𝒱₀ ER (ringRd m) (c : Thread nD τ) none (κ := K (c, ewK j)) (sm := .dma sem)
      (wpE_waitDma2_eq 𝒱₀ (c : Thread nD τ) none Set.univ) (Set.mem_univ _) () (O := O d c) (W := W) (R := r) (m := 0) (T := ∅)
      (by rw [Nat.zero_add, ← hcell, expect_k m c _ hk0 r hr, if_pos (by dsimp only [ewK]; omega), hN])) $$ [Hc HO Hat]
  · rw [← hcell, ← hs, hN]
    isplitr; · iapply (env_inv m K (c, ewK j)) $$ He
    isplitl [Hc]; · iexact Hc
    isplitl [HO]; · iexact HO
    isplitr; · iapply (mayWait' m K c _ d hb) $$ He
    iexact Hat
  rw [← hcell]
  iintro ⟨HO, Hat, #Hr, Hpay⟩
  ihave Hp := (Entails.of_eq ((rest_k m c (ewK j) hk0 r hr).trans (dmaPay_ew m c j r n hn))) $$ Hpay
  icases Hp with ⟨Hd, Hs⟩
  iapply Hk
  isplitl [Hat]
  · isplitl [Hat]; · iexact Hat
    iexact Hr
  isplitl [Hd]; · iexact Hd
  isplitl [Hs]; · iexact Hs
  iexists _; iexact HO

/-- The first signal: to the device on the left, whose sends this device's slots for what comes from the left are. -/
theorem sigL {Q : α → sProp 𝕄} (n : Dev nD) (hn : n = left c) {k : PUnit → Prog (TpuEff nD τ sig (Elt F) Λ₀ .tc) α} :
    iprop(env m K ∗ slotsR c ∗ tok (left c) 0 0 true ∗ owesW c 0)
      ⊢ iprop((owesW c 1 -∗ wpB c (k ⟨⟩) Q) -∗ wpB c (.op (.semSignal (n : Thread nD τ) barS 1) k) Q) := by
  subst hn
  unfold owesW
  iintro ⟨#He, Hs, Ht, ⟨%W, HO⟩⟩ Hk
  iapply (Rounds.wp_signal 𝒱₀ ER (ringRd m) (c : Thread nD τ) none (dst := (left c : Thread nD τ)) (κ := K (left c, 0)) (r := 0)
      (d := true) (by rw [show (((left c : Dev nD) : Thread nD τ), SemLoc.reg barS) = kcell (left c, 0) from rfl, duties_bar]; exact Finset.mem_univ _) rfl () (O 1 c) rfl) $$ [HO Ht Hs]
  · isplitr; · iapply (env_inv m K (left c, 0)) $$ He
    isplitl [HO]; · iexact HO
    isplitl [Ht]; · iexact Ht
    isplitl [Hs]
    · rw [show (ringRd m).payload (((left c : Dev nD) : Thread nD τ), SemLoc.reg barS) 0 true = slotsR (right (left c)) from rfl, right_left]
      iexact Hs
    iapply (env_reached m K (left c, 0)) $$ He
  iintro HO
  iapply Hk
  iexists _; iexact HO

theorem sigR {Q : α → sProp 𝕄} (n : Dev nD) (hn : n = right c) {k : PUnit → Prog (TpuEff nD τ sig (Elt F) Λ₀ .tc) α} :
    iprop(env m K ∗ slotsL c ∗ tok (right c) 0 0 false ∗ owesW c 1)
      ⊢ iprop((owesW c 2 -∗ wpB c (k ⟨⟩) Q) -∗ wpB c (.op (.semSignal (n : Thread nD τ) barS 1) k) Q) := by
  subst hn
  unfold owesW
  iintro ⟨#He, Hs, Ht, ⟨%W, HO⟩⟩ Hk
  iapply (Rounds.wp_signal 𝒱₀ ER (ringRd m) (c : Thread nD τ) none (dst := (right c : Thread nD τ)) (κ := K (right c, 0)) (r := 0)
      (d := false) (by rw [show (((right c : Dev nD) : Thread nD τ), SemLoc.reg barS) = kcell (right c, 0) from rfl, duties_bar]; exact Finset.mem_univ _) rfl () (O 2 c) rfl) $$ [HO Ht Hs]
  · isplitr; · iapply (env_inv m K (right c, 0)) $$ He
    isplitl [HO]; · iexact HO
    isplitl [Ht]; · iexact Ht
    isplitl [Hs]
    · rw [show (ringRd m).payload (((right c : Dev nD) : Thread nD τ), SemLoc.reg barS) 0 false = slotsL (left (right c)) from rfl, left_right]
      iexact Hs
    iapply (env_reached m K (right c, 0)) $$ He
  iintro HO
  iapply Hk
  iexists _; iexact HO

/-- The wait for both neighbours: their slots for what this device sends are its to write. -/
theorem wtBar {Q : α → sProp 𝕄} {k : PUnit → Prog (TpuEff nD τ sig (Elt F) Λ₀ .tc) α} :
    iprop(env m K ∗ cred (tallyAt (kcell (c, 0)) () 2) ∗ idle c 0 ∗ owesW c 2)
      ⊢ iprop((iprop(slotsR (right c) ∗ slotsL (left c) ∗ done c 0 ∗ owesW c 2) -∗ wpB c (k ⟨⟩) Q) -∗ wpB c (.op (.semWait barS 2) k) Q) := by
  unfold owesW idle
  iintro ⟨#He, Hc, Hat, ⟨%W, HO⟩⟩ Hk
  iapply (Rounds.wp_wait_rest_token 𝒱₀ ER (ringRd m) (c : Thread nD τ) none (κ := K (c, 0)) (sm := .reg barS)
      (wpE_semWait_eq 𝒱₀ (c : Thread nD τ) none Set.univ) (Set.mem_univ _) () (O := O 2 c) (W := W) (R := 0) (m := 0) (T := ∅)
      (by rw [Nat.zero_add, show ((c : Thread nD τ), SemLoc.reg barS) = kcell (c, 0) from rfl, expect_bar])) $$ [Hc HO Hat]
  · isplitr; · iapply (env_inv m K (c, 0)) $$ He
    isplitl [Hc]; · iexact Hc
    isplitl [HO]; · iexact HO
    isplitr; · iapply (mayWait' m K c (.reg barS) 2 (by decide)) $$ He
    iexact Hat
  iintro ⟨HO, Hat, -, Hpay⟩
  ihave Hp := (Entails.of_eq (rest_bar m c)) $$ Hpay
  icases Hp with ⟨HL, HR⟩
  imod (Rounds.cell_close ER (ringRd m) (Set.mem_univ (K (c, 0))) (fun h => h) (R := 0 + 1) (duties_bar_later m c)) $$ [Hat] with Hz
  · isplitr; · iapply (env_inv m K (c, 0)) $$ He
    iexact Hat
  iapply Hk
  isplitl [HR]; · iexact HR
  isplitl [HL]; · iexact HL
  isplitl [Hz]; · iexact Hz
  iexists _; iexact HO

/-- A block sent to a neighbour `n`: the send semaphore is cell `ks` here, the receive semaphore cell `kr` there; it is the
    debt after the first `d`. -/
theorem snd {Q : α → sProp 𝕄} (n n' : Dev nD) (hn : n = n') (ks kr : Fin 32) (d : ℕ) {Ms Md : Memref sig .tc .vmem S1x256x1024 .bf16}
    {sS sem : SemLoc sig} (hS : csem ks = sS) (hR : csem kr = sem)
    (hks : 4 ≤ ks.val) (hkr : 4 ≤ kr.val) {q : PosShare TreeShare} {X : FVec F S1x256x1024 .bf16}
    (hps : dmaPay m c (ks.val + 4) 0 = owns (c : Thread nD τ) Ms q X) (hpr : dmaPay m n' (kr.val + 4) 0 = owns (n' : Thread nD τ) Md fullShare X)
    (hO : O d c = O (d + 1) c + tallyAt (kcell (n', kr)) () NS) {hsc hsrc hdst hsem}
    (hN : (Md.squeeze S256x1024 squeezes_S1x256x1024_S256x1024).view.amount sem = NS)
    {k : PUnit → Prog (TpuEff nD τ sig (Elt F) Λ₀ .tc) α} :
    iprop(env m K ∗ owns (c : Thread nD τ) Ms q X ∗ anyOwns n' Md ∗ tok c ks 0 false ∗ tok n' kr 0 false ∗ idle c ks ∗ owesW c d)
      ⊢ iprop((iprop(pending c ks ∗ owesW c (d + 1)) -∗ wpB c (k ⟨⟩) Q)
          -∗ wpB c (.op (.enqueueDma (Ms.squeeze S256x1024 squeezes_S1x256x1024_S256x1024)
              (.remote (n : Thread nD τ) (Md.squeeze S256x1024 squeezes_S1x256x1024_S256x1024) sS hsc) sem hsrc hdst hsem) k) Q) := by
  subst hn hS hR
  have hs0 : ks ≠ 0 := fun h => by rw [h] at hks; exact absurd hks (by decide)
  have hr0 : kr ≠ 0 := fun h => by rw [h] at hkr; exact absurd hkr (by decide)
  have hrs : 0 < rounds (ks.val + 4) := by unfold rounds; split_ifs <;> omega
  have hrr : 0 < rounds (kr.val + 4) := by unfold rounds; split_ifs <;> omega
  unfold owesW anyOwns idle pending
  unfold owns at *
  iintro ⟨#He, ⟨%fs, %hfs, Hs⟩, ⟨%Z, %fd, %hfd, Hd⟩, Hts, Htr, Hat, ⟨%W, HO⟩⟩ Hk
  iapply (Rounds.wp_send_pointsTo 𝒱₀ ER (ringRd m) (c : Thread nD τ) none (κ₁ := K (c, ks)) (κ₂ := K (n, kr))
      (r₁ := 0) (r₂ := 0) (d₁ := false) (d₂ := false) (fs := fs) (fd := fd) (q := q) (W := W)
      (by rw [duties_k m c ks hs0 0 hrs]; exact Finset.mem_singleton_self _) (by rw [duties_k m n kr hr0 0 hrr]; exact Finset.mem_singleton_self _)
      () () NS hN (by rw [amount_k m c ks hs0, if_neg (by omega)]) (by rw [amount_k m n kr hr0, if_neg (by omega)]) (O (d + 1) c) hO
      (by
        rw [payload_k m c ks hs0, hps, View.set_reshape]
        iintro Hs
        iexists fs
        isplitr; · ipureintro; exact hfs
        iexact Hs)
      (by
        rw [payload_k m n kr hr0, hpr, View.set_reshape]
        iintro Hd
        iexists _
        isplitr; rotate_left; · iexact Hd
        ipureintro
        exact (read_land (F := F) _ _ _ _ _ _).trans hfs)) $$ [Hs Hd HO Hts Htr]
  · isplitr; · iapply (env_inv m K (c, ks)) $$ He
    isplitr; · iapply (env_inv m K (n, kr)) $$ He
    rw [View.set_reshape, View.set_reshape]
    isplitl [Hs]; · iexact Hs
    isplitl [Hd]; · iexact Hd
    isplitl [HO]; · iexact HO
    isplitl [Hts]; · iexact Hts
    isplitr; · iapply (env_reached m K (c, ks)) $$ He
    isplitl [Htr]; · iexact Htr
    iapply (env_reached m K (n, kr)) $$ He
  iintro ⟨Hc, HO⟩
  iapply Hk
  isplitl [Hat Hc]
  · isplitl [Hc]; · iexact Hc
    iexact Hat
  iexists W; iexact HO

/-- The wait for a transfer, its own send or a neighbour's: what it hands over, and the semaphore at rest. -/
theorem wt {Q : α → sProp 𝕄} (k : Fin 32) (d : ℕ) (Md : Memref sig .tc .vmem S1x256x1024 .bf16) {P : sProp 𝕄} (hk : 4 ≤ k.val) {sem : DmaSem sig} (hs : csem k = .dma sem)
    (hP : dmaPay m c (k.val + 4) 0 = P) (hb : below (csem k) d)
    {sp' : Space} {s' : Shape} {e' : EltTy} {src : Memref sig .tc sp' s' e'} {hsrc hdst}
    (hN : (Md.squeeze S256x1024 squeezes_S1x256x1024_S256x1024).view.dmaCredit = NS) {kk : PUnit → Prog (TpuEff nD τ sig (Elt F) Λ₀ .tc) α} :
    iprop(env m K ∗ pending c k ∗ owesW c d)
      ⊢ iprop((iprop(P ∗ done c k ∗ owesW c d) -∗ wpB c (kk ⟨⟩) Q)
          -∗ wpB c (.op (.waitDma2 sem src (Md.squeeze S256x1024 squeezes_S1x256x1024_S256x1024) hsrc hdst) kk) Q) := by
  subst hP
  have hk0 : k ≠ 0 := fun h => by rw [h] at hk; exact absurd hk (by decide)
  have hr : 0 < rounds (k.val + 4) := by unfold rounds; split_ifs <;> omega
  have hr1 : rounds (k.val + 4) ≤ 0 + 1 := by unfold rounds; split_ifs <;> omega
  have hcell : kcell (c, k) = ((c : Thread nD τ), .dma sem) := Prod.ext rfl hs
  unfold pending owesW
  iintro ⟨#He, ⟨Hc, Hat⟩, ⟨%W, HO⟩⟩ Hk
  iapply (Rounds.wp_wait_rest_token 𝒱₀ ER (ringRd m) (c : Thread nD τ) none (κ := K (c, k)) (sm := .dma sem)
      (wpE_waitDma2_eq 𝒱₀ (c : Thread nD τ) none Set.univ) (Set.mem_univ _) () (O := O d c) (W := W) (R := 0) (m := 0) (T := ∅)
      (by rw [Nat.zero_add, ← hcell, expect_k m c _ hk0 0 hr, if_neg (by omega), hN])) $$ [Hc HO Hat]
  · rw [← hcell, ← hs, hN]
    isplitr; · iapply (env_inv m K (c, k)) $$ He
    isplitl [Hc]; · iexact Hc
    isplitl [HO]; · iexact HO
    isplitr; · iapply (mayWait' m K c _ d hb) $$ He
    iexact Hat
  rw [← hcell]
  iintro ⟨HO, Hat, -, Hpay⟩
  ihave Hp := (Entails.of_eq (rest_k m c k hk0 0 hr)) $$ Hpay
  imod (Rounds.cell_close ER (ringRd m) (Set.mem_univ (K (c, k))) (fun h => h) (R := 0 + 1) (fun r h => duties_k_later m c k hk0 r (hr1.trans h))) $$ [Hat] with Hz
  · isplitr; · iapply (env_inv m K (c, k)) $$ He
    iexact Hat
  iapply Hk
  isplitl [Hp]; · iexact Hp
  isplitl [Hz]; · iexact Hz
  iexists _; iexact HO

/-- A weights' slot's semaphore at rest after its last copy. -/
theorem ewClose (j : Fin 3) (r : ℕ) (h : rounds ((ewK j).val + 4) ≤ r) : iprop(env m K ∗ ewIdle c j r) ⊢ iprop(|={Set.univ}=> done c (ewK j)) := by
  have hk0 : ewK j ≠ 0 := fun h => absurd (congrArg Fin.val h) (Nat.succ_ne_zero _)
  unfold ewIdle
  iintro ⟨#He, ⟨Hat, -⟩⟩
  iapply (Rounds.cell_close ER (ringRd m) (Set.mem_univ (K (c, ewK j))) (fun h => h) (R := r) (fun r' h' => duties_k_later m c (ewK j) hk0 r' (h.trans h')))
  isplitr; · iapply (env_inv m K (c, ewK j)) $$ He
  iexact Hat

end Proto

end Cert.MoeRing

end
-- ==== Proof.Rows.lean ====
/-
The row blocks the body loads and stores, and the names under which the program's repeated operations reappear.
-/
module

public import Idealize.ShloMosaic.Lib.MemrefSat
public import proofs.«01_k».proof.Proof.Steps

@[expose] public section

noncomputable section

namespace Cert.MoeRing

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

theorem z2 : (![0, 0] : Fin 2 → ℕ) = fun _ => 0 := by funext a; fin_cases a <;> rfl

section Offsets
variable (c : Dev nD)
theorem off7_0 : k0_off7 c 1#32 = ![256 * (rowL c 2).val, 0] := by revert c; decide +kernel
theorem off7_1 : k0_off7 c 2#32 = ![256 * (rowL c 1).val, 0] := by revert c; decide +kernel
theorem off7_2 : k0_off7 c 3#32 = ![256 * (rowL c 0).val, 0] := by revert c; decide +kernel
theorem off7_3 : k0_off7 c 4#32 = ![256 * (rowR c 0).val, 0] := by revert c; decide +kernel
theorem off8_0 : k0_off8 c 1#32 = ![256 * (rowR c 3).val, 0] := by revert c; decide +kernel
theorem off8_1 : k0_off8 c 2#32 = ![256 * (rowR c 2).val, 0] := by revert c; decide +kernel
theorem off8_2 : k0_off8 c 3#32 = ![256 * (rowR c 1).val, 0] := by revert c; decide +kernel
end Offsets

section Names
variable (g : FVec F S256x512 .bf16) (y : FVec F S512x1024 .bf16)
theorem pay25_eq : k0_pay25 g y = k0_pay23 g y := rfl
theorem pay28_eq : k0_pay28 g y = k0_pay23 g y := rfl
theorem pay29_eq : k0_pay29 g y = k0_pay23 g y := rfl
theorem pay34_eq : k0_pay34 g y = k0_pay23 g y := rfl
theorem pay35_eq : k0_pay35 g y = k0_pay23 g y := rfl
theorem pay38_eq : k0_pay38 g y = k0_pay23 g y := rfl
theorem pay43_eq (x : FVec F S256x1024 .bf16) (w : FVec F S1024x1024 .bf16) : k0_pay43 (k0_pay42 g y) x w = k0_pay43 (k0_pay23 g y) x w := rfl
variable (P : FVec F S256x1024 .f32) (R : FVec F S1x256x1024 .bf16)
theorem pay32_eq : k0_pay32 (k0_pay30 P) (k0_pay31 R) = hop P R := rfl
theorem pay36_eq : k0_pay36 P R = hop P R := rfl
theorem pay37_eq : k0_pay37 P R = hop P R := rfl
theorem pay41_eq : k0_pay41 (k0_pay39 P) (k0_pay40 R) = hop P R := rfl
theorem pay48_eq : k0_pay48 P = k0_pay47 P := rfl
theorem pay50_eq : k0_pay50 R = k0_pay49 R := rfl
theorem pay51_eq : k0_pay51 R = k0_pay49 R := rfl
theorem pay52_eq : k0_pay52 R = k0_pay49 R := rfl
theorem pay53_eq : k0_pay53 R = k0_pay49 R := rfl
theorem pay54_eq : k0_pay54 R = k0_pay49 R := rfl
theorem pay55_eq : k0_pay55 R = k0_pay49 R := rfl
end Names

variable (m : (ℓ : Loc nD τ sig) → Buf (Elt F) ℓ) (c : Dev nD)

/-- A received block, widened. -/
def rowV (d : Dev nD) : FVec F S256x1024 .f32 := k0_pay49 (agV m d)
/-- The device's own rows of the tokens. -/
def xR : FVec F S256x1024 .bf16 := fun i => xV m c ((rctO c).emb i)

theorem pV_def : pV m c = k0_pay4 (k0_pay1 (xV m c) (rwV m c)) (k0_pay2 (xV m c) (rwV m c)) (riV m c) := rfl
theorem coefV_def : coefV m c = k0_pay11 (pV m c) (gtV m c) := rfl
theorem xgV_def : xgV m c = k0_pay12 (gtV m c) (xV m c) := rfl
theorem rowV_def : rowV m c = k0_pay49 (agV m c) := rfl

variable {α : Type}

/-- A body that has returned. -/
theorem retB {Q : α → sProp 𝕄} {a a' : α} (h : a = a') : Q a' ⊢ wpB c (.ret a) Q := by
  subst h
  unfold wpB
  rw [wp_ret]
  exact fupd_intro

/-- A block sent on while it is read: half of it is lent to the transfer, and comes back. -/
theorem halve (M : Memref sig .tc .vmem S1x256x1024 .bf16) (X : FVec F S1x256x1024 .bf16) :
    (owns (c : Thread nD τ) M fullShare X : sProp 𝕄) ⊢ iprop(owns (c : Thread nD τ) M fullShare.left X ∗ owns (c : Thread nD τ) M fullShare.right X) :=
  (owns_halves (Val := Elt F) (c : Thread nD τ) M fullShare X).1
theorem unhalve (M : Memref sig .tc .vmem S1x256x1024 .bf16) (X : FVec F S1x256x1024 .bf16) :
    (iprop(owns (c : Thread nD τ) M fullShare.left X ∗ owns (c : Thread nD τ) M fullShare.right X) : sProp 𝕄) ⊢ owns (c : Thread nD τ) M fullShare X :=
  (owns_halves (Val := Elt F) (c : Thread nD τ) M fullShare X).2

/-- The load of a row block of the tokens, and of the dispatch matrix. -/
theorem ld_xr {Q : α → sProp 𝕄} (off : Fin 2 → ℕ) (hoff : off = ![256 * c.val, 0])
    {inb : ∀ a, off a + S256x1024.size a ≤ S2048x1024.size a}
    {hl : xM.view.LoadsAt (Rect.unit (s := S2048x1024) off S256x1024.size inb).toLoadRect}
    {k : ((Rect.unit (s := S2048x1024) off S256x1024.size inb).toLoadRect.shape.Idx → Elt F .bf16) → Prog (TpuEff nD τ sig (Elt F) Λ₀ .tc) α} :
    (owns (c : Thread nD τ) xM fullShare (xV m c) : sProp 𝕄)
      ⊢ iprop((owns (c : Thread nD τ) xM fullShare (xV m c) -∗ wpB c (k (xR m c)) Q)
          -∗ wpB c (.op (.load xM (Rect.unit (s := S2048x1024) off S256x1024.size inb).toLoadRect hl) k) Q) :=
  ld_sub c xM off _ hoff (inbO c)

theorem ld_gt {Q : α → sProp 𝕄} (r : Fin 8) (off : Fin 2 → ℕ) (hoff : off = ![256 * r.val, 0])
    {inb : ∀ a, off a + S256x512.size a ≤ S2048x512.size a}
    {hl : gtM.view.LoadsAt (Rect.unit (s := S2048x512) off S256x512.size inb).toLoadRect}
    {k : ((Rect.unit (s := S2048x512) off S256x512.size inb).toLoadRect.shape.Idx → Elt F .bf16) → Prog (TpuEff nD τ sig (Elt F) Λ₀ .tc) α} :
    (owns (c : Thread nD τ) gtM fullShare (gtV m c) : sProp 𝕄)
      ⊢ iprop((owns (c : Thread nD τ) gtM fullShare (gtV m c) -∗ wpB c (k (gtR m c r)) Q)
          -∗ wpB c (.op (.load gtM (Rect.unit (s := S2048x512) off S256x512.size inb).toLoadRect hl) k) Q) :=
  ld_sub c gtM off _ hoff (inbG r)

end Cert.MoeRing

end
-- ==== Proof.Cut.lean ====
/-
Buffers cut into their row blocks, and put together again.
-/
module

public import proofs.«01_k».proof.Proof.Rows

@[expose] public section

noncomputable section

namespace Cert.MoeRing

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

section Blocks
variable {s : Shape} {n : ℕ} {off : Fin n → Fin s.rank → ℕ} {size : Fin s.rank → ℕ} (inb : ∀ t a, off t a + size a ≤ s.size a)

/-- Blocks one after the other along axis `a₀`, whole along the others, and filling it. -/
def Tiles (off : Fin n → Fin s.rank → ℕ) (size : Fin s.rank → ℕ) (a₀ : Fin s.rank) : Prop :=
  (∀ t, off t a₀ = t.val * size a₀) ∧ 0 < size a₀ ∧ s.size a₀ = n * size a₀ ∧ ∀ t a, a ≠ a₀ → off t a = 0 ∧ size a = s.size a
instance (off : Fin n → Fin s.rank → ℕ) (size : Fin s.rank → ℕ) (a₀ : Fin s.rank) : Decidable (Tiles off size a₀) := by unfold Tiles; infer_instance

variable {a₀ : Fin s.rank} (h : Tiles off size a₀)
include h

theorem Tiles.apart (t t' : Fin n) (ht : t ≠ t') : Disjoint (Rect.unit (s := s) (off t) size (inb t)).set (Rect.unit (s := s) (off t') size (inb t')).set := by
  refine Rect.unit_disjoint a₀ ?_
  rw [h.1, h.1, ← Nat.succ_mul, ← Nat.succ_mul]
  rcases Nat.lt_or_gt_of_ne (fun e => ht (Fin.ext e) : t.val ≠ t'.val) with h' | h'
  · exact Or.inl (Nat.mul_le_mul_right _ h')
  · exact Or.inr (Nat.mul_le_mul_right _ h')

theorem Tiles.cover : (Finset.univ : Finset (Fin n)).biUnion (fun t => (Rect.unit (s := s) (off t) size (inb t)).set) = Finset.univ := by
  refine Finset.eq_univ_iff_forall.mpr fun i => Finset.mem_biUnion.mpr ?_
  have hi : (i a₀).val < n * size a₀ := h.2.2.1 ▸ (i a₀).isLt
  refine ⟨⟨(i a₀).val / size a₀, Nat.div_lt_of_lt_mul (by rwa [Nat.mul_comm] at hi)⟩, Finset.mem_univ _, Rect.mem_set_unit.mpr fun a => ?_⟩
  by_cases ha : a = a₀
  · subst ha
    rw [h.1]
    have := Nat.div_add_mod (i a).val (size a)
    have h2 := Nat.mod_lt (i a).val h.2.1
    rw [Nat.mul_comm] at this
    dsimp only
    constructor <;> omega
  · rw [(h.2.2.2 _ a ha).1, (h.2.2.2 ⟨(i a₀).val / size a₀, Nat.div_lt_of_lt_mul (by rwa [Nat.mul_comm] at hi)⟩ a ha).2]
    exact ⟨Nat.zero_le _, by have := (i a).isLt; omega⟩

/-- Contents given block by block are contents of the whole. -/
theorem Tiles.glue {α : Type} [Nonempty α] (B : Fin n → (⟨s.rank, size⟩ : Shape).Idx → α) :
    ∃ X : s.Idx → α, ∀ t, (fun j => X ((Rect.unit (s := s) (off t) size (inb t)).emb j)) = B t := by
  classical
  have key : ∀ t j t' j', (Rect.unit (s := s) (off t') size (inb t')).emb j' = (Rect.unit (s := s) (off t) size (inb t)).emb j → B t' j' = B t j := by
    intro t j t' j' e
    by_cases ht : t' = t
    · subst ht
      rw [(Rect.unit (s := s) (off t') size (inb t')).emb.injective e]
    · refine absurd ?_ (Finset.disjoint_left.mp (h.apart inb t' t ht) (LoadRect.idx_mem _ j'))
      have hm := LoadRect.idx_mem (Rect.unit (s := s) (off t) size (inb t)).toLoadRect j
      exact (show (Rect.unit (s := s) (off t') size (inb t')).idx j' = (Rect.unit (s := s) (off t) size (inb t)).idx j from e) ▸ hm
  refine ⟨fun i => if hi : ∃ t j, (Rect.unit (s := s) (off t) size (inb t)).emb j = i then B hi.choose hi.choose_spec.choose else Classical.arbitrary α, fun t => ?_⟩
  funext j
  have hi : ∃ t' j', (Rect.unit (s := s) (off t') size (inb t')).emb j' = (Rect.unit (s := s) (off t) size (inb t)).emb j := ⟨t, j, rfl⟩
  refine (dif_pos hi).trans ?_
  exact key _ _ _ _ hi.choose_spec.choose_spec

variable (c : Dev nD) {sp : Space} {e : EltTy} (M : Memref sig .tc sp s e)

/-- A buffer is its blocks, at their parts of its contents; -/
theorem cut (hr : ∀ t a, (Rect.unit (s := s) (off t) size (inb t)).stride a = 1) (X : s.Idx → Elt F e) :
    (owns (c : Thread nD τ) M fullShare X : sProp 𝕄)
      ⊢ bigSep Finset.univ fun t => owns (c : Thread nD τ) (M.slice (Rect.unit (s := s) (off t) size (inb t)) (hr t)) fullShare
          (fun j => X ((Rect.unit (s := s) (off t) size (inb t)).emb j)) :=
  owns_rects (c : Thread nD τ) M fullShare _ hr (h.apart inb) (h.cover inb) X
theorem uncut (hr : ∀ t a, (Rect.unit (s := s) (off t) size (inb t)).stride a = 1) (X : s.Idx → Elt F e) (B : Fin n → (⟨s.rank, size⟩ : Shape).Idx → Elt F e)
    (hB : ∀ t, (fun j => X ((Rect.unit (s := s) (off t) size (inb t)).emb j)) = B t) :
    (bigSep Finset.univ fun t => owns (c : Thread nD τ) (M.slice (Rect.unit (s := s) (off t) size (inb t)) (hr t)) fullShare (B t))
      ⊢ (owns (c : Thread nD τ) M fullShare X : sProp 𝕄) := by
  have : B = fun t j => X ((Rect.unit (s := s) (off t) size (inb t)).emb j) := funext fun t => (hB t).symm
  subst this
  exact owns_of_rects (c : Thread nD τ) M fullShare _ hr (h.apart inb) (h.cover inb) X
theorem cut_any (hr : ∀ t a, (Rect.unit (s := s) (off t) size (inb t)).stride a = 1) :
    (anyOwns c M : sProp 𝕄) ⊢ bigSep Finset.univ fun t => anyOwns c (M.slice (Rect.unit (s := s) (off t) size (inb t)) (hr t)) := by
  unfold anyOwns
  refine exists_elim fun X => (cut (F := F) inb h c M hr X).trans (bigSep_mono fun t _ =>
    show (owns (c : Thread nD τ) (M.slice (Rect.unit (s := s) (off t) size (inb t)) (hr t)) fullShare (fun j => X ((Rect.unit (s := s) (off t) size (inb t)).emb j)) : sProp 𝕄)
      ⊢ iprop(∃ X, owns (c : Thread nD τ) (M.slice (Rect.unit (s := s) (off t) size (inb t)) (hr t)) fullShare X) from
    exists_intro (Φ := fun X => owns (c : Thread nD τ) (M.slice (Rect.unit (s := s) (off t) size (inb t)) (hr t)) fullShare X) _)
theorem uncut_any (hr : ∀ t a, (Rect.unit (s := s) (off t) size (inb t)).stride a = 1) :
    (bigSep Finset.univ fun t => anyOwns c (M.slice (Rect.unit (s := s) (off t) size (inb t)) (hr t)) : sProp 𝕄) ⊢ anyOwns c M := by
  unfold anyOwns
  refine (BI.bigSep_exists_pi Finset.univ (fun (t : Fin n) (X : (⟨s.rank, size⟩ : Shape).Idx → Elt F e) =>
    (owns (c : Thread nD τ) (M.slice (Rect.unit (s := s) (off t) size (inb t)) (hr t)) fullShare X : sProp 𝕄))).trans (exists_elim fun B => ?_)
  obtain ⟨X, hX⟩ := h.glue inb B
  refine (uncut (F := F) inb h c M hr X B hX).trans (exists_intro X)

end Blocks

theorem tilesW : Tiles (s := S3x1024x1024) (fun k : Fin 3 => ![k.val, 0, 0]) S1x1024x1024.size 0 := by decide +kernel
theorem tilesE : Tiles (s := S8x1024x1024) (fun k : Fin 8 => ![k.val, 0, 0]) S1x1024x1024.size 0 := by decide +kernel
theorem tiles3 : Tiles (s := S3x256x1024) (fun k : Fin 3 => ![k.val, 0, 0]) S1x256x1024.size 0 := by decide +kernel
theorem tiles4 : Tiles (s := S4x256x1024) (fun k : Fin 4 => ![k.val, 0, 0]) S1x256x1024.size 0 := by decide +kernel
theorem tiles5 : Tiles (s := S5x256x1024) (fun k : Fin 5 => ![k.val, 0, 0]) S1x256x1024.size 0 := by decide +kernel
theorem tilesO : Tiles (s := S2048x1024) (fun r : Fin 8 => ![256 * r.val, 0]) S256x1024.size 0 := by decide +kernel
theorem tilesY : Tiles (s := S512x1024) (fun r : Fin 8 => ![64 * r.val, 0]) S64x1024.size 0 := by decide +kernel

/-- Stacked row blocks, read at a block's place. -/
theorem stackO_emb (B : Fin 8 → FVec F S256x1024 .f32) (r : Fin 8) : (fun j => stackO B ((rctO r).emb j)) = B r := by
  funext j
  have h0 : ((rctO r).emb j 0).val = 256 * r.val + 1 * (j 0).val := rfl
  have h1 : ((rctO r).emb j 1).val = 0 + 1 * (j 1).val := rfl
  have hj : (j 0).val < 256 := (j 0).isLt
  have a : (⟨((rctO r).emb j 0).val / 256, Nat.div_lt_of_lt_mul ((rctO r).emb j 0).isLt⟩ : Fin 8) = r := Fin.ext (by dsimp only; omega)
  have b : ix2 (n0 := 256) (n1 := 1024) ⟨((rctO r).emb j 0).val % 256, Nat.mod_lt _ (by decide)⟩ ((rctO r).emb j 1) = j := by
    funext x
    match x with
    | 0 => exact Fin.ext (show ((rctO r).emb j 0).val % 256 = (j 0).val by omega)
    | 1 => exact Fin.ext (show ((rctO r).emb j 1).val = (j 1).val by omega)
  unfold stackO
  rw [a]
  exact congrArg (B r) b
theorem stackY_emb (B : Fin 8 → FVec F S64x1024 .bf16) (r : Fin 8) : (fun j => stackY B ((rctY r).emb j)) = B r := by
  funext j
  have h0 : ((rctY r).emb j 0).val = 64 * r.val + 1 * (j 0).val := rfl
  have h1 : ((rctY r).emb j 1).val = 0 + 1 * (j 1).val := rfl
  have hj : (j 0).val < 64 := (j 0).isLt
  have a : (⟨((rctY r).emb j 0).val / 64, Nat.div_lt_of_lt_mul ((rctY r).emb j 0).isLt⟩ : Fin 8) = r := Fin.ext (by dsimp only; omega)
  have b : ix2 (n0 := 64) (n1 := 1024) ⟨((rctY r).emb j 0).val % 64, Nat.mod_lt _ (by decide)⟩ ((rctY r).emb j 1) = j := by
    funext x
    match x with
    | 0 => exact Fin.ext (show ((rctY r).emb j 0).val % 64 = (j 0).val by omega)
    | 1 => exact Fin.ext (show ((rctY r).emb j 1).val = (j 1).val by omega)
  unfold stackY
  rw [a]
  exact congrArg (B r) b

section Orders
variable (c : Dev nD)

/-- The result's row blocks in the order of the ring, from the device's own. -/
def order : List (Fin 8) := [c, rowR c 0, rowR c 1, rowR c 2, rowR c 3, rowL c 0, rowL c 1, rowL c 2]
theorem order_eq (Φ : Fin 8 → sProp 𝕄) : bigSep Finset.univ Φ
    = iprop(Φ c ∗ Φ (rowR c 0) ∗ Φ (rowR c 1) ∗ Φ (rowR c 2) ∗ Φ (rowR c 3) ∗ Φ (rowL c 0) ∗ Φ (rowL c 1) ∗ Φ (rowL c 2)) :=
  bigSep_univ_eq_bigSepL [c, rowR c 0, rowR c 1, rowR c 2, rowR c 3, rowL c 0, rowL c 1, rowL c 2] (by revert c; decide +kernel) (by revert c; decide +kernel) Φ
theorem fin3_eq (Φ : Fin 3 → sProp 𝕄) : bigSep Finset.univ Φ = iprop(Φ 0 ∗ Φ 1 ∗ Φ 2) := bigSep_univ_eq_bigSepL [0, 1, 2] (by decide) (by decide) Φ
theorem fin4_eq (Φ : Fin 4 → sProp 𝕄) : bigSep Finset.univ Φ = iprop(Φ 0 ∗ Φ 1 ∗ Φ 2 ∗ Φ 3) := bigSep_univ_eq_bigSepL [0, 1, 2, 3] (by decide) (by decide) Φ
theorem fin5_eq (Φ : Fin 5 → sProp 𝕄) : bigSep Finset.univ Φ = iprop(Φ 0 ∗ Φ 1 ∗ Φ 2 ∗ Φ 3 ∗ Φ 4) := bigSep_univ_eq_bigSepL [0, 1, 2, 3, 4] (by decide) (by decide) Φ
theorem fin8_eq (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

variable (m : (ℓ : Loc nD τ sig) → Buf (Elt F) ℓ)

/-- The result on device `c`: its own row block, and the others' as they came round. -/
def outV : FVec F S2048x1024 .f32 := stackO fun r => if r = c then ownV m c else rowV m r

theorem row_L0 : rowL c 0 = left (left (left c)) := by revert c; decide
theorem row_L1 : rowL c 1 = left (left c) := by revert c; decide
theorem row_L2 : rowL c 2 = left c := by revert c; decide
theorem row_R0 : rowR c 0 = left (left (left (left c))) := by revert c; decide
theorem row_R1 : rowR c 1 = right (right (right c)) := by revert c; decide
theorem row_R2 : rowR c 2 = right (right c) := by revert c; decide
theorem row_R3 : rowR c 3 = right c := by revert c; decide
theorem order_ne : rowR c 0 ≠ c ∧ rowR c 1 ≠ c ∧ rowR c 2 ≠ c ∧ rowR c 3 ≠ c ∧ rowL c 0 ≠ c ∧ rowL c 1 ≠ c ∧ rowL c 2 ≠ c := by revert c; decide

theorem outCut : (anyOwns c outM : sProp 𝕄) ⊢ iprop(anyOwns c (outS c) ∗ anyOwns c (outS (rowR c 0)) ∗ anyOwns c (outS (rowR c 1)) ∗ anyOwns c (outS (rowR c 2))
    ∗ anyOwns c (outS (rowR c 3)) ∗ anyOwns c (outS (rowL c 0)) ∗ anyOwns c (outS (rowL c 1)) ∗ anyOwns c (outS (rowL c 2))) :=
  (cut_any inbO tilesO c outM (fun _ _ => rfl)).trans (Entails.of_eq (order_eq c fun r => anyOwns c (outS r)))
theorem outJoin : (iprop(owns (c : Thread nD τ) (outS c) fullShare (ownV m c)
      ∗ owns (c : Thread nD τ) (outS (rowR c 0)) fullShare (rowV m (left (left (left (left c)))))
      ∗ owns (c : Thread nD τ) (outS (rowR c 1)) fullShare (rowV m (right (right (right c))))
      ∗ owns (c : Thread nD τ) (outS (rowR c 2)) fullShare (rowV m (right (right c)))
      ∗ owns (c : Thread nD τ) (outS (rowR c 3)) fullShare (rowV m (right c))
      ∗ owns (c : Thread nD τ) (outS (rowL c 0)) fullShare (rowV m (left (left (left c))))
      ∗ owns (c : Thread nD τ) (outS (rowL c 1)) fullShare (rowV m (left (left c)))
      ∗ owns (c : Thread nD τ) (outS (rowL c 2)) fullShare (rowV m (left c))) : sProp 𝕄) ⊢ owns (c : Thread nD τ) outM fullShare (outV c m) := by
  refine BIBase.Entails.trans ?_ (uncut inbO tilesO c outM (fun _ _ => rfl) (outV c m) (fun r => if r = c then ownV m c else rowV m r)
    (fun r => stackO_emb (fun r => if r = c then ownV m c else rowV m r) r))
  have e := order_eq c fun r => (owns (c : Thread nD τ) (outS r) fullShare (if r = c then ownV m c else rowV m r) : sProp 𝕄)
  refine BIBase.Entails.trans (Entails.of_eq ?_) (Entails.of_eq e.symm)
  obtain ⟨h0, h1, h2, h3, h4, h5, h6⟩ := order_ne c
  simp only [if_neg h0, if_neg h1, if_neg h2, if_neg h3, if_neg h4, if_neg h5, if_neg h6, if_true]
  rw [← row_R0 c, ← row_R1 c, ← row_R2 c, ← row_R3 c, ← row_L0 c, ← row_L1 c, ← row_L2 c]

theorem yCut : (anyOwns c yM : sProp 𝕄) ⊢ iprop(anyOwns c (yS 0) ∗ anyOwns c (yS 1) ∗ anyOwns c (yS 2) ∗ anyOwns c (yS 3) ∗ anyOwns c (yS 4) ∗ anyOwns c (yS 5) ∗ anyOwns c (yS 6) ∗ anyOwns c (yS 7)) :=
  (cut_any inbY tilesY c yM (fun _ _ => rfl)).trans (Entails.of_eq (fin8_eq fun r => anyOwns c (yS r)))
theorem yJoin : (iprop(owns (c : Thread nD τ) (yS 0) fullShare (yV m c 0) ∗ owns (c : Thread nD τ) (yS 1) fullShare (yV m c 1)
      ∗ owns (c : Thread nD τ) (yS 2) fullShare (yV m c 2) ∗ owns (c : Thread nD τ) (yS 3) fullShare (yV m c 3)
      ∗ owns (c : Thread nD τ) (yS 4) fullShare (yV m c 4) ∗ owns (c : Thread nD τ) (yS 5) fullShare (yV m c 5)
      ∗ owns (c : Thread nD τ) (yS 6) fullShare (yV m c 6) ∗ owns (c : Thread nD τ) (yS 7) fullShare (yV m c 7)) : sProp 𝕄) ⊢ owns (c : Thread nD τ) yM fullShare (ybV m c) :=
  (Entails.of_eq (fin8_eq fun r => owns (c : Thread nD τ) (yS r) fullShare (yV m c r)).symm).trans
    (uncut inbY tilesY c yM (fun _ _ => rfl) (ybV m c) (yV m c) fun r => stackY_emb (yV m c) r)

theorem weCut : (owns (c : Thread nD τ) weM fullShare (weV m c) : sProp 𝕄)
    ⊢ iprop(owns (c : Thread nD τ) (weS 0) fullShare (wV m c 0) ∗ owns (c : Thread nD τ) (weS 1) fullShare (wV m c 1)
      ∗ owns (c : Thread nD τ) (weS 2) fullShare (wV m c 2) ∗ owns (c : Thread nD τ) (weS 3) fullShare (wV m c 3)
      ∗ owns (c : Thread nD τ) (weS 4) fullShare (wV m c 4) ∗ owns (c : Thread nD τ) (weS 5) fullShare (wV m c 5)
      ∗ owns (c : Thread nD τ) (weS 6) fullShare (wV m c 6) ∗ owns (c : Thread nD τ) (weS 7) fullShare (wV m c 7)) :=
  (cut inbE tilesE c weM (fun _ _ => rfl) (weV m c)).trans (Entails.of_eq (fin8_eq fun r => owns (c : Thread nD τ) (weS r) fullShare (wV m c r)))
theorem weJoin : (iprop(owns (c : Thread nD τ) (weS 0) fullShare (wV m c 0) ∗ owns (c : Thread nD τ) (weS 1) fullShare (wV m c 1)
      ∗ owns (c : Thread nD τ) (weS 2) fullShare (wV m c 2) ∗ owns (c : Thread nD τ) (weS 3) fullShare (wV m c 3)
      ∗ owns (c : Thread nD τ) (weS 4) fullShare (wV m c 4) ∗ owns (c : Thread nD τ) (weS 5) fullShare (wV m c 5)
      ∗ owns (c : Thread nD τ) (weS 6) fullShare (wV m c 6) ∗ owns (c : Thread nD τ) (weS 7) fullShare (wV m c 7)) : sProp 𝕄)
    ⊢ owns (c : Thread nD τ) weM fullShare (weV m c) :=
  (Entails.of_eq (fin8_eq fun r => owns (c : Thread nD τ) (weS r) fullShare (wV m c r)).symm).trans
    (uncut inbE tilesE c weM (fun _ _ => rfl) (weV m c) (wV m c) fun r => rfl)

theorem ewCut : (anyOwns c ewM : sProp 𝕄) ⊢ iprop(anyOwns c (ewS 0) ∗ anyOwns c (ewS 1) ∗ anyOwns c (ewS 2)) :=
  (cut_any inbW tilesW c ewM (fun _ _ => rfl)).trans (Entails.of_eq (fin3_eq fun r => anyOwns c (ewS r)))
theorem ewJoin : (iprop(anyOwns c (ewS 0) ∗ anyOwns c (ewS 1) ∗ anyOwns c (ewS 2)) : sProp 𝕄) ⊢ anyOwns c ewM :=
  (Entails.of_eq (fin3_eq fun r => anyOwns c (ewS r)).symm).trans (uncut_any inbW tilesW c ewM (fun _ _ => rfl))
section
variable (M3 : Memref sig .tc .vmem S3x256x1024 .bf16) (M4 : Memref sig .tc .vmem S4x256x1024 .bf16) (M5 : Memref sig .tc .vmem S5x256x1024 .bf16)
theorem cut3 : (anyOwns c M3 : sProp 𝕄) ⊢ iprop(anyOwns c (M3.slice (rct3 0) (fun _ => rfl)) ∗ anyOwns c (M3.slice (rct3 1) (fun _ => rfl)) ∗ anyOwns c (M3.slice (rct3 2) (fun _ => rfl))) :=
  (cut_any inb3 tiles3 c M3 (fun _ _ => rfl)).trans (Entails.of_eq (fin3_eq fun r => anyOwns c (M3.slice (rct3 r) (fun _ => rfl))))
theorem join3 : (iprop(anyOwns c (M3.slice (rct3 0) (fun _ => rfl)) ∗ anyOwns c (M3.slice (rct3 1) (fun _ => rfl)) ∗ anyOwns c (M3.slice (rct3 2) (fun _ => rfl))) : sProp 𝕄) ⊢ anyOwns c M3 :=
  (Entails.of_eq (fin3_eq fun r => anyOwns c (M3.slice (rct3 r) (fun _ => rfl))).symm).trans (uncut_any inb3 tiles3 c M3 (fun _ _ => rfl))
theorem cut4 : (anyOwns c M4 : sProp 𝕄) ⊢ iprop(anyOwns c (M4.slice (rct4 0) (fun _ => rfl)) ∗ anyOwns c (M4.slice (rct4 1) (fun _ => rfl)) ∗ anyOwns c (M4.slice (rct4 2) (fun _ => rfl)) ∗ anyOwns c (M4.slice (rct4 3) (fun _ => rfl))) :=
  (cut_any inb4 tiles4 c M4 (fun _ _ => rfl)).trans (Entails.of_eq (fin4_eq fun r => anyOwns c (M4.slice (rct4 r) (fun _ => rfl))))
theorem join4 : (iprop(anyOwns c (M4.slice (rct4 0) (fun _ => rfl)) ∗ anyOwns c (M4.slice (rct4 1) (fun _ => rfl)) ∗ anyOwns c (M4.slice (rct4 2) (fun _ => rfl)) ∗ anyOwns c (M4.slice (rct4 3) (fun _ => rfl))) : sProp 𝕄) ⊢ anyOwns c M4 :=
  (Entails.of_eq (fin4_eq fun r => anyOwns c (M4.slice (rct4 r) (fun _ => rfl))).symm).trans (uncut_any inb4 tiles4 c M4 (fun _ _ => rfl))
theorem cut5 : (anyOwns c M5 : sProp 𝕄) ⊢ iprop(anyOwns c (M5.slice (rct5 0) (fun _ => rfl)) ∗ anyOwns c (M5.slice (rct5 1) (fun _ => rfl)) ∗ anyOwns c (M5.slice (rct5 2) (fun _ => rfl)) ∗ anyOwns c (M5.slice (rct5 3) (fun _ => rfl)) ∗ anyOwns c (M5.slice (rct5 4) (fun _ => rfl))) :=
  (cut_any inb5 tiles5 c M5 (fun _ _ => rfl)).trans (Entails.of_eq (fin5_eq fun r => anyOwns c (M5.slice (rct5 r) (fun _ => rfl))))
theorem join5 : (iprop(anyOwns c (M5.slice (rct5 0) (fun _ => rfl)) ∗ anyOwns c (M5.slice (rct5 1) (fun _ => rfl)) ∗ anyOwns c (M5.slice (rct5 2) (fun _ => rfl)) ∗ anyOwns c (M5.slice (rct5 3) (fun _ => rfl)) ∗ anyOwns c (M5.slice (rct5 4) (fun _ => rfl))) : sProp 𝕄) ⊢ anyOwns c M5 :=
  (Entails.of_eq (fin5_eq fun r => anyOwns c (M5.slice (rct5 r) (fun _ => rfl))).symm).trans (uncut_any inb5 tiles5 c M5 (fun _ _ => rfl))
end
end Orders

end Cert.MoeRing

end
-- ==== Proof.PartsA.lean ====
/-
The body of the kernel, from its start to the first expert: the neighbours met, the routing computed.
-/
module

public import proofs.«01_k».proof.Proof.Rows

@[expose] public section

noncomputable section

namespace Cert.MoeRing

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

set_option maxHeartbeats 1000000

variable {F : FTy → Type} [FloatOps F]

local notation "𝕄" => MT nD τ sig Unit (Elt F) ℕ UU ℕ

variable (m : (ℓ : Loc nD τ sig) → Buf (Elt F) ℓ) (K : Dev nD × Fin 32 → ℕ) (c : Dev nD)

theorem part1  {Q : (Σ' (d0 : Dev nD) (v2 : BitVec 32) (v13 : BitVec 32), BitVec 32) → sProp 𝕄} :
    iprop(env m K ∗ owns (c : Thread nD τ) (weS 0) fullShare (wV m c 0) ∗ anyOwns c (ewS 0) ∗ tok c (ewK 0) 0 false ∗ ewIdle c 0 0
        ∗ (∀ (r2 : BitVec 32) (r3 : BitVec 32), ewBusy c 0 0 -∗ Q ⟨c, meV c, r2, r3⟩))
      ⊢ wpB c (k0_part1 xM (Memref.isWhole_whole _) rwM (Memref.isWhole_whole _) riM (Memref.isWhole_whole _) weM (Memref.isWhole_whole _) swM (Memref.isWhole_whole _) outM (Memref.isWhole_whole _) ewM (Memref.isWhole_whole _) gtM (Memref.isWhole_whole _) yM (Memref.isWhole_whole _) rsM (Memref.isWhole_whole _) rrM (Memref.isWhole_whole _) lsM (Memref.isWhole_whole _) lrM (Memref.isWhole_whole _) arM (Memref.isWhole_whole _) alM (Memref.isWhole_whole _) cc0_scratch9 cc0_scratch10 cc0_scratch11 cc0_scratch12 cc0_scratch13 cc0_scratch14 cc0_scratch15 cc0_scratch16 cc0_scratch17 ) Q := by
  rw [k0_part1_eq_skeleton]; unfold k0_part1_skel
  simp only [semSignalWord, semWaitWord, Prog.lift, Prog.bind_op, Prog.bind_ret, Prog.pure_eq_ret, wp_deviceId]
  iintro ⟨#He, Hwe0, ⟨%Xew0, Hew0⟩, Het0, Heq0, Hk⟩
  iapply (cp m K c 0 0 0 rfl rfl) $$ [Hwe0 Hew0 Het0 Heq0]
  · isplitr; · iexact He
    isplitl [Hwe0]; · iexact Hwe0
    isplitl [Hew0]; · iexists _; iexact Hew0
    isplitl [Het0]; · iexact Het0
    iexact Heq0
  iintro Heb0
  iapply (retB c rfl)
  iapply Hk $$ [Heb0]
  iexact Heb0

theorem part2 (v13 : BitVec 32) (v24 : BitVec 32) {Q : (Σ' (v57 : FVec F S2048x64 .f32), FVec F S2048x64 .f32) → sProp 𝕄} :
    iprop(env m K ∗ owns (c : Thread nD τ) (weS 1) fullShare (wV m c 1) ∗ anyOwns c (ewS 1) ∗ tok c (ewK 1) 0 false ∗ ewIdle c 1 0 ∗ owns (c : Thread nD τ) (weS 2) fullShare (wV m c 2) ∗ anyOwns c (ewS 2) ∗ tok c (ewK 2) 0 false ∗ ewIdle c 2 0 ∗ slotsR c ∗ tok (left c) 0 0 true ∗ owesW c 0 ∗ slotsL c ∗ tok (right c) 0 0 false ∗ cred (tallyAt (kcell (c, 0)) () 2) ∗ idle c 0 ∗ owns (c : Thread nD τ) (xM) fullShare (xV m c) ∗ owns (c : Thread nD τ) (rwM) fullShare (rwV m c)
        ∗ (iprop(owns (c : Thread nD τ) (xM) fullShare (xV m c) ∗ owns (c : Thread nD τ) (rwM) fullShare (rwV m c) ∗ owesW c 2 ∗ ewBusy c 1 0 ∗ ewBusy c 2 0 ∗ anyOwns (right c) (rrS 0) ∗ anyOwns (right c) (rrS 1) ∗ anyOwns (right c) (rrS 2) ∗ anyOwns (right c) (rrS 3) ∗ anyOwns (right c) (arS 1) ∗ anyOwns (right c) (arS 2) ∗ anyOwns (right c) (arS 3) ∗ anyOwns (right c) (arS 4) ∗ anyOwns (left c) (lrS 0) ∗ anyOwns (left c) (lrS 1) ∗ anyOwns (left c) (lrS 2) ∗ anyOwns (left c) (alS 1) ∗ anyOwns (left c) (alS 2) ∗ anyOwns (left c) (alS 3) ∗ done c 0) -∗ Q ⟨k0_pay1 (xV m c) (rwV m c), k0_pay2 (xV m c) (rwV m c)⟩))
      ⊢ wpB c (k0_part2 xM (Memref.isWhole_whole _) rwM (Memref.isWhole_whole _) riM (Memref.isWhole_whole _) weM (Memref.isWhole_whole _) swM (Memref.isWhole_whole _) outM (Memref.isWhole_whole _) ewM (Memref.isWhole_whole _) gtM (Memref.isWhole_whole _) yM (Memref.isWhole_whole _) rsM (Memref.isWhole_whole _) rrM (Memref.isWhole_whole _) lsM (Memref.isWhole_whole _) lrM (Memref.isWhole_whole _) arM (Memref.isWhole_whole _) alM (Memref.isWhole_whole _) cc0_scratch9 cc0_scratch10 cc0_scratch11 cc0_scratch12 cc0_scratch13 cc0_scratch14 cc0_scratch15 cc0_scratch16 cc0_scratch17 c v13 v24) Q := by
  rw [k0_part2_eq_skeleton]; unfold k0_part2_skel
  simp only [semSignalWord, semWaitWord, Prog.lift, Prog.bind_op, Prog.bind_ret, Prog.pure_eq_ret, wp_deviceId]
  iintro ⟨#He, Hwe1, ⟨%Xew1, Hew1⟩, Het1, Heq1, Hwe2, ⟨%Xew2, Hew2⟩, Het2, Heq2, HslotsR, HtbL, HHO, HslotsL, HtbR, Hbc, Hbi, Hx, Hrw, Hk⟩
  iapply (cp m K c 1 1 0 rfl rfl) $$ [Hwe1 Hew1 Het1 Heq1]
  · isplitr; · iexact He
    isplitl [Hwe1]; · iexact Hwe1
    isplitl [Hew1]; · iexists _; iexact Hew1
    isplitl [Het1]; · iexact Het1
    iexact Heq1
  iintro Heb1
  iapply (cp m K c 2 2 0 rfl rfl) $$ [Hwe2 Hew2 Het2 Heq2]
  · isplitr; · iexact He
    isplitl [Hwe2]; · iexact Hwe2
    isplitl [Hew2]; · iexists _; iexact Hew2
    isplitl [Het2]; · iexact Het2
    iexact Heq2
  iintro Heb2
  iapply (sigL m K c _ (dev1_eq c)) $$ [HslotsR HtbL HHO]
  · isplitr; · iexact He
    isplitl [HslotsR]; · iexact HslotsR
    isplitl [HtbL]; · iexact HtbL
    iexact HHO
  iintro HHO
  iapply (sigR m K c _ (dev2_eq c)) $$ [HslotsL HtbR HHO]
  · isplitr; · iexact He
    isplitl [HslotsL]; · iexact HslotsL
    isplitl [HtbR]; · iexact HtbR
    iexact HHO
  iintro HHO
  iapply (wtBar m K c) $$ [Hbc Hbi HHO]
  · isplitr; · iexact He
    isplitl [Hbc]; · iexact Hbc
    isplitl [Hbi]; · iexact Hbi
    iexact HHO
  iintro ⟨HslR, HslL, Hd0, HHO⟩
  unfold slotsR slotsL
  icases HslR with ⟨Hdst_rr0, Hdst_rr1, Hdst_rr2, Hdst_rr3, Hdst_ar1, Hdst_ar2, Hdst_ar3, Hdst_ar4⟩
  icases HslL with ⟨Hdst_lr0, Hdst_lr1, Hdst_lr2, Hdst_al1, Hdst_al2, Hdst_al3⟩
  iapply (ld_all c xM _ z2) $$ Hx; iintro Hx
  iapply (ld_all c rwM _ z2) $$ Hrw; iintro Hrw
  iapply (retB c (a' := ⟨k0_pay1 (xV m c) (rwV m c), k0_pay2 (xV m c) (rwV m c)⟩) rfl)
  iapply Hk $$ [Hx Hrw HHO Heb1 Heb2 Hdst_rr0 Hdst_rr1 Hdst_rr2 Hdst_rr3 Hdst_ar1 Hdst_ar2 Hdst_ar3 Hdst_ar4 Hdst_lr0 Hdst_lr1 Hdst_lr2 Hdst_al1 Hdst_al2 Hdst_al3 Hd0]
  isplitl [Hx]; · iexact Hx
  isplitl [Hrw]; · iexact Hrw
  isplitl [HHO]; · iexact HHO
  isplitl [Heb1]; · iexact Heb1
  isplitl [Heb2]; · iexact Heb2
  isplitl [Hdst_rr0]; · iexact Hdst_rr0
  isplitl [Hdst_rr1]; · iexact Hdst_rr1
  isplitl [Hdst_rr2]; · iexact Hdst_rr2
  isplitl [Hdst_rr3]; · iexact Hdst_rr3
  isplitl [Hdst_ar1]; · iexact Hdst_ar1
  isplitl [Hdst_ar2]; · iexact Hdst_ar2
  isplitl [Hdst_ar3]; · iexact Hdst_ar3
  isplitl [Hdst_ar4]; · iexact Hdst_ar4
  isplitl [Hdst_lr0]; · iexact Hdst_lr0
  isplitl [Hdst_lr1]; · iexact Hdst_lr1
  isplitl [Hdst_lr2]; · iexact Hdst_lr2
  isplitl [Hdst_al1]; · iexact Hdst_al1
  isplitl [Hdst_al2]; · iexact Hdst_al2
  isplitl [Hdst_al3]; · iexact Hdst_al3
  iexact Hd0

theorem part3  {Q : (Σ' (v70 : FVec F S2048x1 .f32) (v71 : IVec S2048x8 32) (v76 : IVec S2048x8 1) (v79 : FVec F S2048x8 .f32) (v103 : FVec F S2048x8 .f32), FVec F S2048x8 .f32) → sProp 𝕄} :
    iprop(env m K ∗ owns (c : Thread nD τ) (riM) fullShare (riV m c)
        ∗ (owns (c : Thread nD τ) (riM) fullShare (riV m c) -∗ Q ⟨pV m c, iota .tc S2048x8 32 [1] iota_S2048x8_d1_w32, k0_pay5 (F := F) (meV c) (riV m c), k0_pay6 (meV c) (riV m c), k0_pay7 (meV c) (riV m c), k0_pay8 (meV c) (riV m c)⟩))
      ⊢ wpB c (k0_part3 xM (Memref.isWhole_whole _) rwM (Memref.isWhole_whole _) riM (Memref.isWhole_whole _) weM (Memref.isWhole_whole _) swM (Memref.isWhole_whole _) outM (Memref.isWhole_whole _) ewM (Memref.isWhole_whole _) gtM (Memref.isWhole_whole _) yM (Memref.isWhole_whole _) rsM (Memref.isWhole_whole _) rrM (Memref.isWhole_whole _) lsM (Memref.isWhole_whole _) lrM (Memref.isWhole_whole _) arM (Memref.isWhole_whole _) alM (Memref.isWhole_whole _) cc0_scratch9 cc0_scratch10 cc0_scratch11 cc0_scratch12 cc0_scratch13 cc0_scratch14 cc0_scratch15 cc0_scratch16 cc0_scratch17 (meV c) (k0_pay1 (xV m c) (rwV m c)) (k0_pay2 (xV m c) (rwV m c))) Q := by
  rw [k0_part3_eq_skeleton]; unfold k0_part3_skel
  simp only [semSignalWord, semWaitWord, Prog.lift, Prog.bind_op, Prog.bind_ret, Prog.pure_eq_ret, wp_deviceId]
  iintro ⟨#He, Hri, Hk⟩
  iapply (ld_all c riM _ z2) $$ Hri; iintro Hri
  rw [← pV_def m c]
  iapply (retB c (a' := ⟨pV m c, iota .tc S2048x8 32 [1] iota_S2048x8_d1_w32, k0_pay5 (F := F) (meV c) (riV m c), k0_pay6 (meV c) (riV m c), k0_pay7 (meV c) (riV m c), k0_pay8 (meV c) (riV m c)⟩) rfl)
  iapply Hk $$ [Hri]
  iexact Hri

theorem part4  {Q : FVec F S2048x512 .bf16 → sProp 𝕄} :
    iprop(env m K
        ∗ (emp -∗ Q (k0_pay9 (iota .tc S2048x8 32 [1] iota_S2048x8_d1_w32) (k0_pay5 (F := F) (meV c) (riV m c)) (k0_pay6 (meV c) (riV m c)) (k0_pay7 (meV c) (riV m c)) (k0_pay8 (meV c) (riV m c)))))
      ⊢ wpB c (k0_part4 xM (Memref.isWhole_whole _) rwM (Memref.isWhole_whole _) riM (Memref.isWhole_whole _) weM (Memref.isWhole_whole _) swM (Memref.isWhole_whole _) outM (Memref.isWhole_whole _) ewM (Memref.isWhole_whole _) gtM (Memref.isWhole_whole _) yM (Memref.isWhole_whole _) rsM (Memref.isWhole_whole _) rrM (Memref.isWhole_whole _) lsM (Memref.isWhole_whole _) lrM (Memref.isWhole_whole _) arM (Memref.isWhole_whole _) alM (Memref.isWhole_whole _) cc0_scratch9 cc0_scratch10 cc0_scratch11 cc0_scratch12 cc0_scratch13 cc0_scratch14 cc0_scratch15 cc0_scratch16 cc0_scratch17 (iota .tc S2048x8 32 [1] iota_S2048x8_d1_w32) (k0_pay5 (F := F) (meV c) (riV m c)) (k0_pay6 (meV c) (riV m c)) (k0_pay7 (meV c) (riV m c)) (k0_pay8 (meV c) (riV m c))) Q := by
  rw [k0_part4_eq_skeleton]; unfold k0_part4_skel
  simp only [semSignalWord, semWaitWord, Prog.lift, Prog.bind_op, Prog.bind_ret, Prog.pure_eq_ret, wp_deviceId]
  iintro ⟨#He, Hk⟩
  iapply (retB c (a' := (k0_pay9 (iota .tc S2048x8 32 [1] iota_S2048x8_d1_w32) (k0_pay5 (F := F) (meV c) (riV m c)) (k0_pay6 (meV c) (riV m c)) (k0_pay7 (meV c) (riV m c)) (k0_pay8 (meV c) (riV m c)))) rfl)
  iapply Hk; iempintro

theorem part5  {Q : (Σ' (v158 : FVec F S512x1 .f32), FVec F S512x1024 .bf16) → sProp 𝕄} :
    iprop(env m K ∗ anyOwns c (gtM) ∗ owns (c : Thread nD τ) (xM) fullShare (xV m c) ∗ ewBusy c 0 0 ∗ owesW c 2 ∗ anyOwns c (yS 0)
        ∗ (iprop(owns (c : Thread nD τ) (xM) fullShare (xV m c) ∗ owns (c : Thread nD τ) (weS 0) fullShare (wV m c 0) ∗ owns (c : Thread nD τ) (ewS 0) fullShare (wV m c 0) ∗ owns (c : Thread nD τ) (gtM) fullShare (gtV m c) ∗ owns (c : Thread nD τ) (yS 0) fullShare (yV m c 0) ∗ ewIdle c 0 1 ∗ owesW c 2) -∗ Q ⟨coefV m c, xgV m c⟩))
      ⊢ wpB c (k0_part5 xM (Memref.isWhole_whole _) rwM (Memref.isWhole_whole _) riM (Memref.isWhole_whole _) weM (Memref.isWhole_whole _) swM (Memref.isWhole_whole _) outM (Memref.isWhole_whole _) ewM (Memref.isWhole_whole _) gtM (Memref.isWhole_whole _) yM (Memref.isWhole_whole _) rsM (Memref.isWhole_whole _) rrM (Memref.isWhole_whole _) lsM (Memref.isWhole_whole _) lrM (Memref.isWhole_whole _) arM (Memref.isWhole_whole _) alM (Memref.isWhole_whole _) cc0_scratch9 cc0_scratch10 cc0_scratch11 cc0_scratch12 cc0_scratch13 cc0_scratch14 cc0_scratch15 cc0_scratch16 cc0_scratch17 (pV m c) (k0_pay9 (iota .tc S2048x8 32 [1] iota_S2048x8_d1_w32) (k0_pay5 (F := F) (meV c) (riV m c)) (k0_pay6 (meV c) (riV m c)) (k0_pay7 (meV c) (riV m c)) (k0_pay8 (meV c) (riV m c)))) Q := by
  rw [k0_part5_eq_skeleton]; unfold k0_part5_skel
  simp only [semSignalWord, semWaitWord, Prog.lift, Prog.bind_op, Prog.bind_ret, Prog.pure_eq_ret, wp_deviceId]
  iintro ⟨#He, ⟨%Xgt, Hgt⟩, Hx, Heb0, HHO, ⟨%Xy0, Hy0⟩, Hk⟩
  iapply (ld_all c gtM _ z2) $$ Hgt; iintro Hgt
  iapply (st_all c gtM _ z2 (w' := gtV m c) rfl) $$ Hgt; iintro Hgt
  iapply (ld_all c gtM _ z2) $$ Hgt; iintro Hgt
  iapply (ld_all c xM _ z2) $$ Hx; iintro Hx
  iapply (wtE m K c 0 0 0 rfl 2 rfl (by decide) rfl) $$ [Heb0 HHO]
  · isplitr; · iexact He
    isplitl [Heb0]; · iexact Heb0
    iexact HHO
  iintro ⟨Heq0, Hew0, Hwe0, HHO⟩
  iapply (ld_at c ewM _ ![(0 : Fin 3).val, 0, 0] rfl (inbW 0)) $$ Hew0; iintro Hew0
  iapply (ld_at c yM _ ![64 * (0 : Fin 8).val, 0] rfl (inbY 0)) $$ Hy0; iintro Hy0
  iapply (st_at c yM _ ![64 * (0 : Fin 8).val, 0] rfl (inbY 0) (w' := yV m c 0) rfl) $$ Hy0; iintro Hy0
  rw [← coefV_def m c, ← xgV_def m c]
  iapply (retB c (a' := ⟨coefV m c, xgV m c⟩) rfl)
  iapply Hk $$ [Hx Hwe0 Hew0 Hgt Hy0 Heq0 HHO]
  isplitl [Hx]; · iexact Hx
  isplitl [Hwe0]; · iexact Hwe0
  isplitl [Hew0]; · iexact Hew0
  isplitl [Hgt]; · iexact Hgt
  isplitl [Hy0]; · iexact Hy0
  isplitl [Heq0]; · iexact Heq0
  iexact HHO

end Cert.MoeRing

end
-- ==== Proof.PartsB.lean ====
/-
The body of the kernel: the other experts.
-/
module

public import proofs.«01_k».proof.Proof.Rows

@[expose] public section

noncomputable section

namespace Cert.MoeRing

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

set_option maxHeartbeats 1000000

variable {F : FTy → Type} [FloatOps F]

local notation "𝕄" => MT nD τ sig Unit (Elt F) ℕ UU ℕ

variable (m : (ℓ : Loc nD τ sig) → Buf (Elt F) ℓ) (K : Dev nD × Fin 32 → ℕ) (c : Dev nD)

theorem part6  {Q : PUnit → sProp 𝕄} :
    iprop(env m K ∗ owns (c : Thread nD τ) (weS 3) fullShare (wV m c 3) ∗ owns (c : Thread nD τ) (ewS 0) fullShare (wV m c 0) ∗ tok c (ewK 0) 1 false ∗ ewIdle c 0 1 ∗ ewBusy c 1 0 ∗ owesW c 2 ∗ anyOwns c (yS 1) ∗ owns (c : Thread nD τ) (weS 4) fullShare (wV m c 4) ∗ tok c (ewK 1) 1 false
        ∗ (iprop(owns (c : Thread nD τ) (weS 1) fullShare (wV m c 1) ∗ owns (c : Thread nD τ) (yS 1) fullShare (yV m c 1) ∗ owesW c 2 ∗ ewBusy c 0 1 ∗ ewBusy c 1 1) -∗ Q ⟨⟩))
      ⊢ wpB c (k0_part6 xM (Memref.isWhole_whole _) rwM (Memref.isWhole_whole _) riM (Memref.isWhole_whole _) weM (Memref.isWhole_whole _) swM (Memref.isWhole_whole _) outM (Memref.isWhole_whole _) ewM (Memref.isWhole_whole _) gtM (Memref.isWhole_whole _) yM (Memref.isWhole_whole _) rsM (Memref.isWhole_whole _) rrM (Memref.isWhole_whole _) lsM (Memref.isWhole_whole _) lrM (Memref.isWhole_whole _) arM (Memref.isWhole_whole _) alM (Memref.isWhole_whole _) cc0_scratch9 cc0_scratch10 cc0_scratch11 cc0_scratch12 cc0_scratch13 cc0_scratch14 cc0_scratch15 cc0_scratch16 cc0_scratch17 (coefV m c) (xgV m c)) Q := by
  rw [k0_part6_eq_skeleton]; unfold k0_part6_skel
  simp only [semSignalWord, semWaitWord, Prog.lift, Prog.bind_op, Prog.bind_ret, Prog.pure_eq_ret, wp_deviceId]
  iintro ⟨#He, Hwe3, Hew0, Het3, Heq0, Heb1, HHO, ⟨%Xy1, Hy1⟩, Hwe4, Het4, Hk⟩
  iapply (cp m K c 0 3 1 rfl rfl) $$ [Hwe3 Hew0 Het3 Heq0]
  · isplitr; · iexact He
    isplitl [Hwe3]; · iexact Hwe3
    isplitl [Hew0]; · iexists _; iexact Hew0
    isplitl [Het3]; · iexact Het3
    iexact Heq0
  iintro Heb0
  iapply (wtE m K c 1 1 0 rfl 2 rfl (by decide) rfl) $$ [Heb1 HHO]
  · isplitr; · iexact He
    isplitl [Heb1]; · iexact Heb1
    iexact HHO
  iintro ⟨Heq1, Hew1, Hwe1, HHO⟩
  iapply (ld_at c ewM _ ![(1 : Fin 3).val, 0, 0] rfl (inbW 1)) $$ Hew1; iintro Hew1
  iapply (ld_at c yM _ ![64 * (1 : Fin 8).val, 0] rfl (inbY 1)) $$ Hy1; iintro Hy1
  iapply (st_at c yM _ ![64 * (1 : Fin 8).val, 0] rfl (inbY 1) (w' := yV m c 1) rfl) $$ Hy1; iintro Hy1
  iapply (cp m K c 1 4 1 rfl rfl) $$ [Hwe4 Hew1 Het4 Heq1]
  · isplitr; · iexact He
    isplitl [Hwe4]; · iexact Hwe4
    isplitl [Hew1]; · iexists _; iexact Hew1
    isplitl [Het4]; · iexact Het4
    iexact Heq1
  iintro Heb1
  iapply (retB c rfl)
  iapply Hk $$ [Hwe1 Hy1 HHO Heb0 Heb1]
  isplitl [Hwe1]; · iexact Hwe1
  isplitl [Hy1]; · iexact Hy1
  isplitl [HHO]; · iexact HHO
  isplitl [Heb0]; · iexact Heb0
  iexact Heb1

theorem part7  {Q : (Σ' (v243 : FVec F S1024x1024 .bf16), FVec F S64x1024 .bf16) → sProp 𝕄} :
    iprop(env m K ∗ ewBusy c 2 0 ∗ owesW c 2 ∗ anyOwns c (yS 2) ∗ owns (c : Thread nD τ) (weS 5) fullShare (wV m c 5) ∗ tok c (ewK 2) 1 false ∗ ewBusy c 0 1
        ∗ (iprop(owns (c : Thread nD τ) (weS 2) fullShare (wV m c 2) ∗ owns (c : Thread nD τ) (weS 3) fullShare (wV m c 3) ∗ owns (c : Thread nD τ) (ewS 0) fullShare (wV m c 3) ∗ owns (c : Thread nD τ) (yS 2) fullShare (yV m c 2) ∗ ewIdle c 0 2 ∗ owesW c 2 ∗ ewBusy c 2 1) -∗ Q ⟨k0_pay16 (wV m c 3), k0_pay17 (xgV m c)⟩))
      ⊢ wpB c (k0_part7 xM (Memref.isWhole_whole _) rwM (Memref.isWhole_whole _) riM (Memref.isWhole_whole _) weM (Memref.isWhole_whole _) swM (Memref.isWhole_whole _) outM (Memref.isWhole_whole _) ewM (Memref.isWhole_whole _) gtM (Memref.isWhole_whole _) yM (Memref.isWhole_whole _) rsM (Memref.isWhole_whole _) rrM (Memref.isWhole_whole _) lsM (Memref.isWhole_whole _) lrM (Memref.isWhole_whole _) arM (Memref.isWhole_whole _) alM (Memref.isWhole_whole _) cc0_scratch9 cc0_scratch10 cc0_scratch11 cc0_scratch12 cc0_scratch13 cc0_scratch14 cc0_scratch15 cc0_scratch16 cc0_scratch17 (coefV m c) (xgV m c)) Q := by
  rw [k0_part7_eq_skeleton]; unfold k0_part7_skel
  simp only [semSignalWord, semWaitWord, Prog.lift, Prog.bind_op, Prog.bind_ret, Prog.pure_eq_ret, wp_deviceId]
  iintro ⟨#He, Heb2, HHO, ⟨%Xy2, Hy2⟩, Hwe5, Het5, Heb0, Hk⟩
  iapply (wtE m K c 2 2 0 rfl 2 rfl (by decide) rfl) $$ [Heb2 HHO]
  · isplitr; · iexact He
    isplitl [Heb2]; · iexact Heb2
    iexact HHO
  iintro ⟨Heq2, Hew2, Hwe2, HHO⟩
  iapply (ld_at c ewM _ ![(2 : Fin 3).val, 0, 0] rfl (inbW 2)) $$ Hew2; iintro Hew2
  iapply (ld_at c yM _ ![64 * (2 : Fin 8).val, 0] rfl (inbY 2)) $$ Hy2; iintro Hy2
  iapply (st_at c yM _ ![64 * (2 : Fin 8).val, 0] rfl (inbY 2) (w' := yV m c 2) rfl) $$ Hy2; iintro Hy2
  iapply (cp m K c 2 5 1 rfl rfl) $$ [Hwe5 Hew2 Het5 Heq2]
  · isplitr; · iexact He
    isplitl [Hwe5]; · iexact Hwe5
    isplitl [Hew2]; · iexists _; iexact Hew2
    isplitl [Het5]; · iexact Het5
    iexact Heq2
  iintro Heb2
  iapply (wtE m K c 0 3 1 rfl 2 rfl (by decide) rfl) $$ [Heb0 HHO]
  · isplitr; · iexact He
    isplitl [Heb0]; · iexact Heb0
    iexact HHO
  iintro ⟨Heq0, Hew0, Hwe3, HHO⟩
  iapply (ld_at c ewM _ ![(0 : Fin 3).val, 0, 0] rfl (inbW 0)) $$ Hew0; iintro Hew0
  iapply (retB c (a' := ⟨k0_pay16 (wV m c 3), k0_pay17 (xgV m c)⟩) rfl)
  iapply Hk $$ [Hwe2 Hwe3 Hew0 Hy2 Heq0 HHO Heb2]
  isplitl [Hwe2]; · iexact Hwe2
  isplitl [Hwe3]; · iexact Hwe3
  isplitl [Hew0]; · iexact Hew0
  isplitl [Hy2]; · iexact Hy2
  isplitl [Heq0]; · iexact Heq0
  isplitl [HHO]; · iexact HHO
  iexact Heb2

theorem part8  {Q : PUnit → sProp 𝕄} :
    iprop(env m K ∗ anyOwns c (yS 3) ∗ owns (c : Thread nD τ) (weS 6) fullShare (wV m c 6) ∗ owns (c : Thread nD τ) (ewS 0) fullShare (wV m c 3) ∗ tok c (ewK 0) 2 false ∗ ewIdle c 0 2 ∗ ewBusy c 1 1 ∗ owesW c 2 ∗ anyOwns c (yS 4)
        ∗ (iprop(owns (c : Thread nD τ) (weS 4) fullShare (wV m c 4) ∗ owns (c : Thread nD τ) (ewS 1) fullShare (wV m c 4) ∗ owns (c : Thread nD τ) (yS 3) fullShare (yV m c 3) ∗ owns (c : Thread nD τ) (yS 4) fullShare (yV m c 4) ∗ ewIdle c 1 2 ∗ owesW c 2 ∗ ewBusy c 0 2) -∗ Q ⟨⟩))
      ⊢ wpB c (k0_part8 xM (Memref.isWhole_whole _) rwM (Memref.isWhole_whole _) riM (Memref.isWhole_whole _) weM (Memref.isWhole_whole _) swM (Memref.isWhole_whole _) outM (Memref.isWhole_whole _) ewM (Memref.isWhole_whole _) gtM (Memref.isWhole_whole _) yM (Memref.isWhole_whole _) rsM (Memref.isWhole_whole _) rrM (Memref.isWhole_whole _) lsM (Memref.isWhole_whole _) lrM (Memref.isWhole_whole _) arM (Memref.isWhole_whole _) alM (Memref.isWhole_whole _) cc0_scratch9 cc0_scratch10 cc0_scratch11 cc0_scratch12 cc0_scratch13 cc0_scratch14 cc0_scratch15 cc0_scratch16 cc0_scratch17 (coefV m c) (xgV m c) (k0_pay16 (wV m c 3)) (k0_pay17 (xgV m c))) Q := by
  rw [k0_part8_eq_skeleton]; unfold k0_part8_skel
  simp only [semSignalWord, semWaitWord, Prog.lift, Prog.bind_op, Prog.bind_ret, Prog.pure_eq_ret, wp_deviceId]
  iintro ⟨#He, ⟨%Xy3, Hy3⟩, Hwe6, Hew0, Het6, Heq0, Heb1, HHO, ⟨%Xy4, Hy4⟩, Hk⟩
  iapply (ld_at c yM _ ![64 * (3 : Fin 8).val, 0] rfl (inbY 3)) $$ Hy3; iintro Hy3
  iapply (st_at c yM _ ![64 * (3 : Fin 8).val, 0] rfl (inbY 3) (w' := yV m c 3) rfl) $$ Hy3; iintro Hy3
  iapply (cp m K c 0 6 2 rfl rfl) $$ [Hwe6 Hew0 Het6 Heq0]
  · isplitr; · iexact He
    isplitl [Hwe6]; · iexact Hwe6
    isplitl [Hew0]; · iexists _; iexact Hew0
    isplitl [Het6]; · iexact Het6
    iexact Heq0
  iintro Heb0
  iapply (wtE m K c 1 4 1 rfl 2 rfl (by decide) rfl) $$ [Heb1 HHO]
  · isplitr; · iexact He
    isplitl [Heb1]; · iexact Heb1
    iexact HHO
  iintro ⟨Heq1, Hew1, Hwe4, HHO⟩
  iapply (ld_at c ewM _ ![(1 : Fin 3).val, 0, 0] rfl (inbW 1)) $$ Hew1; iintro Hew1
  iapply (ld_at c yM _ ![64 * (4 : Fin 8).val, 0] rfl (inbY 4)) $$ Hy4; iintro Hy4
  iapply (st_at c yM _ ![64 * (4 : Fin 8).val, 0] rfl (inbY 4) (w' := yV m c 4) rfl) $$ Hy4; iintro Hy4
  iapply (retB c rfl)
  iapply Hk $$ [Hwe4 Hew1 Hy3 Hy4 Heq1 HHO Heb0]
  isplitl [Hwe4]; · iexact Hwe4
  isplitl [Hew1]; · iexact Hew1
  isplitl [Hy3]; · iexact Hy3
  isplitl [Hy4]; · iexact Hy4
  isplitl [Heq1]; · iexact Heq1
  isplitl [HHO]; · iexact HHO
  iexact Heb0

theorem part9  {Q : PUnit → sProp 𝕄} :
    iprop(env m K ∗ owns (c : Thread nD τ) (weS 7) fullShare (wV m c 7) ∗ owns (c : Thread nD τ) (ewS 1) fullShare (wV m c 4) ∗ tok c (ewK 1) 2 false ∗ ewIdle c 1 2 ∗ ewBusy c 2 1 ∗ owesW c 2 ∗ anyOwns c (yS 5) ∗ ewBusy c 0 2
        ∗ (iprop(owns (c : Thread nD τ) (weS 5) fullShare (wV m c 5) ∗ owns (c : Thread nD τ) (weS 6) fullShare (wV m c 6) ∗ owns (c : Thread nD τ) (ewS 0) fullShare (wV m c 6) ∗ owns (c : Thread nD τ) (ewS 2) fullShare (wV m c 5) ∗ owns (c : Thread nD τ) (yS 5) fullShare (yV m c 5) ∗ ewIdle c 0 3 ∗ ewIdle c 2 2 ∗ owesW c 2 ∗ ewBusy c 1 2) -∗ Q ⟨⟩))
      ⊢ wpB c (k0_part9 xM (Memref.isWhole_whole _) rwM (Memref.isWhole_whole _) riM (Memref.isWhole_whole _) weM (Memref.isWhole_whole _) swM (Memref.isWhole_whole _) outM (Memref.isWhole_whole _) ewM (Memref.isWhole_whole _) gtM (Memref.isWhole_whole _) yM (Memref.isWhole_whole _) rsM (Memref.isWhole_whole _) rrM (Memref.isWhole_whole _) lsM (Memref.isWhole_whole _) lrM (Memref.isWhole_whole _) arM (Memref.isWhole_whole _) alM (Memref.isWhole_whole _) cc0_scratch9 cc0_scratch10 cc0_scratch11 cc0_scratch12 cc0_scratch13 cc0_scratch14 cc0_scratch15 cc0_scratch16 cc0_scratch17 (coefV m c) (xgV m c)) Q := by
  rw [k0_part9_eq_skeleton]; unfold k0_part9_skel
  simp only [semSignalWord, semWaitWord, Prog.lift, Prog.bind_op, Prog.bind_ret, Prog.pure_eq_ret, wp_deviceId]
  iintro ⟨#He, Hwe7, Hew1, Het7, Heq1, Heb2, HHO, ⟨%Xy5, Hy5⟩, Heb0, Hk⟩
  iapply (cp m K c 1 7 2 rfl rfl) $$ [Hwe7 Hew1 Het7 Heq1]
  · isplitr; · iexact He
    isplitl [Hwe7]; · iexact Hwe7
    isplitl [Hew1]; · iexists _; iexact Hew1
    isplitl [Het7]; · iexact Het7
    iexact Heq1
  iintro Heb1
  iapply (wtE m K c 2 5 1 rfl 2 rfl (by decide) rfl) $$ [Heb2 HHO]
  · isplitr; · iexact He
    isplitl [Heb2]; · iexact Heb2
    iexact HHO
  iintro ⟨Heq2, Hew2, Hwe5, HHO⟩
  iapply (ld_at c ewM _ ![(2 : Fin 3).val, 0, 0] rfl (inbW 2)) $$ Hew2; iintro Hew2
  iapply (ld_at c yM _ ![64 * (5 : Fin 8).val, 0] rfl (inbY 5)) $$ Hy5; iintro Hy5
  iapply (st_at c yM _ ![64 * (5 : Fin 8).val, 0] rfl (inbY 5) (w' := yV m c 5) rfl) $$ Hy5; iintro Hy5
  iapply (wtE m K c 0 6 2 rfl 2 rfl (by decide) rfl) $$ [Heb0 HHO]
  · isplitr; · iexact He
    isplitl [Heb0]; · iexact Heb0
    iexact HHO
  iintro ⟨Heq0, Hew0, Hwe6, HHO⟩
  iapply (retB c rfl)
  iapply Hk $$ [Hwe5 Hwe6 Hew0 Hew2 Hy5 Heq0 Heq2 HHO Heb1]
  isplitl [Hwe5]; · iexact Hwe5
  isplitl [Hwe6]; · iexact Hwe6
  isplitl [Hew0]; · iexact Hew0
  isplitl [Hew2]; · iexact Hew2
  isplitl [Hy5]; · iexact Hy5
  isplitl [Heq0]; · iexact Heq0
  isplitl [Heq2]; · iexact Heq2
  isplitl [HHO]; · iexact HHO
  iexact Heb1

theorem part10 (v2 : BitVec 32) {Q : (Σ' (v338 : BitVec 32) (c8_i32_207 : BitVec 32) (v339 : BitVec 1), BitVec 32) → sProp 𝕄} :
    iprop(env m K ∗ owns (c : Thread nD τ) (ewS 0) fullShare (wV m c 6) ∗ anyOwns c (yS 6) ∗ ewBusy c 1 2 ∗ owesW c 2 ∗ anyOwns c (yS 7)
        ∗ (∀ (r0 : BitVec 32) (r1 : BitVec 32) (r2 : BitVec 1) (r3 : BitVec 32), iprop(owns (c : Thread nD τ) (weS 7) fullShare (wV m c 7) ∗ owns (c : Thread nD τ) (ewS 0) fullShare (wV m c 6) ∗ owns (c : Thread nD τ) (ewS 1) fullShare (wV m c 7) ∗ owns (c : Thread nD τ) (yS 6) fullShare (yV m c 6) ∗ owns (c : Thread nD τ) (yS 7) fullShare (yV m c 7) ∗ ewIdle c 1 3 ∗ owesW c 2) -∗ Q ⟨r0, r1, r2, r3⟩))
      ⊢ wpB c (k0_part10 xM (Memref.isWhole_whole _) rwM (Memref.isWhole_whole _) riM (Memref.isWhole_whole _) weM (Memref.isWhole_whole _) swM (Memref.isWhole_whole _) outM (Memref.isWhole_whole _) ewM (Memref.isWhole_whole _) gtM (Memref.isWhole_whole _) yM (Memref.isWhole_whole _) rsM (Memref.isWhole_whole _) rrM (Memref.isWhole_whole _) lsM (Memref.isWhole_whole _) lrM (Memref.isWhole_whole _) arM (Memref.isWhole_whole _) alM (Memref.isWhole_whole _) cc0_scratch9 cc0_scratch10 cc0_scratch11 cc0_scratch12 cc0_scratch13 cc0_scratch14 cc0_scratch15 cc0_scratch16 cc0_scratch17 v2 (coefV m c) (xgV m c)) Q := by
  rw [k0_part10_eq_skeleton]; unfold k0_part10_skel
  simp only [semSignalWord, semWaitWord, Prog.lift, Prog.bind_op, Prog.bind_ret, Prog.pure_eq_ret, wp_deviceId]
  iintro ⟨#He, Hew0, ⟨%Xy6, Hy6⟩, Heb1, HHO, ⟨%Xy7, Hy7⟩, Hk⟩
  iapply (ld_at c ewM _ ![(0 : Fin 3).val, 0, 0] rfl (inbW 0)) $$ Hew0; iintro Hew0
  iapply (ld_at c yM _ ![64 * (6 : Fin 8).val, 0] rfl (inbY 6)) $$ Hy6; iintro Hy6
  iapply (st_at c yM _ ![64 * (6 : Fin 8).val, 0] rfl (inbY 6) (w' := yV m c 6) rfl) $$ Hy6; iintro Hy6
  iapply (wtE m K c 1 7 2 rfl 2 rfl (by decide) rfl) $$ [Heb1 HHO]
  · isplitr; · iexact He
    isplitl [Heb1]; · iexact Heb1
    iexact HHO
  iintro ⟨Heq1, Hew1, Hwe7, HHO⟩
  iapply (ld_at c ewM _ ![(1 : Fin 3).val, 0, 0] rfl (inbW 1)) $$ Hew1; iintro Hew1
  iapply (ld_at c yM _ ![64 * (7 : Fin 8).val, 0] rfl (inbY 7)) $$ Hy7; iintro Hy7
  iapply (st_at c yM _ ![64 * (7 : Fin 8).val, 0] rfl (inbY 7) (w' := yV m c 7) rfl) $$ Hy7; iintro Hy7
  iapply (retB c rfl)
  iapply Hk $$ [Hwe7 Hew0 Hew1 Hy6 Hy7 Heq1 HHO]
  isplitl [Hwe7]; · iexact Hwe7
  isplitl [Hew0]; · iexact Hew0
  isplitl [Hew1]; · iexact Hew1
  isplitl [Hy6]; · iexact Hy6
  isplitl [Hy7]; · iexact Hy7
  isplitl [Heq1]; · iexact Heq1
  iexact HHO

end Cert.MoeRing

end
-- ==== Proof.PartsC.lean ====
/-
The body of the kernel: the first steps of the reduction round the ring.
-/
module

public import proofs.«01_k».proof.Proof.Rows

@[expose] public section

noncomputable section

namespace Cert.MoeRing

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

set_option maxHeartbeats 1000000

variable {F : FTy → Type} [FloatOps F]

local notation "𝕄" => MT nD τ sig Unit (Elt F) ℕ UU ℕ

variable (m : (ℓ : Loc nD τ sig) → Buf (Elt F) ℓ) (K : Dev nD × Fin 32 → ℕ) (c : Dev nD)

theorem part11 (v2 : BitVec 32) (v338 : BitVec 32) (c8_i32_207 : BitVec 32) (v339 : BitVec 1) (c1_i32_209 : BitVec 32) {Q : (Σ' (v370 : BitVec 32) (v371 : BitVec 32) (v372 : BitVec 1) (v373 : BitVec 1), BitVec 1) → sProp 𝕄} :
    iprop(env m K ∗ owns (c : Thread nD τ) (gtM) fullShare (gtV m c) ∗ owns (c : Thread nD τ) (yM) fullShare (ybV m c) ∗ anyOwns c (outS (rowR c 0))
        ∗ (∀ (r0 : BitVec 32) (r1 : BitVec 32) (r2 : BitVec 1) (r3 : BitVec 1) (r4 : BitVec 1), iprop(owns (c : Thread nD τ) (outS (rowR c 0)) fullShare (partV m c (rowR c 0)) ∗ owns (c : Thread nD τ) (gtM) fullShare (gtV m c) ∗ owns (c : Thread nD τ) (yM) fullShare (ybV m c)) -∗ Q ⟨r0, r1, r2, r3, r4⟩))
      ⊢ wpB c (k0_part11 xM (Memref.isWhole_whole _) rwM (Memref.isWhole_whole _) riM (Memref.isWhole_whole _) weM (Memref.isWhole_whole _) swM (Memref.isWhole_whole _) outM (Memref.isWhole_whole _) ewM (Memref.isWhole_whole _) gtM (Memref.isWhole_whole _) yM (Memref.isWhole_whole _) rsM (Memref.isWhole_whole _) rrM (Memref.isWhole_whole _) lsM (Memref.isWhole_whole _) lrM (Memref.isWhole_whole _) arM (Memref.isWhole_whole _) alM (Memref.isWhole_whole _) cc0_scratch9 cc0_scratch10 cc0_scratch11 cc0_scratch12 cc0_scratch13 cc0_scratch14 cc0_scratch15 cc0_scratch16 cc0_scratch17 c v2 v338 c8_i32_207 v339 c1_i32_209) Q := by
  rw [k0_part11_eq_skeleton]; unfold k0_part11_skel
  simp only [semSignalWord, semWaitWord, Prog.lift, Prog.bind_op, Prog.bind_ret, Prog.pure_eq_ret, wp_deviceId]
  iintro ⟨#He, Hgt, Hy, ⟨%XOR0, HOR0⟩, Hk⟩
  iapply (ld_gt m c (rowR c 0) _ (off1_eq c 0)) $$ Hgt; iintro Hgt
  iapply (ld_all c yM _ z2) $$ Hy; iintro Hy
  iapply (ld_at c outM _ ![256 * (rowR c 0 : Fin 8).val, 0] (off2_eq c 0) (inbO (rowR c 0))) $$ HOR0; iintro HOR0
  iapply (st_at c outM _ ![256 * (rowR c 0 : Fin 8).val, 0] (off2_eq c 0) (inbO (rowR c 0)) (w' := partV m c (rowR c 0)) rfl) $$ HOR0; iintro HOR0
  iapply (retB c rfl)
  iapply Hk $$ [HOR0 Hgt Hy]
  isplitl [HOR0]; · iexact HOR0
  isplitl [Hgt]; · iexact Hgt
  iexact Hy

theorem part12 (v2 : BitVec 32) (v24 : BitVec 32) (v370 : BitVec 32) (v371 : BitVec 32) (v372 : BitVec 1) (v373 : BitVec 1) (v374 : BitVec 1) {Q : (Σ' (v398 : BitVec 32) (v408 : BitVec 32), BitVec 32) → sProp 𝕄} :
    iprop(env m K ∗ owns (c : Thread nD τ) (outS (rowR c 0)) fullShare (partV m c (rowR c 0)) ∗ anyOwns c (rsS 0) ∗ anyOwns (right c) (rrS 0) ∗ tok c 4 0 false ∗ tok (right c) 8 0 false ∗ idle c 4 ∗ owesW c 2
        ∗ (∀ (r0 : BitVec 32) (r1 : BitVec 32) (r2 : BitVec 32), iprop(owns (c : Thread nD τ) (outS (rowR c 0)) fullShare (partV m c (rowR c 0)) ∗ owesW c 3 ∗ pending c 4) -∗ Q ⟨r0, r1, r2⟩))
      ⊢ wpB c (k0_part12 xM (Memref.isWhole_whole _) rwM (Memref.isWhole_whole _) riM (Memref.isWhole_whole _) weM (Memref.isWhole_whole _) swM (Memref.isWhole_whole _) outM (Memref.isWhole_whole _) ewM (Memref.isWhole_whole _) gtM (Memref.isWhole_whole _) yM (Memref.isWhole_whole _) rsM (Memref.isWhole_whole _) rrM (Memref.isWhole_whole _) lsM (Memref.isWhole_whole _) lrM (Memref.isWhole_whole _) arM (Memref.isWhole_whole _) alM (Memref.isWhole_whole _) cc0_scratch9 cc0_scratch10 cc0_scratch11 cc0_scratch12 cc0_scratch13 cc0_scratch14 cc0_scratch15 cc0_scratch16 cc0_scratch17 c v2 v24 v370 v371 v372 v373 v374) Q := by
  rw [k0_part12_eq_skeleton]; unfold k0_part12_skel
  simp only [semSignalWord, semWaitWord, Prog.lift, Prog.bind_op, Prog.bind_ret, Prog.pure_eq_ret, wp_deviceId]
  iintro ⟨#He, HOR0, ⟨%Xrs0, Hrs0⟩, Hdst_rr0, Hts_rs0, Htr_rr0, His_rs0, HHO, Hk⟩
  iapply (ld_at c outM _ ![256 * (rowR c 0 : Fin 8).val, 0] (off2_eq c 0) (inbO (rowR c 0))) $$ HOR0; iintro HOR0
  iapply (ld_at c rsM _ ![(0 : Fin 4).val, 0, 0] rfl (inb4 0)) $$ Hrs0; iintro Hrs0
  iapply (st_at c rsM _ ![(0 : Fin 4).val, 0, 0] rfl (inb4 0) (w' := sendR m 0 c) rfl) $$ Hrs0; iintro Hrs0
  iapply (snd m K c _ (right c) (dev3_eq c) 4 8 2 rfl rfl (by decide) (by decide) rfl (congrArg (fun z : Dev nD => (owns ((right c : Dev nD) : Thread nD τ) (rrS 0) fullShare (sendR m 0 z : FVec F S1x256x1024 .bf16) : sProp 𝕄)) (left_right c)) rfl rfl) $$ [Hrs0 Hdst_rr0 Hts_rs0 Htr_rr0 His_rs0 HHO]
  · isplitr; · iexact He
    isplitl [Hrs0]; · iexact Hrs0
    isplitl [Hdst_rr0]; · iexact Hdst_rr0
    isplitl [Hts_rs0]; · iexact Hts_rs0
    isplitl [Htr_rr0]; · iexact Htr_rr0
    isplitl [His_rs0]; · iexact His_rs0
    iexact HHO
  iintro ⟨Hps_rs0, HHO⟩
  iapply (retB c rfl)
  iapply Hk $$ [HOR0 HHO Hps_rs0]
  isplitl [HOR0]; · iexact HOR0
  isplitl [HHO]; · iexact HHO
  iexact Hps_rs0

theorem part13 (v2 : BitVec 32) (v398 : BitVec 32) (v408 : BitVec 32) (c256_i32_256 : BitVec 32) {Q : FVec F S256x1024 .bf16 → sProp 𝕄} :
    iprop(env m K ∗ owns (c : Thread nD τ) (gtM) fullShare (gtV m c) ∗ owns (c : Thread nD τ) (yM) fullShare (ybV m c) ∗ anyOwns c (outS (rowL c 0))
        ∗ (iprop(owns (c : Thread nD τ) (outS (rowL c 0)) fullShare (partV m c (rowL c 0)) ∗ owns (c : Thread nD τ) (gtM) fullShare (gtV m c) ∗ owns (c : Thread nD τ) (yM) fullShare (ybV m c)) -∗ Q (k0_pay26 (partV m c (rowL c 0)))))
      ⊢ wpB c (k0_part13 xM (Memref.isWhole_whole _) rwM (Memref.isWhole_whole _) riM (Memref.isWhole_whole _) weM (Memref.isWhole_whole _) swM (Memref.isWhole_whole _) outM (Memref.isWhole_whole _) ewM (Memref.isWhole_whole _) gtM (Memref.isWhole_whole _) yM (Memref.isWhole_whole _) rsM (Memref.isWhole_whole _) rrM (Memref.isWhole_whole _) lsM (Memref.isWhole_whole _) lrM (Memref.isWhole_whole _) arM (Memref.isWhole_whole _) alM (Memref.isWhole_whole _) cc0_scratch9 cc0_scratch10 cc0_scratch11 cc0_scratch12 cc0_scratch13 cc0_scratch14 cc0_scratch15 cc0_scratch16 cc0_scratch17 c v2 v398 v408 c256_i32_256) Q := by
  rw [k0_part13_eq_skeleton]; unfold k0_part13_skel
  simp only [semSignalWord, semWaitWord, Prog.lift, Prog.bind_op, Prog.bind_ret, Prog.pure_eq_ret, wp_deviceId]
  iintro ⟨#He, Hgt, Hy, ⟨%XOL0, HOL0⟩, Hk⟩
  iapply (ld_gt m c (rowL c 0) _ (off3_eq c 0)) $$ Hgt; iintro Hgt
  iapply (ld_all c yM _ z2) $$ Hy; iintro Hy
  iapply (ld_at c outM _ ![256 * (rowL c 0 : Fin 8).val, 0] (off4_eq c 0) (inbO (rowL c 0))) $$ HOL0; iintro HOL0
  iapply (st_at c outM _ ![256 * (rowL c 0 : Fin 8).val, 0] (off4_eq c 0) (inbO (rowL c 0)) (w' := partV m c (rowL c 0)) (pay25_eq _ _)) $$ HOL0; iintro HOL0
  iapply (ld_at c outM _ ![256 * (rowL c 0 : Fin 8).val, 0] (off4_eq c 0) (inbO (rowL c 0))) $$ HOL0; iintro HOL0
  iapply (retB c (a' := (k0_pay26 (partV m c (rowL c 0)))) rfl)
  iapply Hk $$ [HOL0 Hgt Hy]
  isplitl [HOL0]; · iexact HOL0
  isplitl [Hgt]; · iexact Hgt
  iexact Hy

theorem part14 (v2 : BitVec 32) (v13 : BitVec 32) {Q : (Σ' (v458 : BitVec 32) (v473 : FVec F S256x1024 .f32) (c8_i32_305 : BitVec 32) (v474 : BitVec 1), BitVec 32) → sProp 𝕄} :
    iprop(env m K ∗ anyOwns c (lsS 0) ∗ anyOwns (left c) (lrS 0) ∗ tok c 12 0 false ∗ tok (left c) 15 0 false ∗ idle c 12 ∗ owesW c 3 ∗ owns (c : Thread nD τ) (gtM) fullShare (gtV m c) ∗ owns (c : Thread nD τ) (yM) fullShare (ybV m c)
        ∗ (∀ (r0 : BitVec 32) (r2 : BitVec 32) (r3 : BitVec 1) (r4 : BitVec 32), iprop(owns (c : Thread nD τ) (gtM) fullShare (gtV m c) ∗ owesW c 4 ∗ owns (c : Thread nD τ) (yM) fullShare (ybV m c) ∗ pending c 12) -∗ Q ⟨r0, k0_pay28 (gtR m c (rowR c 1)) (ybV m c), r2, r3, r4⟩))
      ⊢ wpB c (k0_part14 xM (Memref.isWhole_whole _) rwM (Memref.isWhole_whole _) riM (Memref.isWhole_whole _) weM (Memref.isWhole_whole _) swM (Memref.isWhole_whole _) outM (Memref.isWhole_whole _) ewM (Memref.isWhole_whole _) gtM (Memref.isWhole_whole _) yM (Memref.isWhole_whole _) rsM (Memref.isWhole_whole _) rrM (Memref.isWhole_whole _) lsM (Memref.isWhole_whole _) lrM (Memref.isWhole_whole _) arM (Memref.isWhole_whole _) alM (Memref.isWhole_whole _) cc0_scratch9 cc0_scratch10 cc0_scratch11 cc0_scratch12 cc0_scratch13 cc0_scratch14 cc0_scratch15 cc0_scratch16 cc0_scratch17 c v2 v13 (k0_pay26 (partV m c (rowL c 0)))) Q := by
  rw [k0_part14_eq_skeleton]; unfold k0_part14_skel
  simp only [semSignalWord, semWaitWord, Prog.lift, Prog.bind_op, Prog.bind_ret, Prog.pure_eq_ret, wp_deviceId]
  iintro ⟨#He, ⟨%Xls0, Hls0⟩, Hdst_lr0, Hts_ls0, Htr_lr0, His_ls0, HHO, Hgt, Hy, Hk⟩
  iapply (ld_at c lsM _ ![(0 : Fin 3).val, 0, 0] rfl (inb3 0)) $$ Hls0; iintro Hls0
  iapply (st_at c lsM _ ![(0 : Fin 3).val, 0, 0] rfl (inb3 0) (w' := sendL m 0 c) rfl) $$ Hls0; iintro Hls0
  iapply (snd m K c _ (left c) (dev4_eq c) 12 15 3 rfl rfl (by decide) (by decide) rfl (congrArg (fun z : Dev nD => (owns ((left c : Dev nD) : Thread nD τ) (lrS 0) fullShare (sendL m 0 z : FVec F S1x256x1024 .bf16) : sProp 𝕄)) (right_left c)) rfl rfl) $$ [Hls0 Hdst_lr0 Hts_ls0 Htr_lr0 His_ls0 HHO]
  · isplitr; · iexact He
    isplitl [Hls0]; · iexact Hls0
    isplitl [Hdst_lr0]; · iexact Hdst_lr0
    isplitl [Hts_ls0]; · iexact Hts_ls0
    isplitl [Htr_lr0]; · iexact Htr_lr0
    isplitl [His_ls0]; · iexact His_ls0
    iexact HHO
  iintro ⟨Hps_ls0, HHO⟩
  iapply (ld_gt m c (rowR c 1) _ (off1_eq c 1)) $$ Hgt; iintro Hgt
  iapply (ld_all c yM _ z2) $$ Hy; iintro Hy
  iapply (retB c rfl)
  iapply Hk $$ [Hgt HHO Hy Hps_ls0]
  isplitl [Hgt]; · iexact Hgt
  isplitl [HHO]; · iexact HHO
  isplitl [Hy]; · iexact Hy
  iexact Hps_ls0

theorem part15 (v2 : BitVec 32) (v458 : BitVec 32) (c8_i32_305 : BitVec 32) (v474 : BitVec 1) (c1_i32_307 : BitVec 32) {Q : (Σ' (v503 : FVec F S256x1024 .f32) (v505 : BitVec 32) (v506 : BitVec 32) (v507 : BitVec 1) (v508 : BitVec 1), BitVec 1) → sProp 𝕄} :
    iprop(env m K ∗ anyOwns c (outS (rowR c 1)) ∗ owns (c : Thread nD τ) (gtM) fullShare (gtV m c) ∗ owns (c : Thread nD τ) (yM) fullShare (ybV m c)
        ∗ (∀ (r1 : BitVec 32) (r2 : BitVec 32) (r3 : BitVec 1) (r4 : BitVec 1) (r5 : BitVec 1), iprop(owns (c : Thread nD τ) (outS (rowR c 1)) fullShare (partV m c (rowR c 1)) ∗ owns (c : Thread nD τ) (gtM) fullShare (gtV m c) ∗ owns (c : Thread nD τ) (yM) fullShare (ybV m c)) -∗ Q ⟨k0_pay29 (gtR m c (rowL c 1)) (ybV m c), r1, r2, r3, r4, r5⟩))
      ⊢ wpB c (k0_part15 xM (Memref.isWhole_whole _) rwM (Memref.isWhole_whole _) riM (Memref.isWhole_whole _) weM (Memref.isWhole_whole _) swM (Memref.isWhole_whole _) outM (Memref.isWhole_whole _) ewM (Memref.isWhole_whole _) gtM (Memref.isWhole_whole _) yM (Memref.isWhole_whole _) rsM (Memref.isWhole_whole _) rrM (Memref.isWhole_whole _) lsM (Memref.isWhole_whole _) lrM (Memref.isWhole_whole _) arM (Memref.isWhole_whole _) alM (Memref.isWhole_whole _) cc0_scratch9 cc0_scratch10 cc0_scratch11 cc0_scratch12 cc0_scratch13 cc0_scratch14 cc0_scratch15 cc0_scratch16 cc0_scratch17 c v2 v458 (k0_pay28 (gtR m c (rowR c 1)) (ybV m c)) c8_i32_305 v474 c1_i32_307) Q := by
  rw [k0_part15_eq_skeleton]; unfold k0_part15_skel
  simp only [semSignalWord, semWaitWord, Prog.lift, Prog.bind_op, Prog.bind_ret, Prog.pure_eq_ret, wp_deviceId]
  iintro ⟨#He, ⟨%XOR1, HOR1⟩, Hgt, Hy, Hk⟩
  iapply (ld_at c outM _ ![256 * (rowR c 1 : Fin 8).val, 0] (off2_eq c 1) (inbO (rowR c 1))) $$ HOR1; iintro HOR1
  iapply (st_at c outM _ ![256 * (rowR c 1 : Fin 8).val, 0] (off2_eq c 1) (inbO (rowR c 1)) (w' := partV m c (rowR c 1)) (pay28_eq _ _)) $$ HOR1; iintro HOR1
  iapply (ld_gt m c (rowL c 1) _ (off3_eq c 1)) $$ Hgt; iintro Hgt
  iapply (ld_all c yM _ z2) $$ Hy; iintro Hy
  iapply (retB c rfl)
  iapply Hk $$ [HOR1 Hgt Hy]
  isplitl [HOR1]; · iexact HOR1
  isplitl [Hgt]; · iexact Hgt
  iexact Hy

theorem part16 (v2 : BitVec 32) (v24 : BitVec 32) (v505 : BitVec 32) (v506 : BitVec 32) (v507 : BitVec 1) (v508 : BitVec 1) (v509 : BitVec 1) {Q : (Σ' (v540 : FVec F S256x1024 .f32), FVec F S256x1024 .bf16) → sProp 𝕄} :
    iprop(env m K ∗ anyOwns c (outS (rowL c 1)) ∗ pending c 8 ∗ owesW c 4 ∗ owns (c : Thread nD τ) (outS (rowR c 1)) fullShare (partV m c (rowR c 1))
        ∗ (iprop(owns (c : Thread nD τ) (outS (rowR c 1)) fullShare (partV m c (rowR c 1)) ∗ owns (c : Thread nD τ) (outS (rowL c 1)) fullShare (partV m c (rowL c 1)) ∗ owesW c 4 ∗ owns (c : Thread nD τ) (rrS 0) fullShare (sendR m 0 (left c)) ∗ done c 8) -∗ Q ⟨k0_pay30 (partV m c (rowR c 1)), k0_pay31 (sendR m 0 (left c))⟩))
      ⊢ wpB c (k0_part16 xM (Memref.isWhole_whole _) rwM (Memref.isWhole_whole _) riM (Memref.isWhole_whole _) weM (Memref.isWhole_whole _) swM (Memref.isWhole_whole _) outM (Memref.isWhole_whole _) ewM (Memref.isWhole_whole _) gtM (Memref.isWhole_whole _) yM (Memref.isWhole_whole _) rsM (Memref.isWhole_whole _) rrM (Memref.isWhole_whole _) lsM (Memref.isWhole_whole _) lrM (Memref.isWhole_whole _) arM (Memref.isWhole_whole _) alM (Memref.isWhole_whole _) cc0_scratch9 cc0_scratch10 cc0_scratch11 cc0_scratch12 cc0_scratch13 cc0_scratch14 cc0_scratch15 cc0_scratch16 cc0_scratch17 c v2 v24 (k0_pay29 (gtR m c (rowL c 1)) (ybV m c)) v505 v506 v507 v508 v509) Q := by
  rw [k0_part16_eq_skeleton]; unfold k0_part16_skel
  simp only [semSignalWord, semWaitWord, Prog.lift, Prog.bind_op, Prog.bind_ret, Prog.pure_eq_ret, wp_deviceId]
  iintro ⟨#He, ⟨%XOL1, HOL1⟩, Hpr_rr0, HHO, HOR1, Hk⟩
  iapply (ld_at c outM _ ![256 * (rowL c 1 : Fin 8).val, 0] (off4_eq c 1) (inbO (rowL c 1))) $$ HOL1; iintro HOL1
  iapply (st_at c outM _ ![256 * (rowL c 1 : Fin 8).val, 0] (off4_eq c 1) (inbO (rowL c 1)) (w' := partV m c (rowL c 1)) (pay29_eq _ _)) $$ HOL1; iintro HOL1
  iapply (wt m K c 8 4 (rrS 0) (P := owns (c : Thread nD τ) (rrS 0) fullShare (sendR m 0 (left c))) (by decide) rfl rfl (by decide) rfl) $$ [Hpr_rr0 HHO]
  · isplitr; · iexact He
    isplitl [Hpr_rr0]; · iexact Hpr_rr0
    iexact HHO
  iintro ⟨Hrr0, Hd8, HHO⟩
  iapply (ld_at c outM _ ![256 * (rowR c 1 : Fin 8).val, 0] (off2_eq c 1) (inbO (rowR c 1))) $$ HOR1; iintro HOR1
  iapply (ld_at c rrM _ ![(0 : Fin 4).val, 0, 0] rfl (inb4 0)) $$ Hrr0; iintro Hrr0
  iapply (retB c (a' := ⟨k0_pay30 (partV m c (rowR c 1)), k0_pay31 (sendR m 0 (left c))⟩) rfl)
  iapply Hk $$ [HOR1 HOL1 HHO Hrr0 Hd8]
  isplitl [HOR1]; · iexact HOR1
  isplitl [HOL1]; · iexact HOL1
  isplitl [HHO]; · iexact HHO
  isplitl [Hrr0]; · iexact Hrr0
  iexact Hd8

theorem part17 (v2 : BitVec 32) (v13 : BitVec 32) (v24 : BitVec 32) {Q : (Σ' (v570 : BitVec 32), BitVec 32) → sProp 𝕄} :
    iprop(env m K ∗ anyOwns c (rsS 1) ∗ anyOwns (right c) (rrS 1) ∗ tok c 5 0 false ∗ tok (right c) 9 0 false ∗ idle c 5 ∗ owesW c 4 ∗ pending c 15
        ∗ (∀ (r0 : BitVec 32) (r1 : BitVec 32), iprop(owesW c 5 ∗ pending c 5 ∗ owns (c : Thread nD τ) (lrS 0) fullShare (sendL m 0 (right c)) ∗ done c 15) -∗ Q ⟨r0, r1⟩))
      ⊢ wpB c (k0_part17 xM (Memref.isWhole_whole _) rwM (Memref.isWhole_whole _) riM (Memref.isWhole_whole _) weM (Memref.isWhole_whole _) swM (Memref.isWhole_whole _) outM (Memref.isWhole_whole _) ewM (Memref.isWhole_whole _) gtM (Memref.isWhole_whole _) yM (Memref.isWhole_whole _) rsM (Memref.isWhole_whole _) rrM (Memref.isWhole_whole _) lsM (Memref.isWhole_whole _) lrM (Memref.isWhole_whole _) arM (Memref.isWhole_whole _) alM (Memref.isWhole_whole _) cc0_scratch9 cc0_scratch10 cc0_scratch11 cc0_scratch12 cc0_scratch13 cc0_scratch14 cc0_scratch15 cc0_scratch16 cc0_scratch17 c v2 v13 v24 (k0_pay30 (partV m c (rowR c 1))) (k0_pay31 (sendR m 0 (left c)))) Q := by
  rw [k0_part17_eq_skeleton]; unfold k0_part17_skel
  simp only [semSignalWord, semWaitWord, Prog.lift, Prog.bind_op, Prog.bind_ret, Prog.pure_eq_ret, wp_deviceId]
  iintro ⟨#He, ⟨%Xrs1, Hrs1⟩, Hdst_rr1, Hts_rs1, Htr_rr1, His_rs1, HHO, Hpr_lr0, Hk⟩
  iapply (ld_at c rsM _ ![(1 : Fin 4).val, 0, 0] rfl (inb4 1)) $$ Hrs1; iintro Hrs1
  iapply (st_at c rsM _ ![(1 : Fin 4).val, 0, 0] rfl (inb4 1) (w' := sendR m 1 c) (pay32_eq _ _)) $$ Hrs1; iintro Hrs1
  iapply (snd m K c _ (right c) (dev5_eq c) 5 9 4 rfl rfl (by decide) (by decide) rfl (congrArg (fun z : Dev nD => (owns ((right c : Dev nD) : Thread nD τ) (rrS 1) fullShare (sendR m 1 z : FVec F S1x256x1024 .bf16) : sProp 𝕄)) (left_right c)) rfl rfl) $$ [Hrs1 Hdst_rr1 Hts_rs1 Htr_rr1 His_rs1 HHO]
  · isplitr; · iexact He
    isplitl [Hrs1]; · iexact Hrs1
    isplitl [Hdst_rr1]; · iexact Hdst_rr1
    isplitl [Hts_rs1]; · iexact Hts_rs1
    isplitl [Htr_rr1]; · iexact Htr_rr1
    isplitl [His_rs1]; · iexact His_rs1
    iexact HHO
  iintro ⟨Hps_rs1, HHO⟩
  iapply (wt m K c 15 5 (lrS 0) (P := owns (c : Thread nD τ) (lrS 0) fullShare (sendL m 0 (right c))) (by decide) rfl rfl (by decide) rfl) $$ [Hpr_lr0 HHO]
  · isplitr; · iexact He
    isplitl [Hpr_lr0]; · iexact Hpr_lr0
    iexact HHO
  iintro ⟨Hlr0, Hd15, HHO⟩
  iapply (retB c rfl)
  iapply Hk $$ [HHO Hps_rs1 Hlr0 Hd15]
  isplitl [HHO]; · iexact HHO
  isplitl [Hps_rs1]; · iexact Hps_rs1
  isplitl [Hlr0]; · iexact Hlr0
  iexact Hd15

end Cert.MoeRing

end
-- ==== Proof.PartsD.lean ====
/-
The body of the kernel: the middle steps of the reduction.
-/
module

public import proofs.«01_k».proof.Proof.Rows

@[expose] public section

noncomputable section

namespace Cert.MoeRing

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

set_option maxHeartbeats 1000000

variable {F : FTy → Type} [FloatOps F]

local notation "𝕄" => MT nD τ sig Unit (Elt F) ℕ UU ℕ

variable (m : (ℓ : Loc nD τ sig) → Buf (Elt F) ℓ) (K : Dev nD × Fin 32 → ℕ) (c : Dev nD)

theorem part18 (v2 : BitVec 32) (v13 : BitVec 32) (v570 : BitVec 32) (v571 : BitVec 32) {Q : (Σ' (v602 : BitVec 32) (c8_i32_408 : BitVec 32) (v603 : BitVec 1), BitVec 32) → sProp 𝕄} :
    iprop(env m K ∗ owns (c : Thread nD τ) (outS (rowL c 1)) fullShare (partV m c (rowL c 1)) ∗ owns (c : Thread nD τ) (lrS 0) fullShare (sendL m 0 (right c)) ∗ anyOwns c (lsS 1) ∗ anyOwns (left c) (lrS 1) ∗ tok c 13 0 false ∗ tok (left c) 16 0 false ∗ idle c 13 ∗ owesW c 5
        ∗ (∀ (r0 : BitVec 32) (r1 : BitVec 32) (r2 : BitVec 1) (r3 : BitVec 32), iprop(owns (c : Thread nD τ) (outS (rowL c 1)) fullShare (partV m c (rowL c 1)) ∗ owesW c 6 ∗ owns (c : Thread nD τ) (lrS 0) fullShare (sendL m 0 (right c)) ∗ pending c 13) -∗ Q ⟨r0, r1, r2, r3⟩))
      ⊢ wpB c (k0_part18 xM (Memref.isWhole_whole _) rwM (Memref.isWhole_whole _) riM (Memref.isWhole_whole _) weM (Memref.isWhole_whole _) swM (Memref.isWhole_whole _) outM (Memref.isWhole_whole _) ewM (Memref.isWhole_whole _) gtM (Memref.isWhole_whole _) yM (Memref.isWhole_whole _) rsM (Memref.isWhole_whole _) rrM (Memref.isWhole_whole _) lsM (Memref.isWhole_whole _) lrM (Memref.isWhole_whole _) arM (Memref.isWhole_whole _) alM (Memref.isWhole_whole _) cc0_scratch9 cc0_scratch10 cc0_scratch11 cc0_scratch12 cc0_scratch13 cc0_scratch14 cc0_scratch15 cc0_scratch16 cc0_scratch17 c v2 v13 v570 v571) Q := by
  rw [k0_part18_eq_skeleton]; unfold k0_part18_skel
  simp only [semSignalWord, semWaitWord, Prog.lift, Prog.bind_op, Prog.bind_ret, Prog.pure_eq_ret, wp_deviceId]
  iintro ⟨#He, HOL1, Hlr0, ⟨%Xls1, Hls1⟩, Hdst_lr1, Hts_ls1, Htr_lr1, His_ls1, HHO, Hk⟩
  iapply (ld_at c outM _ ![256 * (rowL c 1 : Fin 8).val, 0] (off4_eq c 1) (inbO (rowL c 1))) $$ HOL1; iintro HOL1
  iapply (ld_at c lrM _ ![(0 : Fin 3).val, 0, 0] rfl (inb3 0)) $$ Hlr0; iintro Hlr0
  iapply (ld_at c lsM _ ![(1 : Fin 3).val, 0, 0] rfl (inb3 1)) $$ Hls1; iintro Hls1
  iapply (st_at c lsM _ ![(1 : Fin 3).val, 0, 0] rfl (inb3 1) (w' := sendL m 1 c) rfl) $$ Hls1; iintro Hls1
  iapply (snd m K c _ (left c) (dev6_eq c) 13 16 5 rfl rfl (by decide) (by decide) rfl (congrArg (fun z : Dev nD => (owns ((left c : Dev nD) : Thread nD τ) (lrS 1) fullShare (sendL m 1 z : FVec F S1x256x1024 .bf16) : sProp 𝕄)) (right_left c)) rfl rfl) $$ [Hls1 Hdst_lr1 Hts_ls1 Htr_lr1 His_ls1 HHO]
  · isplitr; · iexact He
    isplitl [Hls1]; · iexact Hls1
    isplitl [Hdst_lr1]; · iexact Hdst_lr1
    isplitl [Hts_ls1]; · iexact Hts_ls1
    isplitl [Htr_lr1]; · iexact Htr_lr1
    isplitl [His_ls1]; · iexact His_ls1
    iexact HHO
  iintro ⟨Hps_ls1, HHO⟩
  iapply (retB c rfl)
  iapply Hk $$ [HOL1 HHO Hlr0 Hps_ls1]
  isplitl [HOL1]; · iexact HOL1
  isplitl [HHO]; · iexact HHO
  isplitl [Hlr0]; · iexact Hlr0
  iexact Hps_ls1

theorem part19 (v2 : BitVec 32) (v602 : BitVec 32) (c8_i32_408 : BitVec 32) (v603 : BitVec 1) (c1_i32_410 : BitVec 32) {Q : (Σ' (v632 : BitVec 32) (v634 : BitVec 32) (v635 : BitVec 32) (v636 : BitVec 1) (v637 : BitVec 1), BitVec 1) → sProp 𝕄} :
    iprop(env m K ∗ owns (c : Thread nD τ) (gtM) fullShare (gtV m c) ∗ owns (c : Thread nD τ) (yM) fullShare (ybV m c) ∗ anyOwns c (outS (rowR c 2))
        ∗ (∀ (r0 : BitVec 32) (r1 : BitVec 32) (r2 : BitVec 32) (r3 : BitVec 1) (r4 : BitVec 1) (r5 : BitVec 1), iprop(owns (c : Thread nD τ) (outS (rowR c 2)) fullShare (partV m c (rowR c 2)) ∗ owns (c : Thread nD τ) (gtM) fullShare (gtV m c) ∗ owns (c : Thread nD τ) (yM) fullShare (ybV m c)) -∗ Q ⟨r0, r1, r2, r3, r4, r5⟩))
      ⊢ wpB c (k0_part19 xM (Memref.isWhole_whole _) rwM (Memref.isWhole_whole _) riM (Memref.isWhole_whole _) weM (Memref.isWhole_whole _) swM (Memref.isWhole_whole _) outM (Memref.isWhole_whole _) ewM (Memref.isWhole_whole _) gtM (Memref.isWhole_whole _) yM (Memref.isWhole_whole _) rsM (Memref.isWhole_whole _) rrM (Memref.isWhole_whole _) lsM (Memref.isWhole_whole _) lrM (Memref.isWhole_whole _) arM (Memref.isWhole_whole _) alM (Memref.isWhole_whole _) cc0_scratch9 cc0_scratch10 cc0_scratch11 cc0_scratch12 cc0_scratch13 cc0_scratch14 cc0_scratch15 cc0_scratch16 cc0_scratch17 c v2 v602 c8_i32_408 v603 c1_i32_410) Q := by
  rw [k0_part19_eq_skeleton]; unfold k0_part19_skel
  simp only [semSignalWord, semWaitWord, Prog.lift, Prog.bind_op, Prog.bind_ret, Prog.pure_eq_ret, wp_deviceId]
  iintro ⟨#He, Hgt, Hy, ⟨%XOR2, HOR2⟩, Hk⟩
  iapply (ld_gt m c (rowR c 2) _ (off1_eq c 2)) $$ Hgt; iintro Hgt
  iapply (ld_all c yM _ z2) $$ Hy; iintro Hy
  iapply (ld_at c outM _ ![256 * (rowR c 2 : Fin 8).val, 0] (off2_eq c 2) (inbO (rowR c 2))) $$ HOR2; iintro HOR2
  iapply (st_at c outM _ ![256 * (rowR c 2 : Fin 8).val, 0] (off2_eq c 2) (inbO (rowR c 2)) (w' := partV m c (rowR c 2)) (pay34_eq _ _)) $$ HOR2; iintro HOR2
  iapply (retB c rfl)
  iapply Hk $$ [HOR2 Hgt Hy]
  isplitl [HOR2]; · iexact HOR2
  isplitl [Hgt]; · iexact Hgt
  iexact Hy

theorem part20 (v2 : BitVec 32) (v24 : BitVec 32) (v632 : BitVec 32) (v634 : BitVec 32) (v635 : BitVec 32) (v636 : BitVec 1) (v637 : BitVec 1) (v638 : BitVec 1) {Q : (Σ' (v670 : BitVec 32), BitVec 32) → sProp 𝕄} :
    iprop(env m K ∗ owns (c : Thread nD τ) (gtM) fullShare (gtV m c) ∗ owns (c : Thread nD τ) (yM) fullShare (ybV m c) ∗ anyOwns c (outS (rowL c 2)) ∗ pending c 9 ∗ owesW c 6
        ∗ (∀ (r0 : BitVec 32) (r1 : BitVec 32), iprop(owns (c : Thread nD τ) (outS (rowL c 2)) fullShare (partV m c (rowL c 2)) ∗ owns (c : Thread nD τ) (gtM) fullShare (gtV m c) ∗ owesW c 6 ∗ owns (c : Thread nD τ) (yM) fullShare (ybV m c) ∗ owns (c : Thread nD τ) (rrS 1) fullShare (sendR m 1 (left c)) ∗ done c 9) -∗ Q ⟨r0, r1⟩))
      ⊢ wpB c (k0_part20 xM (Memref.isWhole_whole _) rwM (Memref.isWhole_whole _) riM (Memref.isWhole_whole _) weM (Memref.isWhole_whole _) swM (Memref.isWhole_whole _) outM (Memref.isWhole_whole _) ewM (Memref.isWhole_whole _) gtM (Memref.isWhole_whole _) yM (Memref.isWhole_whole _) rsM (Memref.isWhole_whole _) rrM (Memref.isWhole_whole _) lsM (Memref.isWhole_whole _) lrM (Memref.isWhole_whole _) arM (Memref.isWhole_whole _) alM (Memref.isWhole_whole _) cc0_scratch9 cc0_scratch10 cc0_scratch11 cc0_scratch12 cc0_scratch13 cc0_scratch14 cc0_scratch15 cc0_scratch16 cc0_scratch17 c v2 v24 v632 v634 v635 v636 v637 v638) Q := by
  rw [k0_part20_eq_skeleton]; unfold k0_part20_skel
  simp only [semSignalWord, semWaitWord, Prog.lift, Prog.bind_op, Prog.bind_ret, Prog.pure_eq_ret, wp_deviceId]
  iintro ⟨#He, Hgt, Hy, ⟨%XOL2, HOL2⟩, Hpr_rr1, HHO, Hk⟩
  iapply (ld_gt m c (rowL c 2) _ (off3_eq c 2)) $$ Hgt; iintro Hgt
  iapply (ld_all c yM _ z2) $$ Hy; iintro Hy
  iapply (ld_at c outM _ ![256 * (rowL c 2 : Fin 8).val, 0] (off4_eq c 2) (inbO (rowL c 2))) $$ HOL2; iintro HOL2
  iapply (st_at c outM _ ![256 * (rowL c 2 : Fin 8).val, 0] (off4_eq c 2) (inbO (rowL c 2)) (w' := partV m c (rowL c 2)) (pay35_eq _ _)) $$ HOL2; iintro HOL2
  iapply (wt m K c 9 6 (rrS 1) (P := owns (c : Thread nD τ) (rrS 1) fullShare (sendR m 1 (left c))) (by decide) rfl rfl (by decide) rfl) $$ [Hpr_rr1 HHO]
  · isplitr; · iexact He
    isplitl [Hpr_rr1]; · iexact Hpr_rr1
    iexact HHO
  iintro ⟨Hrr1, Hd9, HHO⟩
  iapply (retB c rfl)
  iapply Hk $$ [HOL2 Hgt HHO Hy Hrr1 Hd9]
  isplitl [HOL2]; · iexact HOL2
  isplitl [Hgt]; · iexact Hgt
  isplitl [HHO]; · iexact HHO
  isplitl [Hy]; · iexact Hy
  isplitl [Hrr1]; · iexact Hrr1
  iexact Hd9

theorem part21 (v24 : BitVec 32) (v670 : BitVec 32) (c8_i32_460 : BitVec 32) {Q : PUnit → sProp 𝕄} :
    iprop(env m K ∗ owns (c : Thread nD τ) (outS (rowR c 2)) fullShare (partV m c (rowR c 2)) ∗ owns (c : Thread nD τ) (rrS 1) fullShare (sendR m 1 (left c)) ∗ anyOwns c (rsS 2) ∗ anyOwns (right c) (rrS 2) ∗ tok c 6 0 false ∗ tok (right c) 10 0 false ∗ idle c 6 ∗ owesW c 6
        ∗ (iprop(owns (c : Thread nD τ) (outS (rowR c 2)) fullShare (partV m c (rowR c 2)) ∗ owesW c 7 ∗ owns (c : Thread nD τ) (rrS 1) fullShare (sendR m 1 (left c)) ∗ pending c 6) -∗ Q ⟨⟩))
      ⊢ wpB c (k0_part21 xM (Memref.isWhole_whole _) rwM (Memref.isWhole_whole _) riM (Memref.isWhole_whole _) weM (Memref.isWhole_whole _) swM (Memref.isWhole_whole _) outM (Memref.isWhole_whole _) ewM (Memref.isWhole_whole _) gtM (Memref.isWhole_whole _) yM (Memref.isWhole_whole _) rsM (Memref.isWhole_whole _) rrM (Memref.isWhole_whole _) lsM (Memref.isWhole_whole _) lrM (Memref.isWhole_whole _) arM (Memref.isWhole_whole _) alM (Memref.isWhole_whole _) cc0_scratch9 cc0_scratch10 cc0_scratch11 cc0_scratch12 cc0_scratch13 cc0_scratch14 cc0_scratch15 cc0_scratch16 cc0_scratch17 c v24 v670 c8_i32_460) Q := by
  rw [k0_part21_eq_skeleton]; unfold k0_part21_skel
  simp only [semSignalWord, semWaitWord, Prog.lift, Prog.bind_op, Prog.bind_ret, Prog.pure_eq_ret, wp_deviceId]
  iintro ⟨#He, HOR2, Hrr1, ⟨%Xrs2, Hrs2⟩, Hdst_rr2, Hts_rs2, Htr_rr2, His_rs2, HHO, Hk⟩
  iapply (ld_at c outM _ ![256 * (rowR c 2 : Fin 8).val, 0] (off2_eq c 2) (inbO (rowR c 2))) $$ HOR2; iintro HOR2
  iapply (ld_at c rrM _ ![(1 : Fin 4).val, 0, 0] rfl (inb4 1)) $$ Hrr1; iintro Hrr1
  iapply (ld_at c rsM _ ![(2 : Fin 4).val, 0, 0] rfl (inb4 2)) $$ Hrs2; iintro Hrs2
  iapply (st_at c rsM _ ![(2 : Fin 4).val, 0, 0] rfl (inb4 2) (w' := sendR m 2 c) (pay36_eq _ _)) $$ Hrs2; iintro Hrs2
  iapply (snd m K c _ (right c) (dev7_eq c) 6 10 6 rfl rfl (by decide) (by decide) rfl (congrArg (fun z : Dev nD => (owns ((right c : Dev nD) : Thread nD τ) (rrS 2) fullShare (sendR m 2 z : FVec F S1x256x1024 .bf16) : sProp 𝕄)) (left_right c)) rfl rfl) $$ [Hrs2 Hdst_rr2 Hts_rs2 Htr_rr2 His_rs2 HHO]
  · isplitr; · iexact He
    isplitl [Hrs2]; · iexact Hrs2
    isplitl [Hdst_rr2]; · iexact Hdst_rr2
    isplitl [Hts_rs2]; · iexact Hts_rs2
    isplitl [Htr_rr2]; · iexact Htr_rr2
    isplitl [His_rs2]; · iexact His_rs2
    iexact HHO
  iintro ⟨Hps_rs2, HHO⟩
  iapply (retB c rfl)
  iapply Hk $$ [HOR2 HHO Hrr1 Hps_rs2]
  isplitl [HOR2]; · iexact HOR2
  isplitl [HHO]; · iexact HHO
  isplitl [Hrr1]; · iexact Hrr1
  iexact Hps_rs2

theorem part22 (v2 : BitVec 32) (v13 : BitVec 32) {Q : PUnit → sProp 𝕄} :
    iprop(env m K ∗ pending c 16 ∗ owesW c 7 ∗ owns (c : Thread nD τ) (outS (rowL c 2)) fullShare (partV m c (rowL c 2)) ∗ anyOwns c (lsS 2)
        ∗ (iprop(owns (c : Thread nD τ) (outS (rowL c 2)) fullShare (partV m c (rowL c 2)) ∗ owns (c : Thread nD τ) (lsS 2) fullShare (sendL m 2 c) ∗ owesW c 7 ∗ owns (c : Thread nD τ) (lrS 1) fullShare (sendL m 1 (right c)) ∗ done c 16) -∗ Q ⟨⟩))
      ⊢ wpB c (k0_part22 xM (Memref.isWhole_whole _) rwM (Memref.isWhole_whole _) riM (Memref.isWhole_whole _) weM (Memref.isWhole_whole _) swM (Memref.isWhole_whole _) outM (Memref.isWhole_whole _) ewM (Memref.isWhole_whole _) gtM (Memref.isWhole_whole _) yM (Memref.isWhole_whole _) rsM (Memref.isWhole_whole _) rrM (Memref.isWhole_whole _) lsM (Memref.isWhole_whole _) lrM (Memref.isWhole_whole _) arM (Memref.isWhole_whole _) alM (Memref.isWhole_whole _) cc0_scratch9 cc0_scratch10 cc0_scratch11 cc0_scratch12 cc0_scratch13 cc0_scratch14 cc0_scratch15 cc0_scratch16 cc0_scratch17 c v2 v13) Q := by
  rw [k0_part22_eq_skeleton]; unfold k0_part22_skel
  simp only [semSignalWord, semWaitWord, Prog.lift, Prog.bind_op, Prog.bind_ret, Prog.pure_eq_ret, wp_deviceId]
  iintro ⟨#He, Hpr_lr1, HHO, HOL2, ⟨%Xls2, Hls2⟩, Hk⟩
  iapply (wt m K c 16 7 (lrS 1) (P := owns (c : Thread nD τ) (lrS 1) fullShare (sendL m 1 (right c))) (by decide) rfl rfl (by decide) rfl) $$ [Hpr_lr1 HHO]
  · isplitr; · iexact He
    isplitl [Hpr_lr1]; · iexact Hpr_lr1
    iexact HHO
  iintro ⟨Hlr1, Hd16, HHO⟩
  iapply (ld_at c outM _ ![256 * (rowL c 2 : Fin 8).val, 0] (off4_eq c 2) (inbO (rowL c 2))) $$ HOL2; iintro HOL2
  iapply (ld_at c lrM _ ![(1 : Fin 3).val, 0, 0] rfl (inb3 1)) $$ Hlr1; iintro Hlr1
  iapply (ld_at c lsM _ ![(2 : Fin 3).val, 0, 0] rfl (inb3 2)) $$ Hls2; iintro Hls2
  iapply (st_at c lsM _ ![(2 : Fin 3).val, 0, 0] rfl (inb3 2) (w' := sendL m 2 c) (pay37_eq _ _)) $$ Hls2; iintro Hls2
  iapply (retB c rfl)
  iapply Hk $$ [HOL2 Hls2 HHO Hlr1 Hd16]
  isplitl [HOL2]; · iexact HOL2
  isplitl [Hls2]; · iexact Hls2
  isplitl [HHO]; · iexact HHO
  isplitl [Hlr1]; · iexact Hlr1
  iexact Hd16

theorem part23 (v2 : BitVec 32) (v13 : BitVec 32) {Q : (Σ' (v761 : FVec F S256x1024 .f32) (v763 : BitVec 32) (v764 : BitVec 32) (v765 : BitVec 1) (v766 : BitVec 1), BitVec 1) → sProp 𝕄} :
    iprop(env m K ∗ owns (c : Thread nD τ) (lsS 2) fullShare (sendL m 2 c) ∗ anyOwns (left c) (lrS 2) ∗ tok c 14 0 false ∗ tok (left c) 17 0 false ∗ idle c 14 ∗ owesW c 7 ∗ owns (c : Thread nD τ) (gtM) fullShare (gtV m c) ∗ owns (c : Thread nD τ) (yM) fullShare (ybV m c)
        ∗ (∀ (r1 : BitVec 32) (r2 : BitVec 32) (r3 : BitVec 1) (r4 : BitVec 1) (r5 : BitVec 1), iprop(owns (c : Thread nD τ) (gtM) fullShare (gtV m c) ∗ owesW c 8 ∗ owns (c : Thread nD τ) (yM) fullShare (ybV m c) ∗ pending c 14) -∗ Q ⟨k0_pay38 (gtR m c (rowR c 3)) (ybV m c), r1, r2, r3, r4, r5⟩))
      ⊢ wpB c (k0_part23 xM (Memref.isWhole_whole _) rwM (Memref.isWhole_whole _) riM (Memref.isWhole_whole _) weM (Memref.isWhole_whole _) swM (Memref.isWhole_whole _) outM (Memref.isWhole_whole _) ewM (Memref.isWhole_whole _) gtM (Memref.isWhole_whole _) yM (Memref.isWhole_whole _) rsM (Memref.isWhole_whole _) rrM (Memref.isWhole_whole _) lsM (Memref.isWhole_whole _) lrM (Memref.isWhole_whole _) arM (Memref.isWhole_whole _) alM (Memref.isWhole_whole _) cc0_scratch9 cc0_scratch10 cc0_scratch11 cc0_scratch12 cc0_scratch13 cc0_scratch14 cc0_scratch15 cc0_scratch16 cc0_scratch17 c v2 v13) Q := by
  rw [k0_part23_eq_skeleton]; unfold k0_part23_skel
  simp only [semSignalWord, semWaitWord, Prog.lift, Prog.bind_op, Prog.bind_ret, Prog.pure_eq_ret, wp_deviceId]
  iintro ⟨#He, Hls2, Hdst_lr2, Hts_ls2, Htr_lr2, His_ls2, HHO, Hgt, Hy, Hk⟩
  iapply (snd m K c _ (left c) (dev8_eq c) 14 17 7 rfl rfl (by decide) (by decide) rfl (congrArg (fun z : Dev nD => (owns ((left c : Dev nD) : Thread nD τ) (lrS 2) fullShare (sendL m 2 z : FVec F S1x256x1024 .bf16) : sProp 𝕄)) (right_left c)) rfl rfl) $$ [Hls2 Hdst_lr2 Hts_ls2 Htr_lr2 His_ls2 HHO]
  · isplitr; · iexact He
    isplitl [Hls2]; · iexact Hls2
    isplitl [Hdst_lr2]; · iexact Hdst_lr2
    isplitl [Hts_ls2]; · iexact Hts_ls2
    isplitl [Htr_lr2]; · iexact Htr_lr2
    isplitl [His_ls2]; · iexact His_ls2
    iexact HHO
  iintro ⟨Hps_ls2, HHO⟩
  iapply (ld_gt m c (rowR c 3) _ (off1_eq c 3)) $$ Hgt; iintro Hgt
  iapply (ld_all c yM _ z2) $$ Hy; iintro Hy
  iapply (retB c rfl)
  iapply Hk $$ [Hgt HHO Hy Hps_ls2]
  isplitl [Hgt]; · iexact Hgt
  isplitl [HHO]; · iexact HHO
  isplitl [Hy]; · iexact Hy
  iexact Hps_ls2

theorem part24 (v2 : BitVec 32) (v24 : BitVec 32) (v763 : BitVec 32) (v764 : BitVec 32) (v765 : BitVec 1) (v766 : BitVec 1) (v767 : BitVec 1) {Q : (Σ' (v798 : FVec F S256x1024 .f32), FVec F S256x1024 .bf16) → sProp 𝕄} :
    iprop(env m K ∗ anyOwns c (outS (rowR c 3)) ∗ pending c 10 ∗ owesW c 8
        ∗ (iprop(owns (c : Thread nD τ) (outS (rowR c 3)) fullShare (partV m c (rowR c 3)) ∗ owesW c 8 ∗ owns (c : Thread nD τ) (rrS 2) fullShare (sendR m 2 (left c)) ∗ done c 10) -∗ Q ⟨k0_pay39 (partV m c (rowR c 3)), k0_pay40 (sendR m 2 (left c))⟩))
      ⊢ wpB c (k0_part24 xM (Memref.isWhole_whole _) rwM (Memref.isWhole_whole _) riM (Memref.isWhole_whole _) weM (Memref.isWhole_whole _) swM (Memref.isWhole_whole _) outM (Memref.isWhole_whole _) ewM (Memref.isWhole_whole _) gtM (Memref.isWhole_whole _) yM (Memref.isWhole_whole _) rsM (Memref.isWhole_whole _) rrM (Memref.isWhole_whole _) lsM (Memref.isWhole_whole _) lrM (Memref.isWhole_whole _) arM (Memref.isWhole_whole _) alM (Memref.isWhole_whole _) cc0_scratch9 cc0_scratch10 cc0_scratch11 cc0_scratch12 cc0_scratch13 cc0_scratch14 cc0_scratch15 cc0_scratch16 cc0_scratch17 c v2 v24 (k0_pay38 (gtR m c (rowR c 3)) (ybV m c)) v763 v764 v765 v766 v767) Q := by
  rw [k0_part24_eq_skeleton]; unfold k0_part24_skel
  simp only [semSignalWord, semWaitWord, Prog.lift, Prog.bind_op, Prog.bind_ret, Prog.pure_eq_ret, wp_deviceId]
  iintro ⟨#He, ⟨%XOR3, HOR3⟩, Hpr_rr2, HHO, Hk⟩
  iapply (ld_at c outM _ ![256 * (rowR c 3 : Fin 8).val, 0] (off2_eq c 3) (inbO (rowR c 3))) $$ HOR3; iintro HOR3
  iapply (st_at c outM _ ![256 * (rowR c 3 : Fin 8).val, 0] (off2_eq c 3) (inbO (rowR c 3)) (w' := partV m c (rowR c 3)) (pay38_eq _ _)) $$ HOR3; iintro HOR3
  iapply (wt m K c 10 8 (rrS 2) (P := owns (c : Thread nD τ) (rrS 2) fullShare (sendR m 2 (left c))) (by decide) rfl rfl (by decide) rfl) $$ [Hpr_rr2 HHO]
  · isplitr; · iexact He
    isplitl [Hpr_rr2]; · iexact Hpr_rr2
    iexact HHO
  iintro ⟨Hrr2, Hd10, HHO⟩
  iapply (ld_at c outM _ ![256 * (rowR c 3 : Fin 8).val, 0] (off2_eq c 3) (inbO (rowR c 3))) $$ HOR3; iintro HOR3
  iapply (ld_at c rrM _ ![(2 : Fin 4).val, 0, 0] rfl (inb4 2)) $$ Hrr2; iintro Hrr2
  iapply (retB c (a' := ⟨k0_pay39 (partV m c (rowR c 3)), k0_pay40 (sendR m 2 (left c))⟩) rfl)
  iapply Hk $$ [HOR3 HHO Hrr2 Hd10]
  isplitl [HOR3]; · iexact HOR3
  isplitl [HHO]; · iexact HHO
  isplitl [Hrr2]; · iexact Hrr2
  iexact Hd10

end Cert.MoeRing

end
-- ==== Proof.PartsE.lean ====
/-
The body of the kernel: the end of the reduction, the own block, the first blocks sent round.
-/
module

public import proofs.«01_k».proof.Proof.Rows

@[expose] public section

noncomputable section

namespace Cert.MoeRing

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

set_option maxHeartbeats 1000000

variable {F : FTy → Type} [FloatOps F]

local notation "𝕄" => MT nD τ sig Unit (Elt F) ℕ UU ℕ

variable (m : (ℓ : Loc nD τ sig) → Buf (Elt F) ℓ) (K : Dev nD × Fin 32 → ℕ) (c : Dev nD)

theorem part25 (v2 : BitVec 32) (v24 : BitVec 32) {Q : (Σ' (v831 : FVec F S256x1024 .f32) (c8_i32_587 : BitVec 32), BitVec 1) → sProp 𝕄} :
    iprop(env m K ∗ anyOwns c (rsS 3) ∗ anyOwns (right c) (rrS 3) ∗ tok c 7 0 false ∗ tok (right c) 11 0 false ∗ idle c 7 ∗ owesW c 8 ∗ owns (c : Thread nD τ) (gtM) fullShare (gtV m c) ∗ owns (c : Thread nD τ) (yM) fullShare (ybV m c)
        ∗ (∀ (r1 : BitVec 32) (r2 : BitVec 1), iprop(owns (c : Thread nD τ) (gtM) fullShare (gtV m c) ∗ owesW c 9 ∗ owns (c : Thread nD τ) (yM) fullShare (ybV m c) ∗ pending c 7) -∗ Q ⟨k0_pay42 (gtR m c (c)) (ybV m c), r1, r2⟩))
      ⊢ wpB c (k0_part25 xM (Memref.isWhole_whole _) rwM (Memref.isWhole_whole _) riM (Memref.isWhole_whole _) weM (Memref.isWhole_whole _) swM (Memref.isWhole_whole _) outM (Memref.isWhole_whole _) ewM (Memref.isWhole_whole _) gtM (Memref.isWhole_whole _) yM (Memref.isWhole_whole _) rsM (Memref.isWhole_whole _) rrM (Memref.isWhole_whole _) lsM (Memref.isWhole_whole _) lrM (Memref.isWhole_whole _) arM (Memref.isWhole_whole _) alM (Memref.isWhole_whole _) cc0_scratch9 cc0_scratch10 cc0_scratch11 cc0_scratch12 cc0_scratch13 cc0_scratch14 cc0_scratch15 cc0_scratch16 cc0_scratch17 c v2 v24 (k0_pay39 (partV m c (rowR c 3))) (k0_pay40 (sendR m 2 (left c)))) Q := by
  rw [k0_part25_eq_skeleton]; unfold k0_part25_skel
  simp only [semSignalWord, semWaitWord, Prog.lift, Prog.bind_op, Prog.bind_ret, Prog.pure_eq_ret, wp_deviceId]
  iintro ⟨#He, ⟨%Xrs3, Hrs3⟩, Hdst_rr3, Hts_rs3, Htr_rr3, His_rs3, HHO, Hgt, Hy, Hk⟩
  iapply (ld_at c rsM _ ![(3 : Fin 4).val, 0, 0] rfl (inb4 3)) $$ Hrs3; iintro Hrs3
  iapply (st_at c rsM _ ![(3 : Fin 4).val, 0, 0] rfl (inb4 3) (w' := sendR m 3 c) (pay41_eq _ _)) $$ Hrs3; iintro Hrs3
  iapply (snd m K c _ (right c) (dev9_eq c) 7 11 8 rfl rfl (by decide) (by decide) rfl (congrArg (fun z : Dev nD => (owns ((right c : Dev nD) : Thread nD τ) (rrS 3) fullShare (sendR m 3 z : FVec F S1x256x1024 .bf16) : sProp 𝕄)) (left_right c)) rfl rfl) $$ [Hrs3 Hdst_rr3 Hts_rs3 Htr_rr3 His_rs3 HHO]
  · isplitr; · iexact He
    isplitl [Hrs3]; · iexact Hrs3
    isplitl [Hdst_rr3]; · iexact Hdst_rr3
    isplitl [Hts_rs3]; · iexact Hts_rs3
    isplitl [Htr_rr3]; · iexact Htr_rr3
    isplitl [His_rs3]; · iexact His_rs3
    iexact HHO
  iintro ⟨Hps_rs3, HHO⟩
  iapply (ld_gt m c (c) _ (off5_eq c)) $$ Hgt; iintro Hgt
  iapply (ld_all c yM _ z2) $$ Hy; iintro Hy
  iapply (retB c rfl)
  iapply Hk $$ [Hgt HHO Hy Hps_rs3]
  isplitl [Hgt]; · iexact Hgt
  isplitl [HHO]; · iexact HHO
  isplitl [Hy]; · iexact Hy
  iexact Hps_rs3

theorem part26 (v2 : BitVec 32) (v24 : BitVec 32) (c8_i32_587 : BitVec 32) (v832 : BitVec 1) {Q : PUnit → sProp 𝕄} :
    iprop(env m K ∗ owns (c : Thread nD τ) (xM) fullShare (xV m c) ∗ owns (c : Thread nD τ) (swM) fullShare (swV m c) ∗ anyOwns c (outS (c))
        ∗ (iprop(owns (c : Thread nD τ) (xM) fullShare (xV m c) ∗ owns (c : Thread nD τ) (swM) fullShare (swV m c) ∗ owns (c : Thread nD τ) (outS (c)) fullShare (k0_pay43 (partV m c c) (xR m c) (swV m c))) -∗ Q ⟨⟩))
      ⊢ wpB c (k0_part26 xM (Memref.isWhole_whole _) rwM (Memref.isWhole_whole _) riM (Memref.isWhole_whole _) weM (Memref.isWhole_whole _) swM (Memref.isWhole_whole _) outM (Memref.isWhole_whole _) ewM (Memref.isWhole_whole _) gtM (Memref.isWhole_whole _) yM (Memref.isWhole_whole _) rsM (Memref.isWhole_whole _) rrM (Memref.isWhole_whole _) lsM (Memref.isWhole_whole _) lrM (Memref.isWhole_whole _) arM (Memref.isWhole_whole _) alM (Memref.isWhole_whole _) cc0_scratch9 cc0_scratch10 cc0_scratch11 cc0_scratch12 cc0_scratch13 cc0_scratch14 cc0_scratch15 cc0_scratch16 cc0_scratch17 c v2 v24 (k0_pay42 (gtR m c (c)) (ybV m c)) c8_i32_587 v832) Q := by
  rw [k0_part26_eq_skeleton]; unfold k0_part26_skel
  simp only [semSignalWord, semWaitWord, Prog.lift, Prog.bind_op, Prog.bind_ret, Prog.pure_eq_ret, wp_deviceId]
  iintro ⟨#He, Hx, Hsw, ⟨%XOC, HOC⟩, Hk⟩
  iapply (ld_xr m c _ (off6_eq c)) $$ Hx; iintro Hx
  iapply (ld_all c swM _ z2) $$ Hsw; iintro Hsw
  iapply (ld_at c outM _ ![256 * (c : Fin 8).val, 0] (off6_eq c) (inbO (c))) $$ HOC; iintro HOC
  iapply (st_at c outM _ ![256 * (c : Fin 8).val, 0] (off6_eq c) (inbO (c)) (w' := k0_pay43 (partV m c c) (xR m c) (swV m c)) (pay43_eq _ _ _ _)) $$ HOC; iintro HOC
  iapply (retB c rfl)
  iapply Hk $$ [Hx Hsw HOC]
  isplitl [Hx]; · iexact Hx
  isplitl [Hsw]; · iexact Hsw
  iexact HOC

theorem part27 (v2 : BitVec 32) (v13 : BitVec 32) {Q : (Σ' (v896 : FVec F S256x1024 .f32), FVec F S256x1024 .bf16) → sProp 𝕄} :
    iprop(env m K ∗ pending c 11 ∗ owesW c 9 ∗ pending c 17 ∗ owns (c : Thread nD τ) (outS (c)) fullShare (k0_pay43 (partV m c c) (xR m c) (swV m c))
        ∗ (iprop(owns (c : Thread nD τ) (outS (c)) fullShare (k0_pay43 (partV m c c) (xR m c) (swV m c)) ∗ owesW c 9 ∗ owns (c : Thread nD τ) (rrS 3) fullShare (sendR m 3 (left c)) ∗ done c 11 ∗ owns (c : Thread nD τ) (lrS 2) fullShare (sendL m 2 (right c)) ∗ done c 17) -∗ Q ⟨k0_pay44 (k0_pay43 (partV m c c) (xR m c) (swV m c)) (sendR m 3 (left c)), k0_pay45 (sendL m 2 (right c))⟩))
      ⊢ wpB c (k0_part27 xM (Memref.isWhole_whole _) rwM (Memref.isWhole_whole _) riM (Memref.isWhole_whole _) weM (Memref.isWhole_whole _) swM (Memref.isWhole_whole _) outM (Memref.isWhole_whole _) ewM (Memref.isWhole_whole _) gtM (Memref.isWhole_whole _) yM (Memref.isWhole_whole _) rsM (Memref.isWhole_whole _) rrM (Memref.isWhole_whole _) lsM (Memref.isWhole_whole _) lrM (Memref.isWhole_whole _) arM (Memref.isWhole_whole _) alM (Memref.isWhole_whole _) cc0_scratch9 cc0_scratch10 cc0_scratch11 cc0_scratch12 cc0_scratch13 cc0_scratch14 cc0_scratch15 cc0_scratch16 cc0_scratch17 c v2 v13) Q := by
  rw [k0_part27_eq_skeleton]; unfold k0_part27_skel
  simp only [semSignalWord, semWaitWord, Prog.lift, Prog.bind_op, Prog.bind_ret, Prog.pure_eq_ret, wp_deviceId]
  iintro ⟨#He, Hpr_rr3, HHO, Hpr_lr2, HOC, Hk⟩
  iapply (wt m K c 11 9 (rrS 3) (P := owns (c : Thread nD τ) (rrS 3) fullShare (sendR m 3 (left c))) (by decide) rfl rfl (by decide) rfl) $$ [Hpr_rr3 HHO]
  · isplitr; · iexact He
    isplitl [Hpr_rr3]; · iexact Hpr_rr3
    iexact HHO
  iintro ⟨Hrr3, Hd11, HHO⟩
  iapply (wt m K c 17 9 (lrS 2) (P := owns (c : Thread nD τ) (lrS 2) fullShare (sendL m 2 (right c))) (by decide) rfl rfl (by decide) rfl) $$ [Hpr_lr2 HHO]
  · isplitr; · iexact He
    isplitl [Hpr_lr2]; · iexact Hpr_lr2
    iexact HHO
  iintro ⟨Hlr2, Hd17, HHO⟩
  iapply (ld_at c outM _ ![256 * (c : Fin 8).val, 0] (off6_eq c) (inbO (c))) $$ HOC; iintro HOC
  iapply (ld_at c rrM _ ![(3 : Fin 4).val, 0, 0] rfl (inb4 3)) $$ Hrr3; iintro Hrr3
  iapply (ld_at c lrM _ ![(2 : Fin 3).val, 0, 0] rfl (inb3 2)) $$ Hlr2; iintro Hlr2
  iapply (retB c (a' := ⟨k0_pay44 (k0_pay43 (partV m c c) (xR m c) (swV m c)) (sendR m 3 (left c)), k0_pay45 (sendL m 2 (right c))⟩) rfl)
  iapply Hk $$ [HOC HHO Hrr3 Hd11 Hlr2 Hd17]
  isplitl [HOC]; · iexact HOC
  isplitl [HHO]; · iexact HHO
  isplitl [Hrr3]; · iexact Hrr3
  isplitl [Hd11]; · iexact Hd11
  isplitl [Hlr2]; · iexact Hlr2
  iexact Hd17

theorem part28 (v2 : BitVec 32) {Q : (Σ' (v933 : BitVec 32), BitVec 32) → sProp 𝕄} :
    iprop(env m K ∗ owns (c : Thread nD τ) (outS (c)) fullShare (k0_pay43 (partV m c c) (xR m c) (swV m c)) ∗ anyOwns c (arS 0)
        ∗ (∀ (r0 : BitVec 32) (r1 : BitVec 32), iprop(owns (c : Thread nD τ) (outS (c)) fullShare (ownV m c) ∗ owns (c : Thread nD τ) (arS 0) fullShare (agV m c)) -∗ Q ⟨r0, r1⟩))
      ⊢ wpB c (k0_part28 xM (Memref.isWhole_whole _) rwM (Memref.isWhole_whole _) riM (Memref.isWhole_whole _) weM (Memref.isWhole_whole _) swM (Memref.isWhole_whole _) outM (Memref.isWhole_whole _) ewM (Memref.isWhole_whole _) gtM (Memref.isWhole_whole _) yM (Memref.isWhole_whole _) rsM (Memref.isWhole_whole _) rrM (Memref.isWhole_whole _) lsM (Memref.isWhole_whole _) lrM (Memref.isWhole_whole _) arM (Memref.isWhole_whole _) alM (Memref.isWhole_whole _) cc0_scratch9 cc0_scratch10 cc0_scratch11 cc0_scratch12 cc0_scratch13 cc0_scratch14 cc0_scratch15 cc0_scratch16 cc0_scratch17 c v2 (k0_pay44 (k0_pay43 (partV m c c) (xR m c) (swV m c)) (sendR m 3 (left c))) (k0_pay45 (sendL m 2 (right c)))) Q := by
  rw [k0_part28_eq_skeleton]; unfold k0_part28_skel
  simp only [semSignalWord, semWaitWord, Prog.lift, Prog.bind_op, Prog.bind_ret, Prog.pure_eq_ret, wp_deviceId]
  iintro ⟨#He, HOC, ⟨%Xar0, Har0⟩, Hk⟩
  iapply (ld_at c outM _ ![256 * (c : Fin 8).val, 0] (off6_eq c) (inbO (c))) $$ HOC; iintro HOC
  iapply (st_at c outM _ ![256 * (c : Fin 8).val, 0] (off6_eq c) (inbO (c)) (w' := ownV m c) rfl) $$ HOC; iintro HOC
  iapply (ld_at c outM _ ![256 * (c : Fin 8).val, 0] (off6_eq c) (inbO (c))) $$ HOC; iintro HOC
  iapply (ld_at c arM _ ![(0 : Fin 5).val, 0, 0] rfl (inb5 0)) $$ Har0; iintro Har0
  iapply (st_at c arM _ ![(0 : Fin 5).val, 0, 0] rfl (inb5 0) (w' := agV m c) rfl) $$ Har0; iintro Har0
  iapply (retB c rfl)
  iapply Hk $$ [HOC Har0]
  isplitl [HOC]; · iexact HOC
  iexact Har0

theorem part29 (v13 : BitVec 32) (v24 : BitVec 32) (v933 : BitVec 32) (v934 : BitVec 32) {Q : PUnit → sProp 𝕄} :
    iprop(env m K ∗ owns (c : Thread nD τ) (outS (c)) fullShare (ownV m c) ∗ anyOwns c (alS 0) ∗ owns (c : Thread nD τ) (arS 0) fullShare (agV m c) ∗ anyOwns (right c) (arS 1) ∗ tok c 18 0 false ∗ tok (right c) 22 0 false ∗ idle c 18 ∗ owesW c 9
        ∗ (iprop(owns (c : Thread nD τ) (outS (c)) fullShare (ownV m c) ∗ owns (c : Thread nD τ) (alS 0) fullShare (agV m c) ∗ owesW c 10 ∗ pending c 18) -∗ Q ⟨⟩))
      ⊢ wpB c (k0_part29 xM (Memref.isWhole_whole _) rwM (Memref.isWhole_whole _) riM (Memref.isWhole_whole _) weM (Memref.isWhole_whole _) swM (Memref.isWhole_whole _) outM (Memref.isWhole_whole _) ewM (Memref.isWhole_whole _) gtM (Memref.isWhole_whole _) yM (Memref.isWhole_whole _) rsM (Memref.isWhole_whole _) rrM (Memref.isWhole_whole _) lsM (Memref.isWhole_whole _) lrM (Memref.isWhole_whole _) arM (Memref.isWhole_whole _) alM (Memref.isWhole_whole _) cc0_scratch9 cc0_scratch10 cc0_scratch11 cc0_scratch12 cc0_scratch13 cc0_scratch14 cc0_scratch15 cc0_scratch16 cc0_scratch17 c v13 v24 v933 v934) Q := by
  rw [k0_part29_eq_skeleton]; unfold k0_part29_skel
  simp only [semSignalWord, semWaitWord, Prog.lift, Prog.bind_op, Prog.bind_ret, Prog.pure_eq_ret, wp_deviceId]
  iintro ⟨#He, HOC, ⟨%Xal0, Hal0⟩, Har0, Hdst_ar1, Hts_ar0, Htr_ar0, His_ar0, HHO, Hk⟩
  iapply (ld_at c outM _ ![256 * (c : Fin 8).val, 0] (off6_eq c) (inbO (c))) $$ HOC; iintro HOC
  iapply (ld_at c alM _ ![(0 : Fin 4).val, 0, 0] rfl (inb4 0)) $$ Hal0; iintro Hal0
  iapply (st_at c alM _ ![(0 : Fin 4).val, 0, 0] rfl (inb4 0) (w' := agV m c) (pay48_eq _)) $$ Hal0; iintro Hal0
  iapply (snd m K c _ (right c) (dev10_eq c) 18 22 9 rfl rfl (by decide) (by decide) rfl (congrArg (fun z : Dev nD => (owns ((right c : Dev nD) : Thread nD τ) (arS 1) fullShare (agV m z : FVec F S1x256x1024 .bf16) : sProp 𝕄)) (left_right c)) rfl rfl) $$ [Har0 Hdst_ar1 Hts_ar0 Htr_ar0 His_ar0 HHO]
  · isplitr; · iexact He
    isplitl [Har0]; · iexact Har0
    isplitl [Hdst_ar1]; · iexact Hdst_ar1
    isplitl [Hts_ar0]; · iexact Hts_ar0
    isplitl [Htr_ar0]; · iexact Htr_ar0
    isplitl [His_ar0]; · iexact His_ar0
    iexact HHO
  iintro ⟨Hps_ar0, HHO⟩
  iapply (retB c rfl)
  iapply Hk $$ [HOC Hal0 HHO Hps_ar0]
  isplitl [HOC]; · iexact HOC
  isplitl [Hal0]; · iexact Hal0
  isplitl [HHO]; · iexact HHO
  iexact Hps_ar0

theorem part30 (v2 : BitVec 32) (v24 : BitVec 32) {Q : (Σ' (v990 : FVec F S256x1024 .f32) (v993 : BitVec 32), BitVec 32) → sProp 𝕄} :
    iprop(env m K ∗ owns (c : Thread nD τ) (alS 0) fullShare (agV m c) ∗ anyOwns (left c) (alS 1) ∗ tok c 26 0 false ∗ tok (left c) 29 0 false ∗ idle c 26 ∗ owesW c 10 ∗ pending c 22 ∗ anyOwns (right c) (arS 2) ∗ tok c 19 0 false ∗ tok (right c) 23 0 false ∗ idle c 19
        ∗ (∀ (r1 : BitVec 32) (r2 : BitVec 32), iprop(owesW c 12 ∗ pending c 26 ∗ done c 22 ∗ owns (c : Thread nD τ) (arS 1) fullShare.right (agV m (left c)) ∗ pending c 19) -∗ Q ⟨rowV m (left c), r1, r2⟩))
      ⊢ wpB c (k0_part30 xM (Memref.isWhole_whole _) rwM (Memref.isWhole_whole _) riM (Memref.isWhole_whole _) weM (Memref.isWhole_whole _) swM (Memref.isWhole_whole _) outM (Memref.isWhole_whole _) ewM (Memref.isWhole_whole _) gtM (Memref.isWhole_whole _) yM (Memref.isWhole_whole _) rsM (Memref.isWhole_whole _) rrM (Memref.isWhole_whole _) lsM (Memref.isWhole_whole _) lrM (Memref.isWhole_whole _) arM (Memref.isWhole_whole _) alM (Memref.isWhole_whole _) cc0_scratch9 cc0_scratch10 cc0_scratch11 cc0_scratch12 cc0_scratch13 cc0_scratch14 cc0_scratch15 cc0_scratch16 cc0_scratch17 c v2 v24) Q := by
  rw [k0_part30_eq_skeleton]; unfold k0_part30_skel
  simp only [semSignalWord, semWaitWord, Prog.lift, Prog.bind_op, Prog.bind_ret, Prog.pure_eq_ret, wp_deviceId]
  iintro ⟨#He, Hal0, Hdst_al1, Hts_al0, Htr_al0, His_al0, HHO, Hpr_ar0, Hdst_ar2, Hts_ar1, Htr_ar1, His_ar1, Hk⟩
  iapply (snd m K c _ (left c) (dev11_eq c) 26 29 10 rfl rfl (by decide) (by decide) rfl (congrArg (fun z : Dev nD => (owns ((left c : Dev nD) : Thread nD τ) (alS 1) fullShare (agV m z : FVec F S1x256x1024 .bf16) : sProp 𝕄)) (right_left c)) rfl rfl) $$ [Hal0 Hdst_al1 Hts_al0 Htr_al0 His_al0 HHO]
  · isplitr; · iexact He
    isplitl [Hal0]; · iexact Hal0
    isplitl [Hdst_al1]; · iexact Hdst_al1
    isplitl [Hts_al0]; · iexact Hts_al0
    isplitl [Htr_al0]; · iexact Htr_al0
    isplitl [His_al0]; · iexact His_al0
    iexact HHO
  iintro ⟨Hps_al0, HHO⟩
  iapply (wt m K c 22 11 (arS 1) (P := owns (c : Thread nD τ) (arS 1) fullShare (agV m (left c))) (by decide) rfl rfl (by decide) rfl) $$ [Hpr_ar0 HHO]
  · isplitr; · iexact He
    isplitl [Hpr_ar0]; · iexact Hpr_ar0
    iexact HHO
  iintro ⟨Har1, Hd22, HHO⟩
  ihave Hh := (halve c (arS 1) (agV m (left c))) $$ Har1
  icases Hh with ⟨Har1l, Har1h⟩
  iapply (snd m K c _ (right c) (dev12_eq c) 19 23 11 rfl rfl (by decide) (by decide) rfl (congrArg (fun z : Dev nD => (owns ((right c : Dev nD) : Thread nD τ) (arS 2) fullShare (agV m (left z) : FVec F S1x256x1024 .bf16) : sProp 𝕄)) (left_right c)) rfl rfl) $$ [Har1l Hdst_ar2 Hts_ar1 Htr_ar1 His_ar1 HHO]
  · isplitr; · iexact He
    isplitl [Har1l]; · iexact Har1l
    isplitl [Hdst_ar2]; · iexact Hdst_ar2
    isplitl [Hts_ar1]; · iexact Hts_ar1
    isplitl [Htr_ar1]; · iexact Htr_ar1
    isplitl [His_ar1]; · iexact His_ar1
    iexact HHO
  iintro ⟨Hps_ar1, HHO⟩
  iapply (ld_at c arM _ ![(1 : Fin 5).val, 0, 0] rfl (inb5 1)) $$ Har1h; iintro Har1h
  rw [← rowV_def m (left c)]
  iapply (retB c rfl)
  iapply Hk $$ [HHO Hps_al0 Hd22 Har1h Hps_ar1]
  isplitl [HHO]; · iexact HHO
  isplitl [Hps_al0]; · iexact Hps_al0
  isplitl [Hd22]; · iexact Hd22
  isplitl [Har1h]; · iexact Har1h
  iexact Hps_ar1

end Cert.MoeRing

end
-- ==== Proof.PartsF.lean ====
/-
The body of the kernel: the blocks sent round.
-/
module

public import proofs.«01_k».proof.Proof.Rows

@[expose] public section

noncomputable section

namespace Cert.MoeRing

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

set_option maxHeartbeats 1000000

variable {F : FTy → Type} [FloatOps F]

local notation "𝕄" => MT nD τ sig Unit (Elt F) ℕ UU ℕ

variable (m : (ℓ : Loc nD τ sig) → Buf (Elt F) ℓ) (K : Dev nD × Fin 32 → ℕ) (c : Dev nD)

theorem part31 (v13 : BitVec 32) (v993 : BitVec 32) (v994 : BitVec 32) {Q : Vec F S1x256x1024 .bf16 → sProp 𝕄} :
    iprop(env m K ∗ owns (c : Thread nD τ) (outS (rowL c 2)) fullShare (partV m c (rowL c 2)) ∗ pending c 29 ∗ owesW c 12 ∗ anyOwns (left c) (alS 2) ∗ tok c 27 0 false ∗ tok (left c) 30 0 false ∗ idle c 27
        ∗ (iprop(owns (c : Thread nD τ) (outS (rowL c 2)) fullShare (rowV m (left c)) ∗ owesW c 13 ∗ done c 29 ∗ owns (c : Thread nD τ) (alS 1) fullShare.right (agV m (right c)) ∗ pending c 27) -∗ Q (agV m (right c))))
      ⊢ wpB c (k0_part31 xM (Memref.isWhole_whole _) rwM (Memref.isWhole_whole _) riM (Memref.isWhole_whole _) weM (Memref.isWhole_whole _) swM (Memref.isWhole_whole _) outM (Memref.isWhole_whole _) ewM (Memref.isWhole_whole _) gtM (Memref.isWhole_whole _) yM (Memref.isWhole_whole _) rsM (Memref.isWhole_whole _) rrM (Memref.isWhole_whole _) lsM (Memref.isWhole_whole _) lrM (Memref.isWhole_whole _) arM (Memref.isWhole_whole _) alM (Memref.isWhole_whole _) cc0_scratch9 cc0_scratch10 cc0_scratch11 cc0_scratch12 cc0_scratch13 cc0_scratch14 cc0_scratch15 cc0_scratch16 cc0_scratch17 c v13 (rowV m (left c)) v993 v994) Q := by
  rw [k0_part31_eq_skeleton]; unfold k0_part31_skel
  simp only [semSignalWord, semWaitWord, Prog.lift, Prog.bind_op, Prog.bind_ret, Prog.pure_eq_ret, wp_deviceId]
  iintro ⟨#He, HOL2, Hpr_al0, HHO, Hdst_al2, Hts_al1, Htr_al1, His_al1, Hk⟩
  iapply (ld_at c outM _ ![256 * (rowL c 2 : Fin 8).val, 0] (off7_0 c) (inbO (rowL c 2))) $$ HOL2; iintro HOL2
  iapply (st_at c outM _ ![256 * (rowL c 2 : Fin 8).val, 0] (off7_0 c) (inbO (rowL c 2)) (w' := rowV m (left c)) rfl) $$ HOL2; iintro HOL2
  iapply (wt m K c 29 12 (alS 1) (P := owns (c : Thread nD τ) (alS 1) fullShare (agV m (right c))) (by decide) rfl rfl (by decide) rfl) $$ [Hpr_al0 HHO]
  · isplitr; · iexact He
    isplitl [Hpr_al0]; · iexact Hpr_al0
    iexact HHO
  iintro ⟨Hal1, Hd29, HHO⟩
  ihave Hh := (halve c (alS 1) (agV m (right c))) $$ Hal1
  icases Hh with ⟨Hal1l, Hal1h⟩
  iapply (snd m K c _ (left c) (dev13_eq c) 27 30 12 rfl rfl (by decide) (by decide) rfl (congrArg (fun z : Dev nD => (owns ((left c : Dev nD) : Thread nD τ) (alS 2) fullShare (agV m (right z) : FVec F S1x256x1024 .bf16) : sProp 𝕄)) (right_left c)) rfl rfl) $$ [Hal1l Hdst_al2 Hts_al1 Htr_al1 His_al1 HHO]
  · isplitr; · iexact He
    isplitl [Hal1l]; · iexact Hal1l
    isplitl [Hdst_al2]; · iexact Hdst_al2
    isplitl [Hts_al1]; · iexact Hts_al1
    isplitl [Htr_al1]; · iexact Htr_al1
    isplitl [His_al1]; · iexact His_al1
    iexact HHO
  iintro ⟨Hps_al1, HHO⟩
  iapply (ld_at c alM _ ![(1 : Fin 4).val, 0, 0] rfl (inb4 1)) $$ Hal1h; iintro Hal1h
  iapply (retB c (a' := (agV m (right c))) rfl)
  iapply Hk $$ [HOL2 HHO Hd29 Hal1h Hps_al1]
  isplitl [HOL2]; · iexact HOL2
  isplitl [HHO]; · iexact HHO
  isplitl [Hd29]; · iexact Hd29
  isplitl [Hal1h]; · iexact Hal1h
  iexact Hps_al1

theorem part32 (v2 : BitVec 32) (v24 : BitVec 32) {Q : PUnit → sProp 𝕄} :
    iprop(env m K ∗ owns (c : Thread nD τ) (outS (rowR c 3)) fullShare (partV m c (rowR c 3)) ∗ pending c 23 ∗ owesW c 13
        ∗ (iprop(owns (c : Thread nD τ) (outS (rowR c 3)) fullShare (rowV m (right c)) ∗ owesW c 13 ∗ owns (c : Thread nD τ) (arS 2) fullShare (agV m (left (left c))) ∗ done c 23) -∗ Q ⟨⟩))
      ⊢ wpB c (k0_part32 xM (Memref.isWhole_whole _) rwM (Memref.isWhole_whole _) riM (Memref.isWhole_whole _) weM (Memref.isWhole_whole _) swM (Memref.isWhole_whole _) outM (Memref.isWhole_whole _) ewM (Memref.isWhole_whole _) gtM (Memref.isWhole_whole _) yM (Memref.isWhole_whole _) rsM (Memref.isWhole_whole _) rrM (Memref.isWhole_whole _) lsM (Memref.isWhole_whole _) lrM (Memref.isWhole_whole _) arM (Memref.isWhole_whole _) alM (Memref.isWhole_whole _) cc0_scratch9 cc0_scratch10 cc0_scratch11 cc0_scratch12 cc0_scratch13 cc0_scratch14 cc0_scratch15 cc0_scratch16 cc0_scratch17 c v2 v24 (agV m (right c))) Q := by
  rw [k0_part32_eq_skeleton]; unfold k0_part32_skel
  simp only [semSignalWord, semWaitWord, Prog.lift, Prog.bind_op, Prog.bind_ret, Prog.pure_eq_ret, wp_deviceId]
  iintro ⟨#He, HOR3, Hpr_ar1, HHO, Hk⟩
  iapply (ld_at c outM _ ![256 * (rowR c 3 : Fin 8).val, 0] (off8_0 c) (inbO (rowR c 3))) $$ HOR3; iintro HOR3
  iapply (st_at c outM _ ![256 * (rowR c 3 : Fin 8).val, 0] (off8_0 c) (inbO (rowR c 3)) (w' := rowV m (right c)) (pay50_eq _)) $$ HOR3; iintro HOR3
  iapply (wt m K c 23 13 (arS 2) (P := owns (c : Thread nD τ) (arS 2) fullShare (agV m (left (left c)))) (by decide) rfl rfl (by decide) rfl) $$ [Hpr_ar1 HHO]
  · isplitr; · iexact He
    isplitl [Hpr_ar1]; · iexact Hpr_ar1
    iexact HHO
  iintro ⟨Har2, Hd23, HHO⟩
  iapply (retB c rfl)
  iapply Hk $$ [HOR3 HHO Har2 Hd23]
  isplitl [HOR3]; · iexact HOR3
  isplitl [HHO]; · iexact HHO
  isplitl [Har2]; · iexact Har2
  iexact Hd23

theorem part33 (v2 : BitVec 32) (v13 : BitVec 32) {Q : BitVec 32 → sProp 𝕄} :
    iprop(env m K ∗ owns (c : Thread nD τ) (arS 2) fullShare (agV m (left (left c))) ∗ anyOwns (right c) (arS 3) ∗ tok c 20 0 false ∗ tok (right c) 24 0 false ∗ idle c 20 ∗ owesW c 13 ∗ owns (c : Thread nD τ) (outS (rowL c 1)) fullShare (partV m c (rowL c 1)) ∗ pending c 30
        ∗ (∀ (r0 : BitVec 32), iprop(owns (c : Thread nD τ) (outS (rowL c 1)) fullShare (rowV m (left (left c))) ∗ owesW c 14 ∗ owns (c : Thread nD τ) (arS 2) fullShare.right (agV m (left (left c))) ∗ pending c 20 ∗ owns (c : Thread nD τ) (alS 2) fullShare (agV m (right (right c))) ∗ done c 30) -∗ Q (r0)))
      ⊢ wpB c (k0_part33 xM (Memref.isWhole_whole _) rwM (Memref.isWhole_whole _) riM (Memref.isWhole_whole _) weM (Memref.isWhole_whole _) swM (Memref.isWhole_whole _) outM (Memref.isWhole_whole _) ewM (Memref.isWhole_whole _) gtM (Memref.isWhole_whole _) yM (Memref.isWhole_whole _) rsM (Memref.isWhole_whole _) rrM (Memref.isWhole_whole _) lsM (Memref.isWhole_whole _) lrM (Memref.isWhole_whole _) arM (Memref.isWhole_whole _) alM (Memref.isWhole_whole _) cc0_scratch9 cc0_scratch10 cc0_scratch11 cc0_scratch12 cc0_scratch13 cc0_scratch14 cc0_scratch15 cc0_scratch16 cc0_scratch17 c v2 v13) Q := by
  rw [k0_part33_eq_skeleton]; unfold k0_part33_skel
  simp only [semSignalWord, semWaitWord, Prog.lift, Prog.bind_op, Prog.bind_ret, Prog.pure_eq_ret, wp_deviceId]
  iintro ⟨#He, Har2, Hdst_ar3, Hts_ar2, Htr_ar2, His_ar2, HHO, HOL1, Hpr_al1, Hk⟩
  ihave Hh := (halve c (arS 2) (agV m (left (left c)))) $$ Har2
  icases Hh with ⟨Har2l, Har2h⟩
  iapply (snd m K c _ (right c) (dev14_eq c) 20 24 13 rfl rfl (by decide) (by decide) rfl (congrArg (fun z : Dev nD => (owns ((right c : Dev nD) : Thread nD τ) (arS 3) fullShare (agV m (left (left z)) : FVec F S1x256x1024 .bf16) : sProp 𝕄)) (left_right c)) rfl rfl) $$ [Har2l Hdst_ar3 Hts_ar2 Htr_ar2 His_ar2 HHO]
  · isplitr; · iexact He
    isplitl [Har2l]; · iexact Har2l
    isplitl [Hdst_ar3]; · iexact Hdst_ar3
    isplitl [Hts_ar2]; · iexact Hts_ar2
    isplitl [Htr_ar2]; · iexact Htr_ar2
    isplitl [His_ar2]; · iexact His_ar2
    iexact HHO
  iintro ⟨Hps_ar2, HHO⟩
  iapply (ld_at c arM _ ![(2 : Fin 5).val, 0, 0] rfl (inb5 2)) $$ Har2h; iintro Har2h
  iapply (ld_at c outM _ ![256 * (rowL c 1 : Fin 8).val, 0] (off7_1 c) (inbO (rowL c 1))) $$ HOL1; iintro HOL1
  iapply (st_at c outM _ ![256 * (rowL c 1 : Fin 8).val, 0] (off7_1 c) (inbO (rowL c 1)) (w' := rowV m (left (left c))) (pay51_eq _)) $$ HOL1; iintro HOL1
  iapply (wt m K c 30 14 (alS 2) (P := owns (c : Thread nD τ) (alS 2) fullShare (agV m (right (right c)))) (by decide) rfl rfl (by decide) rfl) $$ [Hpr_al1 HHO]
  · isplitr; · iexact He
    isplitl [Hpr_al1]; · iexact Hpr_al1
    iexact HHO
  iintro ⟨Hal2, Hd30, HHO⟩
  iapply (retB c rfl)
  iapply Hk $$ [HOL1 HHO Har2h Hps_ar2 Hal2 Hd30]
  isplitl [HOL1]; · iexact HOL1
  isplitl [HHO]; · iexact HHO
  isplitl [Har2h]; · iexact Har2h
  isplitl [Hps_ar2]; · iexact Hps_ar2
  isplitl [Hal2]; · iexact Hal2
  iexact Hd30

theorem part34 (v2 : BitVec 32) (v13 : BitVec 32) (v24 : BitVec 32) (c1_i32_800 : BitVec 32) {Q : PUnit → sProp 𝕄} :
    iprop(env m K ∗ owns (c : Thread nD τ) (alS 2) fullShare (agV m (right (right c))) ∗ anyOwns (left c) (alS 3) ∗ tok c 28 0 false ∗ tok (left c) 31 0 false ∗ idle c 28 ∗ owesW c 14 ∗ owns (c : Thread nD τ) (outS (rowR c 2)) fullShare (partV m c (rowR c 2))
        ∗ (iprop(owns (c : Thread nD τ) (outS (rowR c 2)) fullShare (rowV m (right (right c))) ∗ owesW c 15 ∗ owns (c : Thread nD τ) (alS 2) fullShare.right (agV m (right (right c))) ∗ pending c 28) -∗ Q ⟨⟩))
      ⊢ wpB c (k0_part34 xM (Memref.isWhole_whole _) rwM (Memref.isWhole_whole _) riM (Memref.isWhole_whole _) weM (Memref.isWhole_whole _) swM (Memref.isWhole_whole _) outM (Memref.isWhole_whole _) ewM (Memref.isWhole_whole _) gtM (Memref.isWhole_whole _) yM (Memref.isWhole_whole _) rsM (Memref.isWhole_whole _) rrM (Memref.isWhole_whole _) lsM (Memref.isWhole_whole _) lrM (Memref.isWhole_whole _) arM (Memref.isWhole_whole _) alM (Memref.isWhole_whole _) cc0_scratch9 cc0_scratch10 cc0_scratch11 cc0_scratch12 cc0_scratch13 cc0_scratch14 cc0_scratch15 cc0_scratch16 cc0_scratch17 c v2 v13 v24 c1_i32_800) Q := by
  rw [k0_part34_eq_skeleton]; unfold k0_part34_skel
  simp only [semSignalWord, semWaitWord, Prog.lift, Prog.bind_op, Prog.bind_ret, Prog.pure_eq_ret, wp_deviceId]
  iintro ⟨#He, Hal2, Hdst_al3, Hts_al2, Htr_al2, His_al2, HHO, HOR2, Hk⟩
  ihave Hh := (halve c (alS 2) (agV m (right (right c)))) $$ Hal2
  icases Hh with ⟨Hal2l, Hal2h⟩
  iapply (snd m K c _ (left c) (dev15_eq c) 28 31 14 rfl rfl (by decide) (by decide) rfl (congrArg (fun z : Dev nD => (owns ((left c : Dev nD) : Thread nD τ) (alS 3) fullShare (agV m (right (right z)) : FVec F S1x256x1024 .bf16) : sProp 𝕄)) (right_left c)) rfl rfl) $$ [Hal2l Hdst_al3 Hts_al2 Htr_al2 His_al2 HHO]
  · isplitr; · iexact He
    isplitl [Hal2l]; · iexact Hal2l
    isplitl [Hdst_al3]; · iexact Hdst_al3
    isplitl [Hts_al2]; · iexact Hts_al2
    isplitl [Htr_al2]; · iexact Htr_al2
    isplitl [His_al2]; · iexact His_al2
    iexact HHO
  iintro ⟨Hps_al2, HHO⟩
  iapply (ld_at c alM _ ![(2 : Fin 4).val, 0, 0] rfl (inb4 2)) $$ Hal2h; iintro Hal2h
  iapply (ld_at c outM _ ![256 * (rowR c 2 : Fin 8).val, 0] (off8_1 c) (inbO (rowR c 2))) $$ HOR2; iintro HOR2
  iapply (st_at c outM _ ![256 * (rowR c 2 : Fin 8).val, 0] (off8_1 c) (inbO (rowR c 2)) (w' := rowV m (right (right c))) (pay52_eq _)) $$ HOR2; iintro HOR2
  iapply (retB c rfl)
  iapply Hk $$ [HOR2 HHO Hal2h Hps_al2]
  isplitl [HOR2]; · iexact HOR2
  isplitl [HHO]; · iexact HHO
  isplitl [Hal2h]; · iexact Hal2h
  iexact Hps_al2

theorem part35 (v2 : BitVec 32) (v24 : BitVec 32) {Q : PUnit → sProp 𝕄} :
    iprop(env m K ∗ pending c 24 ∗ owesW c 15 ∗ anyOwns (right c) (arS 4) ∗ tok c 21 0 false ∗ tok (right c) 25 0 false ∗ idle c 21 ∗ owns (c : Thread nD τ) (outS (rowL c 0)) fullShare (partV m c (rowL c 0))
        ∗ (iprop(owns (c : Thread nD τ) (outS (rowL c 0)) fullShare (rowV m (left (left (left c)))) ∗ owesW c 16 ∗ done c 24 ∗ owns (c : Thread nD τ) (arS 3) fullShare.right (agV m (left (left (left c)))) ∗ pending c 21) -∗ Q ⟨⟩))
      ⊢ wpB c (k0_part35 xM (Memref.isWhole_whole _) rwM (Memref.isWhole_whole _) riM (Memref.isWhole_whole _) weM (Memref.isWhole_whole _) swM (Memref.isWhole_whole _) outM (Memref.isWhole_whole _) ewM (Memref.isWhole_whole _) gtM (Memref.isWhole_whole _) yM (Memref.isWhole_whole _) rsM (Memref.isWhole_whole _) rrM (Memref.isWhole_whole _) lsM (Memref.isWhole_whole _) lrM (Memref.isWhole_whole _) arM (Memref.isWhole_whole _) alM (Memref.isWhole_whole _) cc0_scratch9 cc0_scratch10 cc0_scratch11 cc0_scratch12 cc0_scratch13 cc0_scratch14 cc0_scratch15 cc0_scratch16 cc0_scratch17 c v2 v24) Q := by
  rw [k0_part35_eq_skeleton]; unfold k0_part35_skel
  simp only [semSignalWord, semWaitWord, Prog.lift, Prog.bind_op, Prog.bind_ret, Prog.pure_eq_ret, wp_deviceId]
  iintro ⟨#He, Hpr_ar2, HHO, Hdst_ar4, Hts_ar3, Htr_ar3, His_ar3, HOL0, Hk⟩
  iapply (wt m K c 24 15 (arS 3) (P := owns (c : Thread nD τ) (arS 3) fullShare (agV m (left (left (left c))))) (by decide) rfl rfl (by decide) rfl) $$ [Hpr_ar2 HHO]
  · isplitr; · iexact He
    isplitl [Hpr_ar2]; · iexact Hpr_ar2
    iexact HHO
  iintro ⟨Har3, Hd24, HHO⟩
  ihave Hh := (halve c (arS 3) (agV m (left (left (left c))))) $$ Har3
  icases Hh with ⟨Har3l, Har3h⟩
  iapply (snd m K c _ (right c) (dev16_eq c) 21 25 15 rfl rfl (by decide) (by decide) rfl (congrArg (fun z : Dev nD => (owns ((right c : Dev nD) : Thread nD τ) (arS 4) fullShare (agV m (left (left (left z))) : FVec F S1x256x1024 .bf16) : sProp 𝕄)) (left_right c)) rfl rfl) $$ [Har3l Hdst_ar4 Hts_ar3 Htr_ar3 His_ar3 HHO]
  · isplitr; · iexact He
    isplitl [Har3l]; · iexact Har3l
    isplitl [Hdst_ar4]; · iexact Hdst_ar4
    isplitl [Hts_ar3]; · iexact Hts_ar3
    isplitl [Htr_ar3]; · iexact Htr_ar3
    isplitl [His_ar3]; · iexact His_ar3
    iexact HHO
  iintro ⟨Hps_ar3, HHO⟩
  iapply (ld_at c arM _ ![(3 : Fin 5).val, 0, 0] rfl (inb5 3)) $$ Har3h; iintro Har3h
  iapply (ld_at c outM _ ![256 * (rowL c 0 : Fin 8).val, 0] (off7_2 c) (inbO (rowL c 0))) $$ HOL0; iintro HOL0
  iapply (st_at c outM _ ![256 * (rowL c 0 : Fin 8).val, 0] (off7_2 c) (inbO (rowL c 0)) (w' := rowV m (left (left (left c)))) (pay53_eq _)) $$ HOL0; iintro HOL0
  iapply (retB c rfl)
  iapply Hk $$ [HOL0 HHO Hd24 Har3h Hps_ar3]
  isplitl [HOL0]; · iexact HOL0
  isplitl [HHO]; · iexact HHO
  isplitl [Hd24]; · iexact Hd24
  isplitl [Har3h]; · iexact Har3h
  iexact Hps_ar3

theorem part36 (v2 : BitVec 32) (v13 : BitVec 32) (v24 : BitVec 32) {Q : PUnit → sProp 𝕄} :
    iprop(env m K ∗ pending c 25 ∗ owesW c 16 ∗ owns (c : Thread nD τ) (outS (rowR c 0)) fullShare (partV m c (rowR c 0))
        ∗ (iprop(owns (c : Thread nD τ) (outS (rowR c 0)) fullShare (rowV m (left (left (left (left c))))) ∗ owesW c 16 ∗ owns (c : Thread nD τ) (arS 4) fullShare (agV m (left (left (left (left c))))) ∗ done c 25) -∗ Q ⟨⟩))
      ⊢ wpB c (k0_part36 xM (Memref.isWhole_whole _) rwM (Memref.isWhole_whole _) riM (Memref.isWhole_whole _) weM (Memref.isWhole_whole _) swM (Memref.isWhole_whole _) outM (Memref.isWhole_whole _) ewM (Memref.isWhole_whole _) gtM (Memref.isWhole_whole _) yM (Memref.isWhole_whole _) rsM (Memref.isWhole_whole _) rrM (Memref.isWhole_whole _) lsM (Memref.isWhole_whole _) lrM (Memref.isWhole_whole _) arM (Memref.isWhole_whole _) alM (Memref.isWhole_whole _) cc0_scratch9 cc0_scratch10 cc0_scratch11 cc0_scratch12 cc0_scratch13 cc0_scratch14 cc0_scratch15 cc0_scratch16 cc0_scratch17 c v2 v13 v24) Q := by
  rw [k0_part36_eq_skeleton]; unfold k0_part36_skel
  simp only [semSignalWord, semWaitWord, Prog.lift, Prog.bind_op, Prog.bind_ret, Prog.pure_eq_ret, wp_deviceId]
  iintro ⟨#He, Hpr_ar3, HHO, HOR0, Hk⟩
  iapply (wt m K c 25 16 (arS 4) (P := owns (c : Thread nD τ) (arS 4) fullShare (agV m (left (left (left (left c)))))) (by decide) rfl rfl (by decide) rfl) $$ [Hpr_ar3 HHO]
  · isplitr; · iexact He
    isplitl [Hpr_ar3]; · iexact Hpr_ar3
    iexact HHO
  iintro ⟨Har4, Hd25, HHO⟩
  iapply (ld_at c arM _ ![(4 : Fin 5).val, 0, 0] rfl (inb5 4)) $$ Har4; iintro Har4
  iapply (ld_at c outM _ ![256 * (rowR c 0 : Fin 8).val, 0] (off7_3 c) (inbO (rowR c 0))) $$ HOR0; iintro HOR0
  iapply (st_at c outM _ ![256 * (rowR c 0 : Fin 8).val, 0] (off7_3 c) (inbO (rowR c 0)) (w' := rowV m (left (left (left (left c))))) (pay54_eq _)) $$ HOR0; iintro HOR0
  iapply (retB c rfl)
  iapply Hk $$ [HOR0 HHO Har4 Hd25]
  isplitl [HOR0]; · iexact HOR0
  isplitl [HHO]; · iexact HHO
  isplitl [Har4]; · iexact Har4
  iexact Hd25

end Cert.MoeRing

end
-- ==== Proof.PartsG.lean ====
/-
The body of the kernel: the last block, and the waits for its own transfers.
-/
module

public import proofs.«01_k».proof.Proof.Rows

@[expose] public section

noncomputable section

namespace Cert.MoeRing

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

set_option maxHeartbeats 1000000

variable {F : FTy → Type} [FloatOps F]

local notation "𝕄" => MT nD τ sig Unit (Elt F) ℕ UU ℕ

variable (m : (ℓ : Loc nD τ sig) → Buf (Elt F) ℓ) (K : Dev nD × Fin 32 → ℕ) (c : Dev nD)

theorem part37 (v2 : BitVec 32) {Q : PUnit → sProp 𝕄} :
    iprop(env m K ∗ pending c 31 ∗ owesW c 16 ∗ owns (c : Thread nD τ) (outS (rowR c 1)) fullShare (partV m c (rowR c 1)) ∗ pending c 4
        ∗ (iprop(owns (c : Thread nD τ) (outS (rowR c 1)) fullShare (rowV m (right (right (right c)))) ∗ owns (c : Thread nD τ) (rsS 0) fullShare (sendR m 0 c) ∗ owesW c 16 ∗ owns (c : Thread nD τ) (alS 3) fullShare (agV m (right (right (right c)))) ∗ done c 31 ∗ done c 4) -∗ Q ⟨⟩))
      ⊢ wpB c (k0_part37 xM (Memref.isWhole_whole _) rwM (Memref.isWhole_whole _) riM (Memref.isWhole_whole _) weM (Memref.isWhole_whole _) swM (Memref.isWhole_whole _) outM (Memref.isWhole_whole _) ewM (Memref.isWhole_whole _) gtM (Memref.isWhole_whole _) yM (Memref.isWhole_whole _) rsM (Memref.isWhole_whole _) rrM (Memref.isWhole_whole _) lsM (Memref.isWhole_whole _) lrM (Memref.isWhole_whole _) arM (Memref.isWhole_whole _) alM (Memref.isWhole_whole _) cc0_scratch9 cc0_scratch10 cc0_scratch11 cc0_scratch12 cc0_scratch13 cc0_scratch14 cc0_scratch15 cc0_scratch16 cc0_scratch17 c v2) Q := by
  rw [k0_part37_eq_skeleton]; unfold k0_part37_skel
  simp only [semSignalWord, semWaitWord, Prog.lift, Prog.bind_op, Prog.bind_ret, Prog.pure_eq_ret, wp_deviceId]
  iintro ⟨#He, Hpr_al2, HHO, HOR1, Hps_rs0, Hk⟩
  iapply (wt m K c 31 16 (alS 3) (P := owns (c : Thread nD τ) (alS 3) fullShare (agV m (right (right (right c))))) (by decide) rfl rfl (by decide) rfl) $$ [Hpr_al2 HHO]
  · isplitr; · iexact He
    isplitl [Hpr_al2]; · iexact Hpr_al2
    iexact HHO
  iintro ⟨Hal3, Hd31, HHO⟩
  iapply (ld_at c alM _ ![(3 : Fin 4).val, 0, 0] rfl (inb4 3)) $$ Hal3; iintro Hal3
  iapply (ld_at c outM _ ![256 * (rowR c 1 : Fin 8).val, 0] (off8_2 c) (inbO (rowR c 1))) $$ HOR1; iintro HOR1
  iapply (st_at c outM _ ![256 * (rowR c 1 : Fin 8).val, 0] (off8_2 c) (inbO (rowR c 1)) (w' := rowV m (right (right (right c)))) (pay55_eq _)) $$ HOR1; iintro HOR1
  iapply (wt m K c 4 16 (rsS 0) (P := owns (c : Thread nD τ) (rsS 0) fullShare (sendR m 0 c)) (by decide) rfl rfl (by decide) rfl) $$ [Hps_rs0 HHO]
  · isplitr; · iexact He
    isplitl [Hps_rs0]; · iexact Hps_rs0
    iexact HHO
  iintro ⟨Hrs0, Hd4, HHO⟩
  iapply (retB c rfl)
  iapply Hk $$ [HOR1 Hrs0 HHO Hal3 Hd31 Hd4]
  isplitl [HOR1]; · iexact HOR1
  isplitl [Hrs0]; · iexact Hrs0
  isplitl [HHO]; · iexact HHO
  isplitl [Hal3]; · iexact Hal3
  isplitl [Hd31]; · iexact Hd31
  iexact Hd4

theorem part38  {Q : PUnit → sProp 𝕄} :
    iprop(env m K ∗ pending c 5 ∗ owesW c 16 ∗ pending c 6 ∗ pending c 7 ∗ pending c 12
        ∗ (iprop(owns (c : Thread nD τ) (rsS 1) fullShare (sendR m 1 c) ∗ owns (c : Thread nD τ) (rsS 2) fullShare (sendR m 2 c) ∗ owns (c : Thread nD τ) (rsS 3) fullShare (sendR m 3 c) ∗ owns (c : Thread nD τ) (lsS 0) fullShare (sendL m 0 c) ∗ owesW c 16 ∗ done c 5 ∗ done c 6 ∗ done c 7 ∗ done c 12) -∗ Q ⟨⟩))
      ⊢ wpB c (k0_part38 xM (Memref.isWhole_whole _) rwM (Memref.isWhole_whole _) riM (Memref.isWhole_whole _) weM (Memref.isWhole_whole _) swM (Memref.isWhole_whole _) outM (Memref.isWhole_whole _) ewM (Memref.isWhole_whole _) gtM (Memref.isWhole_whole _) yM (Memref.isWhole_whole _) rsM (Memref.isWhole_whole _) rrM (Memref.isWhole_whole _) lsM (Memref.isWhole_whole _) lrM (Memref.isWhole_whole _) arM (Memref.isWhole_whole _) alM (Memref.isWhole_whole _) cc0_scratch9 cc0_scratch10 cc0_scratch11 cc0_scratch12 cc0_scratch13 cc0_scratch14 cc0_scratch15 cc0_scratch16 cc0_scratch17 ) Q := by
  rw [k0_part38_eq_skeleton]; unfold k0_part38_skel
  simp only [semSignalWord, semWaitWord, Prog.lift, Prog.bind_op, Prog.bind_ret, Prog.pure_eq_ret, wp_deviceId]
  iintro ⟨#He, Hps_rs1, HHO, Hps_rs2, Hps_rs3, Hps_ls0, Hk⟩
  iapply (wt m K c 5 16 (rsS 1) (P := owns (c : Thread nD τ) (rsS 1) fullShare (sendR m 1 c)) (by decide) rfl rfl (by decide) rfl) $$ [Hps_rs1 HHO]
  · isplitr; · iexact He
    isplitl [Hps_rs1]; · iexact Hps_rs1
    iexact HHO
  iintro ⟨Hrs1, Hd5, HHO⟩
  iapply (wt m K c 6 16 (rsS 2) (P := owns (c : Thread nD τ) (rsS 2) fullShare (sendR m 2 c)) (by decide) rfl rfl (by decide) rfl) $$ [Hps_rs2 HHO]
  · isplitr; · iexact He
    isplitl [Hps_rs2]; · iexact Hps_rs2
    iexact HHO
  iintro ⟨Hrs2, Hd6, HHO⟩
  iapply (wt m K c 7 16 (rsS 3) (P := owns (c : Thread nD τ) (rsS 3) fullShare (sendR m 3 c)) (by decide) rfl rfl (by decide) rfl) $$ [Hps_rs3 HHO]
  · isplitr; · iexact He
    isplitl [Hps_rs3]; · iexact Hps_rs3
    iexact HHO
  iintro ⟨Hrs3, Hd7, HHO⟩
  iapply (wt m K c 12 16 (lsS 0) (P := owns (c : Thread nD τ) (lsS 0) fullShare (sendL m 0 c)) (by decide) rfl rfl (by decide) rfl) $$ [Hps_ls0 HHO]
  · isplitr; · iexact He
    isplitl [Hps_ls0]; · iexact Hps_ls0
    iexact HHO
  iintro ⟨Hls0, Hd12, HHO⟩
  iapply (retB c rfl)
  iapply Hk $$ [Hrs1 Hrs2 Hrs3 Hls0 HHO Hd5 Hd6 Hd7 Hd12]
  isplitl [Hrs1]; · iexact Hrs1
  isplitl [Hrs2]; · iexact Hrs2
  isplitl [Hrs3]; · iexact Hrs3
  isplitl [Hls0]; · iexact Hls0
  isplitl [HHO]; · iexact HHO
  isplitl [Hd5]; · iexact Hd5
  isplitl [Hd6]; · iexact Hd6
  isplitl [Hd7]; · iexact Hd7
  iexact Hd12

theorem part39  {Q : PUnit → sProp 𝕄} :
    iprop(env m K ∗ pending c 13 ∗ owesW c 16 ∗ pending c 14 ∗ pending c 18 ∗ pending c 19 ∗ owns (c : Thread nD τ) (arS 1) fullShare.right (agV m (left c))
        ∗ (iprop(owns (c : Thread nD τ) (lsS 1) fullShare (sendL m 1 c) ∗ owns (c : Thread nD τ) (lsS 2) fullShare (sendL m 2 c) ∗ owns (c : Thread nD τ) (arS 0) fullShare (agV m c) ∗ owesW c 16 ∗ owns (c : Thread nD τ) (arS 1) fullShare (agV m (left c)) ∗ done c 13 ∗ done c 14 ∗ done c 18 ∗ done c 19) -∗ Q ⟨⟩))
      ⊢ wpB c (k0_part39 xM (Memref.isWhole_whole _) rwM (Memref.isWhole_whole _) riM (Memref.isWhole_whole _) weM (Memref.isWhole_whole _) swM (Memref.isWhole_whole _) outM (Memref.isWhole_whole _) ewM (Memref.isWhole_whole _) gtM (Memref.isWhole_whole _) yM (Memref.isWhole_whole _) rsM (Memref.isWhole_whole _) rrM (Memref.isWhole_whole _) lsM (Memref.isWhole_whole _) lrM (Memref.isWhole_whole _) arM (Memref.isWhole_whole _) alM (Memref.isWhole_whole _) cc0_scratch9 cc0_scratch10 cc0_scratch11 cc0_scratch12 cc0_scratch13 cc0_scratch14 cc0_scratch15 cc0_scratch16 cc0_scratch17 ) Q := by
  rw [k0_part39_eq_skeleton]; unfold k0_part39_skel
  simp only [semSignalWord, semWaitWord, Prog.lift, Prog.bind_op, Prog.bind_ret, Prog.pure_eq_ret, wp_deviceId]
  iintro ⟨#He, Hps_ls1, HHO, Hps_ls2, Hps_ar0, Hps_ar1, Har1h, Hk⟩
  iapply (wt m K c 13 16 (lsS 1) (P := owns (c : Thread nD τ) (lsS 1) fullShare (sendL m 1 c)) (by decide) rfl rfl (by decide) rfl) $$ [Hps_ls1 HHO]
  · isplitr; · iexact He
    isplitl [Hps_ls1]; · iexact Hps_ls1
    iexact HHO
  iintro ⟨Hls1, Hd13, HHO⟩
  iapply (wt m K c 14 16 (lsS 2) (P := owns (c : Thread nD τ) (lsS 2) fullShare (sendL m 2 c)) (by decide) rfl rfl (by decide) rfl) $$ [Hps_ls2 HHO]
  · isplitr; · iexact He
    isplitl [Hps_ls2]; · iexact Hps_ls2
    iexact HHO
  iintro ⟨Hls2, Hd14, HHO⟩
  iapply (wt m K c 18 16 (arS 0) (P := owns (c : Thread nD τ) (arS 0) fullShare (agV m c)) (by decide) rfl rfl (by decide) rfl) $$ [Hps_ar0 HHO]
  · isplitr; · iexact He
    isplitl [Hps_ar0]; · iexact Hps_ar0
    iexact HHO
  iintro ⟨Har0, Hd18, HHO⟩
  iapply (wt m K c 19 16 (arS 1) (P := owns (c : Thread nD τ) (arS 1) fullShare.left (agV m (left c))) (by decide) rfl rfl (by decide) rfl) $$ [Hps_ar1 HHO]
  · isplitr; · iexact He
    isplitl [Hps_ar1]; · iexact Hps_ar1
    iexact HHO
  iintro ⟨Har1l, Hd19, HHO⟩
  ihave Har1 := (unhalve c (arS 1) (agV m (left c))) $$ [Har1l Har1h]
  · isplitl [Har1l]; · iexact Har1l
    iexact Har1h
  iapply (retB c rfl)
  iapply Hk $$ [Hls1 Hls2 Har0 HHO Har1 Hd13 Hd14 Hd18 Hd19]
  isplitl [Hls1]; · iexact Hls1
  isplitl [Hls2]; · iexact Hls2
  isplitl [Har0]; · iexact Har0
  isplitl [HHO]; · iexact HHO
  isplitl [Har1]; · iexact Har1
  isplitl [Hd13]; · iexact Hd13
  isplitl [Hd14]; · iexact Hd14
  isplitl [Hd18]; · iexact Hd18
  iexact Hd19

theorem part40  {Q : PUnit → sProp 𝕄} :
    iprop(env m K ∗ pending c 20 ∗ owesW c 16 ∗ owns (c : Thread nD τ) (arS 2) fullShare.right (agV m (left (left c))) ∗ pending c 21 ∗ owns (c : Thread nD τ) (arS 3) fullShare.right (agV m (left (left (left c)))) ∗ pending c 26
        ∗ (iprop(owns (c : Thread nD τ) (alS 0) fullShare (agV m c) ∗ owesW c 16 ∗ owns (c : Thread nD τ) (arS 2) fullShare (agV m (left (left c))) ∗ owns (c : Thread nD τ) (arS 3) fullShare (agV m (left (left (left c)))) ∗ done c 20 ∗ done c 21 ∗ done c 26) -∗ Q ⟨⟩))
      ⊢ wpB c (k0_part40 xM (Memref.isWhole_whole _) rwM (Memref.isWhole_whole _) riM (Memref.isWhole_whole _) weM (Memref.isWhole_whole _) swM (Memref.isWhole_whole _) outM (Memref.isWhole_whole _) ewM (Memref.isWhole_whole _) gtM (Memref.isWhole_whole _) yM (Memref.isWhole_whole _) rsM (Memref.isWhole_whole _) rrM (Memref.isWhole_whole _) lsM (Memref.isWhole_whole _) lrM (Memref.isWhole_whole _) arM (Memref.isWhole_whole _) alM (Memref.isWhole_whole _) cc0_scratch9 cc0_scratch10 cc0_scratch11 cc0_scratch12 cc0_scratch13 cc0_scratch14 cc0_scratch15 cc0_scratch16 cc0_scratch17 ) Q := by
  rw [k0_part40_eq_skeleton]; unfold k0_part40_skel
  simp only [semSignalWord, semWaitWord, Prog.lift, Prog.bind_op, Prog.bind_ret, Prog.pure_eq_ret, wp_deviceId]
  iintro ⟨#He, Hps_ar2, HHO, Har2h, Hps_ar3, Har3h, Hps_al0, Hk⟩
  iapply (wt m K c 20 16 (arS 2) (P := owns (c : Thread nD τ) (arS 2) fullShare.left (agV m (left (left c)))) (by decide) rfl rfl (by decide) rfl) $$ [Hps_ar2 HHO]
  · isplitr; · iexact He
    isplitl [Hps_ar2]; · iexact Hps_ar2
    iexact HHO
  iintro ⟨Har2l, Hd20, HHO⟩
  ihave Har2 := (unhalve c (arS 2) (agV m (left (left c)))) $$ [Har2l Har2h]
  · isplitl [Har2l]; · iexact Har2l
    iexact Har2h
  iapply (wt m K c 21 16 (arS 3) (P := owns (c : Thread nD τ) (arS 3) fullShare.left (agV m (left (left (left c))))) (by decide) rfl rfl (by decide) rfl) $$ [Hps_ar3 HHO]
  · isplitr; · iexact He
    isplitl [Hps_ar3]; · iexact Hps_ar3
    iexact HHO
  iintro ⟨Har3l, Hd21, HHO⟩
  ihave Har3 := (unhalve c (arS 3) (agV m (left (left (left c))))) $$ [Har3l Har3h]
  · isplitl [Har3l]; · iexact Har3l
    iexact Har3h
  iapply (wt m K c 26 16 (alS 0) (P := owns (c : Thread nD τ) (alS 0) fullShare (agV m c)) (by decide) rfl rfl (by decide) rfl) $$ [Hps_al0 HHO]
  · isplitr; · iexact He
    isplitl [Hps_al0]; · iexact Hps_al0
    iexact HHO
  iintro ⟨Hal0, Hd26, HHO⟩
  iapply (retB c rfl)
  iapply Hk $$ [Hal0 HHO Har2 Har3 Hd20 Hd21 Hd26]
  isplitl [Hal0]; · iexact Hal0
  isplitl [HHO]; · iexact HHO
  isplitl [Har2]; · iexact Har2
  isplitl [Har3]; · iexact Har3
  isplitl [Hd20]; · iexact Hd20
  isplitl [Hd21]; · iexact Hd21
  iexact Hd26

end Cert.MoeRing

end
-- ==== Proof.Body.lean ====
/-
The kernel's body on one device: from its buffers whole, its rights to make and to await the transfers, to the result.
-/
module

public import proofs.«01_k».proof.Proof.Cut
public import proofs.«01_k».proof.Proof.PartsA
public import proofs.«01_k».proof.Proof.PartsB
public import proofs.«01_k».proof.Proof.PartsC
public import proofs.«01_k».proof.Proof.PartsD
public import proofs.«01_k».proof.Proof.PartsE
public import proofs.«01_k».proof.Proof.PartsF
public import proofs.«01_k».proof.Proof.PartsG

@[expose] public section

noncomputable section

namespace Cert.MoeRing

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

set_option maxHeartbeats 4000000

variable {F : FTy → Type} [FloatOps F]

local notation "𝕄" => MT nD τ sig Unit (Elt F) ℕ UU ℕ

variable (m : (ℓ : Loc nD τ sig) → Buf (Elt F) ℓ) (K : Dev nD × Fin 32 → ℕ) (c : Dev nD)

/-- The transfers a device makes, and its two signals: whose semaphore, which, in which round, on which side. -/
def deal : Fin 38 → (Dev nD ≃ Dev nD) × Fin 32 × ℕ × Bool := ![
  (ring.symm, 0, 0, true),
  (ring, 0, 0, false),
  (Equiv.refl _, 1, 0, false),
  (Equiv.refl _, 2, 0, false),
  (Equiv.refl _, 3, 0, false),
  (Equiv.refl _, 1, 1, false),
  (Equiv.refl _, 2, 1, false),
  (Equiv.refl _, 3, 1, false),
  (Equiv.refl _, 1, 2, false),
  (Equiv.refl _, 2, 2, false),
  (Equiv.refl _, 4, 0, false),
  (Equiv.refl _, 5, 0, false),
  (Equiv.refl _, 6, 0, false),
  (Equiv.refl _, 7, 0, false),
  (Equiv.refl _, 12, 0, false),
  (Equiv.refl _, 13, 0, false),
  (Equiv.refl _, 14, 0, false),
  (Equiv.refl _, 18, 0, false),
  (Equiv.refl _, 19, 0, false),
  (Equiv.refl _, 20, 0, false),
  (Equiv.refl _, 21, 0, false),
  (Equiv.refl _, 26, 0, false),
  (Equiv.refl _, 27, 0, false),
  (Equiv.refl _, 28, 0, false),
  (ring, 8, 0, false),
  (ring, 9, 0, false),
  (ring, 10, 0, false),
  (ring, 11, 0, false),
  (ring.symm, 15, 0, false),
  (ring.symm, 16, 0, false),
  (ring.symm, 17, 0, false),
  (ring, 22, 0, false),
  (ring, 23, 0, false),
  (ring, 24, 0, false),
  (ring, 25, 0, false),
  (ring.symm, 29, 0, false),
  (ring.symm, 30, 0, false),
  (ring.symm, 31, 0, false)]
/-- The semaphores that count what arrives. -/
def rcv : Fin 14 → Fin 32 := ![8, 9, 10, 11, 15, 16, 17, 22, 23, 24, 25, 29, 30, 31]

/-- The rights to make them, a device's positions at its semaphores, and the credits for what will arrive. -/
def payToks : sProp 𝕄 := bigSep Finset.univ fun j : Fin 38 => tok ((deal j).1 c) (deal j).2.1 (deal j).2.2.1 (deal j).2.2.2
def idles : sProp 𝕄 := bigSep Finset.univ fun k : Fin 32 => idle c k
def credits : sProp 𝕄 := iprop(cred (tallyAt (kcell (c, 0)) () 2) ∗ bigSep Finset.univ fun i : Fin 14 => cred (tallyAt (kcell (c, rcv i)) () NS))
def dones : sProp 𝕄 := bigSep Finset.univ fun k : Fin 32 => done c k

omit [FloatOps F] in
theorem payToks_eq : (payToks c : sProp 𝕄) = iprop(tok (left c) 0 0 true ∗ tok (right c) 0 0 false ∗ tok c 1 0 false ∗ tok c 2 0 false ∗ tok c 3 0 false ∗ tok c 1 1 false ∗ tok c 2 1 false ∗ tok c 3 1 false ∗ tok c 1 2 false ∗ tok c 2 2 false ∗ tok c 4 0 false ∗ tok c 5 0 false ∗ tok c 6 0 false ∗ tok c 7 0 false ∗ tok c 12 0 false ∗ tok c 13 0 false ∗ tok c 14 0 false ∗ tok c 18 0 false ∗ tok c 19 0 false ∗ tok c 20 0 false ∗ tok c 21 0 false ∗ tok c 26 0 false ∗ tok c 27 0 false ∗ tok c 28 0 false ∗ tok (right c) 8 0 false ∗ tok (right c) 9 0 false ∗ tok (right c) 10 0 false ∗ tok (right c) 11 0 false ∗ tok (left c) 15 0 false ∗ tok (left c) 16 0 false ∗ tok (left c) 17 0 false ∗ tok (right c) 22 0 false ∗ tok (right c) 23 0 false ∗ tok (right c) 24 0 false ∗ tok (right c) 25 0 false ∗ tok (left c) 29 0 false ∗ tok (left c) 30 0 false ∗ tok (left c) 31 0 false) := by
  unfold payToks
  rw [bigSep_univ_eq_bigSepL [0, 1, 2, 3, 4, 5, 6, 7, 8, 9, 10, 11, 12, 13, 14, 15, 16, 17, 18, 19, 20, 21, 22, 23, 24, 25, 26, 27, 28, 29, 30, 31, 32, 33, 34, 35, 36, 37] (by decide) (by decide)]
  rfl
omit [FloatOps F] in
theorem idles_eq : (idles c : sProp 𝕄) = iprop(idle c 0 ∗ idle c 1 ∗ idle c 2 ∗ idle c 3 ∗ idle c 4 ∗ idle c 5 ∗ idle c 6 ∗ idle c 7 ∗ idle c 8 ∗ idle c 9 ∗ idle c 10 ∗ idle c 11 ∗ idle c 12 ∗ idle c 13 ∗ idle c 14 ∗ idle c 15 ∗ idle c 16 ∗ idle c 17 ∗ idle c 18 ∗ idle c 19 ∗ idle c 20 ∗ idle c 21 ∗ idle c 22 ∗ idle c 23 ∗ idle c 24 ∗ idle c 25 ∗ idle c 26 ∗ idle c 27 ∗ idle c 28 ∗ idle c 29 ∗ idle c 30 ∗ idle c 31) := by
  unfold idles
  rw [bigSep_univ_eq_bigSepL [0, 1, 2, 3, 4, 5, 6, 7, 8, 9, 10, 11, 12, 13, 14, 15, 16, 17, 18, 19, 20, 21, 22, 23, 24, 25, 26, 27, 28, 29, 30, 31] (by decide) (by decide)]
  rfl
omit [FloatOps F] in
theorem dones_eq : (dones c : sProp 𝕄) = iprop(done c 0 ∗ done c 1 ∗ done c 2 ∗ done c 3 ∗ done c 4 ∗ done c 5 ∗ done c 6 ∗ done c 7 ∗ done c 8 ∗ done c 9 ∗ done c 10 ∗ done c 11 ∗ done c 12 ∗ done c 13 ∗ done c 14 ∗ done c 15 ∗ done c 16 ∗ done c 17 ∗ done c 18 ∗ done c 19 ∗ done c 20 ∗ done c 21 ∗ done c 22 ∗ done c 23 ∗ done c 24 ∗ done c 25 ∗ done c 26 ∗ done c 27 ∗ done c 28 ∗ done c 29 ∗ done c 30 ∗ done c 31) := by
  unfold dones
  rw [bigSep_univ_eq_bigSepL [0, 1, 2, 3, 4, 5, 6, 7, 8, 9, 10, 11, 12, 13, 14, 15, 16, 17, 18, 19, 20, 21, 22, 23, 24, 25, 26, 27, 28, 29, 30, 31] (by decide) (by decide)]
  rfl
omit [FloatOps F] in
theorem credits_eq : (credits c : sProp 𝕄) = iprop(cred (tallyAt (kcell (c, 0)) () 2) ∗ cred (tallyAt (kcell (c, 8)) () NS) ∗ cred (tallyAt (kcell (c, 9)) () NS) ∗ cred (tallyAt (kcell (c, 10)) () NS) ∗ cred (tallyAt (kcell (c, 11)) () NS) ∗ cred (tallyAt (kcell (c, 15)) () NS) ∗ cred (tallyAt (kcell (c, 16)) () NS) ∗ cred (tallyAt (kcell (c, 17)) () NS) ∗ cred (tallyAt (kcell (c, 22)) () NS) ∗ cred (tallyAt (kcell (c, 23)) () NS) ∗ cred (tallyAt (kcell (c, 24)) () NS) ∗ cred (tallyAt (kcell (c, 25)) () NS) ∗ cred (tallyAt (kcell (c, 29)) () NS) ∗ cred (tallyAt (kcell (c, 30)) () NS) ∗ cred (tallyAt (kcell (c, 31)) () NS)) := by
  unfold credits
  rw [bigSep_univ_eq_bigSepL [0, 1, 2, 3, 4, 5, 6, 7, 8, 9, 10, 11, 12, 13] (by decide) (by decide)]
  rfl

/-- A part, then what follows it. -/
theorem bindB {α β : Type} (p : Prog (TpuEff nD τ sig (Elt F) Λ₀ .tc) α) (k : α → Prog (TpuEff nD τ sig (Elt F) Λ₀ .tc) β) {Q : β → sProp 𝕄} :
    wpB c p (fun a => wpB c (k a) Q) ⊢ wpB c (p >>= k) Q := Entails.of_eq (wp_bind _ _ _ p k Q).symm

/-- The scratch buffers. -/
def scratch : sProp 𝕄 :=
  iprop(anyOwns c ewM ∗ anyOwns c gtM ∗ anyOwns c yM ∗ anyOwns c rsM ∗ anyOwns c rrM ∗ anyOwns c lsM ∗ anyOwns c lrM ∗ anyOwns c arM ∗ anyOwns c alM)

/-- What it starts from, and what it leaves. -/
def bodyPre : sProp 𝕄 := iprop((owns (c : Thread nD τ) (xM) fullShare (xV m c) ∗ owns (c : Thread nD τ) (rwM) fullShare (rwV m c) ∗ owns (c : Thread nD τ) (riM) fullShare (riV m c) ∗ owns (c : Thread nD τ) (swM) fullShare (swV m c)) ∗ anyOwns c outM ∗ owns (c : Thread nD τ) weM fullShare (weV m c) ∗ scratch c ∗ idles c ∗ payToks c ∗ credits c ∗ owesW c 0)
def bodyPost : sProp 𝕄 := iprop((owns (c : Thread nD τ) (xM) fullShare (xV m c) ∗ owns (c : Thread nD τ) (rwM) fullShare (rwV m c) ∗ owns (c : Thread nD τ) (riM) fullShare (riV m c) ∗ owns (c : Thread nD τ) (swM) fullShare (swV m c)) ∗ owns (c : Thread nD τ) outM fullShare (outV c m) ∗ owns (c : Thread nD τ) weM fullShare (weV m c) ∗ scratch c ∗ dones c ∗ owesW c 16)

set_option maxRecDepth 8000 in
theorem body {Q : PUnit → sProp 𝕄} : iprop(env m K ∗ bodyPre m c ∗ (bodyPost m c -∗ Q ⟨⟩)) ⊢ wpB c (cc0_body xM (Memref.isWhole_whole _) rwM (Memref.isWhole_whole _) riM (Memref.isWhole_whole _) weM (Memref.isWhole_whole _) swM (Memref.isWhole_whole _) outM (Memref.isWhole_whole _) ewM (Memref.isWhole_whole _) gtM (Memref.isWhole_whole _) yM (Memref.isWhole_whole _) rsM (Memref.isWhole_whole _) rrM (Memref.isWhole_whole _) lsM (Memref.isWhole_whole _) lrM (Memref.isWhole_whole _) arM (Memref.isWhole_whole _) alM (Memref.isWhole_whole _) cc0_scratch9 cc0_scratch10 cc0_scratch11 cc0_scratch12 cc0_scratch13 cc0_scratch14 cc0_scratch15 cc0_scratch16 cc0_scratch17) Q := by
  rw [cc0_body_eq_skeleton]; unfold cc0_body_skel
  unfold bodyPre scratch
  rw [payToks_eq, idles_eq, credits_eq]
  iintro ⟨#He, ⟨⟨Hx, Hrw, Hri, Hsw⟩, Hout, Hwe, ⟨Hew, Hgt, Hy, Hrs, Hrr, Hls, Hlr, Har, Hal⟩, ⟨Hbi, Hi1, Hi2, Hi3, His_rs0, His_rs1, His_rs2, His_rs3, Hi8, Hi9, Hi10, Hi11, His_ls0, His_ls1, His_ls2, Hi15, Hi16, Hi17, His_ar0, His_ar1, His_ar2, His_ar3, Hi22, Hi23, Hi24, Hi25, His_al0, His_al1, His_al2, Hi29, Hi30, Hi31⟩, ⟨HtbL, HtbR, Het0, Het1, Het2, Het3, Het4, Het5, Het6, Het7, Hts_rs0, Hts_rs1, Hts_rs2, Hts_rs3, Hts_ls0, Hts_ls1, Hts_ls2, Hts_ar0, Hts_ar1, Hts_ar2, Hts_ar3, Hts_al0, Hts_al1, Hts_al2, Htr_rr0, Htr_rr1, Htr_rr2, Htr_rr3, Htr_lr0, Htr_lr1, Htr_lr2, Htr_ar0, Htr_ar1, Htr_ar2, Htr_ar3, Htr_al0, Htr_al1, Htr_al2⟩, ⟨Hbc, Hc8, Hc9, Hc10, Hc11, Hc15, Hc16, Hc17, Hc22, Hc23, Hc24, Hc25, Hc29, Hc30, Hc31⟩, HHO⟩, Hk⟩
  icases (outCut (F := F) c) $$ Hout with ⟨HOC, HOR0, HOR1, HOR2, HOR3, HOL0, HOL1, HOL2⟩
  icases (weCut c m) $$ Hwe with ⟨Hwe0, Hwe1, Hwe2, Hwe3, Hwe4, Hwe5, Hwe6, Hwe7⟩
  icases (ewCut (F := F) c) $$ Hew with ⟨Hew0, Hew1, Hew2⟩
  icases (yCut (F := F) c) $$ Hy with ⟨Hy0, Hy1, Hy2, Hy3, Hy4, Hy5, Hy6, Hy7⟩
  icases (cut4 (F := F) c rsM) $$ Hrs with ⟨Hrs0, Hrs1, Hrs2, Hrs3⟩
  icases (cut4 (F := F) c rrM) $$ Hrr with ⟨Hrr0, Hrr1, Hrr2, Hrr3⟩
  icases (cut3 (F := F) c lsM) $$ Hls with ⟨Hls0, Hls1, Hls2⟩
  icases (cut3 (F := F) c lrM) $$ Hlr with ⟨Hlr0, Hlr1, Hlr2⟩
  icases (cut5 (F := F) c arM) $$ Har with ⟨Har0, Har1, Har2, Har3, Har4⟩
  icases (cut4 (F := F) c alM) $$ Hal with ⟨Hal0, Hal1, Hal2, Hal3⟩
  ihave HslotsR : slotsR c $$ [Hrr0 Hrr1 Hrr2 Hrr3 Har1 Har2 Har3 Har4]
  · unfold slotsR
    isplitl [Hrr0]; · iexact Hrr0
    isplitl [Hrr1]; · iexact Hrr1
    isplitl [Hrr2]; · iexact Hrr2
    isplitl [Hrr3]; · iexact Hrr3
    isplitl [Har1]; · iexact Har1
    isplitl [Har2]; · iexact Har2
    isplitl [Har3]; · iexact Har3
    iexact Har4
  ihave HslotsL : slotsL c $$ [Hlr0 Hlr1 Hlr2 Hal1 Hal2 Hal3]
  · unfold slotsL
    isplitl [Hlr0]; · iexact Hlr0
    isplitl [Hlr1]; · iexact Hlr1
    isplitl [Hlr2]; · iexact Hlr2
    isplitl [Hal1]; · iexact Hal1
    isplitl [Hal2]; · iexact Hal2
    iexact Hal3
  ihave Hpr_rr0 : pending c 8 $$ [Hc8 Hi8]
  · unfold pending idle
    isplitl [Hc8]; · iexact Hc8
    iexact Hi8
  ihave Hpr_rr1 : pending c 9 $$ [Hc9 Hi9]
  · unfold pending idle
    isplitl [Hc9]; · iexact Hc9
    iexact Hi9
  ihave Hpr_rr2 : pending c 10 $$ [Hc10 Hi10]
  · unfold pending idle
    isplitl [Hc10]; · iexact Hc10
    iexact Hi10
  ihave Hpr_rr3 : pending c 11 $$ [Hc11 Hi11]
  · unfold pending idle
    isplitl [Hc11]; · iexact Hc11
    iexact Hi11
  ihave Hpr_lr0 : pending c 15 $$ [Hc15 Hi15]
  · unfold pending idle
    isplitl [Hc15]; · iexact Hc15
    iexact Hi15
  ihave Hpr_lr1 : pending c 16 $$ [Hc16 Hi16]
  · unfold pending idle
    isplitl [Hc16]; · iexact Hc16
    iexact Hi16
  ihave Hpr_lr2 : pending c 17 $$ [Hc17 Hi17]
  · unfold pending idle
    isplitl [Hc17]; · iexact Hc17
    iexact Hi17
  ihave Hpr_ar0 : pending c 22 $$ [Hc22 Hi22]
  · unfold pending idle
    isplitl [Hc22]; · iexact Hc22
    iexact Hi22
  ihave Hpr_ar1 : pending c 23 $$ [Hc23 Hi23]
  · unfold pending idle
    isplitl [Hc23]; · iexact Hc23
    iexact Hi23
  ihave Hpr_ar2 : pending c 24 $$ [Hc24 Hi24]
  · unfold pending idle
    isplitl [Hc24]; · iexact Hc24
    iexact Hi24
  ihave Hpr_ar3 : pending c 25 $$ [Hc25 Hi25]
  · unfold pending idle
    isplitl [Hc25]; · iexact Hc25
    iexact Hi25
  ihave Hpr_al0 : pending c 29 $$ [Hc29 Hi29]
  · unfold pending idle
    isplitl [Hc29]; · iexact Hc29
    iexact Hi29
  ihave Hpr_al1 : pending c 30 $$ [Hc30 Hi30]
  · unfold pending idle
    isplitl [Hc30]; · iexact Hc30
    iexact Hi30
  ihave Hpr_al2 : pending c 31 $$ [Hc31 Hi31]
  · unfold pending idle
    isplitl [Hc31]; · iexact Hc31
    iexact Hi31
  ihave Heq0 : ewIdle c 0 0 $$ [Hi1]
  · unfold ewIdle idle; isplitl [Hi1]; · iexact Hi1
    iapply (env_reached m K (c, ewK 0)) $$ He
  ihave Heq1 : ewIdle c 1 0 $$ [Hi2]
  · unfold ewIdle idle; isplitl [Hi2]; · iexact Hi2
    iapply (env_reached m K (c, ewK 1)) $$ He
  ihave Heq2 : ewIdle c 2 0 $$ [Hi3]
  · unfold ewIdle idle; isplitl [Hi3]; · iexact Hi3
    iapply (env_reached m K (c, ewK 2)) $$ He
  iapply (bindB c)
  iapply (part1 m K c)
  isplitr; · iexact He
  isplitl [Hwe0]; · iexact Hwe0
  isplitl [Hew0]; · iexact Hew0
  isplitl [Het0]; · iexact Het0
  isplitl [Heq0]; · iexact Heq0
  iintro %r1_0 %r1_1 Heb0
  try dsimp only
  iapply (bindB c)
  iapply (part2 m K c)
  isplitr; · iexact He
  isplitl [Hwe1]; · iexact Hwe1
  isplitl [Hew1]; · iexact Hew1
  isplitl [Het1]; · iexact Het1
  isplitl [Heq1]; · iexact Heq1
  isplitl [Hwe2]; · iexact Hwe2
  isplitl [Hew2]; · iexact Hew2
  isplitl [Het2]; · iexact Het2
  isplitl [Heq2]; · iexact Heq2
  isplitl [HslotsR]; · iexact HslotsR
  isplitl [HtbL]; · iexact HtbL
  isplitl [HHO]; · iexact HHO
  isplitl [HslotsL]; · iexact HslotsL
  isplitl [HtbR]; · iexact HtbR
  isplitl [Hbc]; · iexact Hbc
  isplitl [Hbi]; · iexact Hbi
  isplitl [Hx]; · iexact Hx
  isplitl [Hrw]; · iexact Hrw
  iintro ⟨Hx, Hrw, HHO, Heb1, Heb2, Hdst_rr0, Hdst_rr1, Hdst_rr2, Hdst_rr3, Hdst_ar1, Hdst_ar2, Hdst_ar3, Hdst_ar4, Hdst_lr0, Hdst_lr1, Hdst_lr2, Hdst_al1, Hdst_al2, Hdst_al3, Hd0⟩
  try dsimp only
  iapply (bindB c)
  iapply (part3 m K c)
  isplitr; · iexact He
  isplitl [Hri]; · iexact Hri
  iintro Hri
  try dsimp only
  iapply (bindB c)
  iapply (part4 m K c)
  isplitr; · iexact He
  iintro -
  try dsimp only
  iapply (bindB c)
  iapply (part5 m K c)
  isplitr; · iexact He
  isplitl [Hgt]; · iexact Hgt
  isplitl [Hx]; · iexact Hx
  isplitl [Heb0]; · iexact Heb0
  isplitl [HHO]; · iexact HHO
  isplitl [Hy0]; · iexact Hy0
  iintro ⟨Hx, Hwe0, Hew0, Hgt, Hy0, Heq0, HHO⟩
  try dsimp only
  iapply (bindB c)
  iapply (part6 m K c)
  isplitr; · iexact He
  isplitl [Hwe3]; · iexact Hwe3
  isplitl [Hew0]; · iexact Hew0
  isplitl [Het3]; · iexact Het3
  isplitl [Heq0]; · iexact Heq0
  isplitl [Heb1]; · iexact Heb1
  isplitl [HHO]; · iexact HHO
  isplitl [Hy1]; · iexact Hy1
  isplitl [Hwe4]; · iexact Hwe4
  isplitl [Het4]; · iexact Het4
  iintro ⟨Hwe1, Hy1, HHO, Heb0, Heb1⟩
  try dsimp only
  iapply (bindB c)
  iapply (part7 m K c)
  isplitr; · iexact He
  isplitl [Heb2]; · iexact Heb2
  isplitl [HHO]; · iexact HHO
  isplitl [Hy2]; · iexact Hy2
  isplitl [Hwe5]; · iexact Hwe5
  isplitl [Het5]; · iexact Het5
  isplitl [Heb0]; · iexact Heb0
  iintro ⟨Hwe2, Hwe3, Hew0, Hy2, Heq0, HHO, Heb2⟩
  try dsimp only
  iapply (bindB c)
  iapply (part8 m K c)
  isplitr; · iexact He
  isplitl [Hy3]; · iexact Hy3
  isplitl [Hwe6]; · iexact Hwe6
  isplitl [Hew0]; · iexact Hew0
  isplitl [Het6]; · iexact Het6
  isplitl [Heq0]; · iexact Heq0
  isplitl [Heb1]; · iexact Heb1
  isplitl [HHO]; · iexact HHO
  isplitl [Hy4]; · iexact Hy4
  iintro ⟨Hwe4, Hew1, Hy3, Hy4, Heq1, HHO, Heb0⟩
  try dsimp only
  iapply (bindB c)
  iapply (part9 m K c)
  isplitr; · iexact He
  isplitl [Hwe7]; · iexact Hwe7
  isplitl [Hew1]; · iexact Hew1
  isplitl [Het7]; · iexact Het7
  isplitl [Heq1]; · iexact Heq1
  isplitl [Heb2]; · iexact Heb2
  isplitl [HHO]; · iexact HHO
  isplitl [Hy5]; · iexact Hy5
  isplitl [Heb0]; · iexact Heb0
  iintro ⟨Hwe5, Hwe6, Hew0, Hew2, Hy5, Heq0, Heq2, HHO, Heb1⟩
  try dsimp only
  iapply (bindB c)
  iapply (part10 m K c)
  isplitr; · iexact He
  isplitl [Hew0]; · iexact Hew0
  isplitl [Hy6]; · iexact Hy6
  isplitl [Heb1]; · iexact Heb1
  isplitl [HHO]; · iexact HHO
  isplitl [Hy7]; · iexact Hy7
  iintro %r10_0 %r10_1 %r10_2 %r10_3 ⟨Hwe7, Hew0, Hew1, Hy6, Hy7, Heq1, HHO⟩
  try dsimp only
  ihave Hy := (yJoin c m) $$ [Hy0 Hy1 Hy2 Hy3 Hy4 Hy5 Hy6 Hy7]
  · isplitl [Hy0]; · iexact Hy0
    isplitl [Hy1]; · iexact Hy1
    isplitl [Hy2]; · iexact Hy2
    isplitl [Hy3]; · iexact Hy3
    isplitl [Hy4]; · iexact Hy4
    isplitl [Hy5]; · iexact Hy5
    isplitl [Hy6]; · iexact Hy6
    iexact Hy7
  iapply (bindB c)
  iapply (part11 m K c)
  isplitr; · iexact He
  isplitl [Hgt]; · iexact Hgt
  isplitl [Hy]; · iexact Hy
  isplitl [HOR0]; · iexact HOR0
  iintro %r11_0 %r11_1 %r11_2 %r11_3 %r11_4 ⟨HOR0, Hgt, Hy⟩
  try dsimp only
  iapply (bindB c)
  iapply (part12 m K c)
  isplitr; · iexact He
  isplitl [HOR0]; · iexact HOR0
  isplitl [Hrs0]; · iexact Hrs0
  isplitl [Hdst_rr0]; · iexact Hdst_rr0
  isplitl [Hts_rs0]; · iexact Hts_rs0
  isplitl [Htr_rr0]; · iexact Htr_rr0
  isplitl [His_rs0]; · iexact His_rs0
  isplitl [HHO]; · iexact HHO
  iintro %r12_0 %r12_1 %r12_2 ⟨HOR0, HHO, Hps_rs0⟩
  try dsimp only
  iapply (bindB c)
  iapply (part13 m K c)
  isplitr; · iexact He
  isplitl [Hgt]; · iexact Hgt
  isplitl [Hy]; · iexact Hy
  isplitl [HOL0]; · iexact HOL0
  iintro ⟨HOL0, Hgt, Hy⟩
  try dsimp only
  iapply (bindB c)
  iapply (part14 m K c)
  isplitr; · iexact He
  isplitl [Hls0]; · iexact Hls0
  isplitl [Hdst_lr0]; · iexact Hdst_lr0
  isplitl [Hts_ls0]; · iexact Hts_ls0
  isplitl [Htr_lr0]; · iexact Htr_lr0
  isplitl [His_ls0]; · iexact His_ls0
  isplitl [HHO]; · iexact HHO
  isplitl [Hgt]; · iexact Hgt
  isplitl [Hy]; · iexact Hy
  iintro %r14_0 %r14_1 %r14_2 %r14_3 ⟨Hgt, HHO, Hy, Hps_ls0⟩
  try dsimp only
  iapply (bindB c)
  iapply (part15 m K c)
  isplitr; · iexact He
  isplitl [HOR1]; · iexact HOR1
  isplitl [Hgt]; · iexact Hgt
  isplitl [Hy]; · iexact Hy
  iintro %r15_0 %r15_1 %r15_2 %r15_3 %r15_4 ⟨HOR1, Hgt, Hy⟩
  try dsimp only
  iapply (bindB c)
  iapply (part16 m K c)
  isplitr; · iexact He
  isplitl [HOL1]; · iexact HOL1
  isplitl [Hpr_rr0]; · iexact Hpr_rr0
  isplitl [HHO]; · iexact HHO
  isplitl [HOR1]; · iexact HOR1
  iintro ⟨HOR1, HOL1, HHO, Hrr0, Hd8⟩
  try dsimp only
  iapply (bindB c)
  iapply (part17 m K c)
  isplitr; · iexact He
  isplitl [Hrs1]; · iexact Hrs1
  isplitl [Hdst_rr1]; · iexact Hdst_rr1
  isplitl [Hts_rs1]; · iexact Hts_rs1
  isplitl [Htr_rr1]; · iexact Htr_rr1
  isplitl [His_rs1]; · iexact His_rs1
  isplitl [HHO]; · iexact HHO
  isplitl [Hpr_lr0]; · iexact Hpr_lr0
  iintro %r17_0 %r17_1 ⟨HHO, Hps_rs1, Hlr0, Hd15⟩
  try dsimp only
  iapply (bindB c)
  iapply (part18 m K c)
  isplitr; · iexact He
  isplitl [HOL1]; · iexact HOL1
  isplitl [Hlr0]; · iexact Hlr0
  isplitl [Hls1]; · iexact Hls1
  isplitl [Hdst_lr1]; · iexact Hdst_lr1
  isplitl [Hts_ls1]; · iexact Hts_ls1
  isplitl [Htr_lr1]; · iexact Htr_lr1
  isplitl [His_ls1]; · iexact His_ls1
  isplitl [HHO]; · iexact HHO
  iintro %r18_0 %r18_1 %r18_2 %r18_3 ⟨HOL1, HHO, Hlr0, Hps_ls1⟩
  try dsimp only
  iapply (bindB c)
  iapply (part19 m K c)
  isplitr; · iexact He
  isplitl [Hgt]; · iexact Hgt
  isplitl [Hy]; · iexact Hy
  isplitl [HOR2]; · iexact HOR2
  iintro %r19_0 %r19_1 %r19_2 %r19_3 %r19_4 %r19_5 ⟨HOR2, Hgt, Hy⟩
  try dsimp only
  iapply (bindB c)
  iapply (part20 m K c)
  isplitr; · iexact He
  isplitl [Hgt]; · iexact Hgt
  isplitl [Hy]; · iexact Hy
  isplitl [HOL2]; · iexact HOL2
  isplitl [Hpr_rr1]; · iexact Hpr_rr1
  isplitl [HHO]; · iexact HHO
  iintro %r20_0 %r20_1 ⟨HOL2, Hgt, HHO, Hy, Hrr1, Hd9⟩
  try dsimp only
  iapply (bindB c)
  iapply (part21 m K c)
  isplitr; · iexact He
  isplitl [HOR2]; · iexact HOR2
  isplitl [Hrr1]; · iexact Hrr1
  isplitl [Hrs2]; · iexact Hrs2
  isplitl [Hdst_rr2]; · iexact Hdst_rr2
  isplitl [Hts_rs2]; · iexact Hts_rs2
  isplitl [Htr_rr2]; · iexact Htr_rr2
  isplitl [His_rs2]; · iexact His_rs2
  isplitl [HHO]; · iexact HHO
  iintro ⟨HOR2, HHO, Hrr1, Hps_rs2⟩
  try dsimp only
  iapply (bindB c)
  iapply (part22 m K c)
  isplitr; · iexact He
  isplitl [Hpr_lr1]; · iexact Hpr_lr1
  isplitl [HHO]; · iexact HHO
  isplitl [HOL2]; · iexact HOL2
  isplitl [Hls2]; · iexact Hls2
  iintro ⟨HOL2, Hls2, HHO, Hlr1, Hd16⟩
  try dsimp only
  iapply (bindB c)
  iapply (part23 m K c)
  isplitr; · iexact He
  isplitl [Hls2]; · iexact Hls2
  isplitl [Hdst_lr2]; · iexact Hdst_lr2
  isplitl [Hts_ls2]; · iexact Hts_ls2
  isplitl [Htr_lr2]; · iexact Htr_lr2
  isplitl [His_ls2]; · iexact His_ls2
  isplitl [HHO]; · iexact HHO
  isplitl [Hgt]; · iexact Hgt
  isplitl [Hy]; · iexact Hy
  iintro %r23_0 %r23_1 %r23_2 %r23_3 %r23_4 ⟨Hgt, HHO, Hy, Hps_ls2⟩
  try dsimp only
  iapply (bindB c)
  iapply (part24 m K c)
  isplitr; · iexact He
  isplitl [HOR3]; · iexact HOR3
  isplitl [Hpr_rr2]; · iexact Hpr_rr2
  isplitl [HHO]; · iexact HHO
  iintro ⟨HOR3, HHO, Hrr2, Hd10⟩
  try dsimp only
  iapply (bindB c)
  iapply (part25 m K c)
  isplitr; · iexact He
  isplitl [Hrs3]; · iexact Hrs3
  isplitl [Hdst_rr3]; · iexact Hdst_rr3
  isplitl [Hts_rs3]; · iexact Hts_rs3
  isplitl [Htr_rr3]; · iexact Htr_rr3
  isplitl [His_rs3]; · iexact His_rs3
  isplitl [HHO]; · iexact HHO
  isplitl [Hgt]; · iexact Hgt
  isplitl [Hy]; · iexact Hy
  iintro %r25_0 %r25_1 ⟨Hgt, HHO, Hy, Hps_rs3⟩
  try dsimp only
  iapply (bindB c)
  iapply (part26 m K c)
  isplitr; · iexact He
  isplitl [Hx]; · iexact Hx
  isplitl [Hsw]; · iexact Hsw
  isplitl [HOC]; · iexact HOC
  iintro ⟨Hx, Hsw, HOC⟩
  try dsimp only
  iapply (bindB c)
  iapply (part27 m K c)
  isplitr; · iexact He
  isplitl [Hpr_rr3]; · iexact Hpr_rr3
  isplitl [HHO]; · iexact HHO
  isplitl [Hpr_lr2]; · iexact Hpr_lr2
  isplitl [HOC]; · iexact HOC
  iintro ⟨HOC, HHO, Hrr3, Hd11, Hlr2, Hd17⟩
  try dsimp only
  iapply (bindB c)
  iapply (part28 m K c)
  isplitr; · iexact He
  isplitl [HOC]; · iexact HOC
  isplitl [Har0]; · iexact Har0
  iintro %r28_0 %r28_1 ⟨HOC, Har0⟩
  try dsimp only
  iapply (bindB c)
  iapply (part29 m K c)
  isplitr; · iexact He
  isplitl [HOC]; · iexact HOC
  isplitl [Hal0]; · iexact Hal0
  isplitl [Har0]; · iexact Har0
  isplitl [Hdst_ar1]; · iexact Hdst_ar1
  isplitl [Hts_ar0]; · iexact Hts_ar0
  isplitl [Htr_ar0]; · iexact Htr_ar0
  isplitl [His_ar0]; · iexact His_ar0
  isplitl [HHO]; · iexact HHO
  iintro ⟨HOC, Hal0, HHO, Hps_ar0⟩
  try dsimp only
  iapply (bindB c)
  iapply (part30 m K c)
  isplitr; · iexact He
  isplitl [Hal0]; · iexact Hal0
  isplitl [Hdst_al1]; · iexact Hdst_al1
  isplitl [Hts_al0]; · iexact Hts_al0
  isplitl [Htr_al0]; · iexact Htr_al0
  isplitl [His_al0]; · iexact His_al0
  isplitl [HHO]; · iexact HHO
  isplitl [Hpr_ar0]; · iexact Hpr_ar0
  isplitl [Hdst_ar2]; · iexact Hdst_ar2
  isplitl [Hts_ar1]; · iexact Hts_ar1
  isplitl [Htr_ar1]; · iexact Htr_ar1
  isplitl [His_ar1]; · iexact His_ar1
  iintro %r30_0 %r30_1 ⟨HHO, Hps_al0, Hd22, Har1h, Hps_ar1⟩
  try dsimp only
  iapply (bindB c)
  iapply (part31 m K c)
  isplitr; · iexact He
  isplitl [HOL2]; · iexact HOL2
  isplitl [Hpr_al0]; · iexact Hpr_al0
  isplitl [HHO]; · iexact HHO
  isplitl [Hdst_al2]; · iexact Hdst_al2
  isplitl [Hts_al1]; · iexact Hts_al1
  isplitl [Htr_al1]; · iexact Htr_al1
  isplitl [His_al1]; · iexact His_al1
  iintro ⟨HOL2, HHO, Hd29, Hal1h, Hps_al1⟩
  try dsimp only
  iapply (bindB c)
  iapply (part32 m K c)
  isplitr; · iexact He
  isplitl [HOR3]; · iexact HOR3
  isplitl [Hpr_ar1]; · iexact Hpr_ar1
  isplitl [HHO]; · iexact HHO
  iintro ⟨HOR3, HHO, Har2, Hd23⟩
  try dsimp only
  iapply (bindB c)
  iapply (part33 m K c)
  isplitr; · iexact He
  isplitl [Har2]; · iexact Har2
  isplitl [Hdst_ar3]; · iexact Hdst_ar3
  isplitl [Hts_ar2]; · iexact Hts_ar2
  isplitl [Htr_ar2]; · iexact Htr_ar2
  isplitl [His_ar2]; · iexact His_ar2
  isplitl [HHO]; · iexact HHO
  isplitl [HOL1]; · iexact HOL1
  isplitl [Hpr_al1]; · iexact Hpr_al1
  iintro %r33_0 ⟨HOL1, HHO, Har2h, Hps_ar2, Hal2, Hd30⟩
  try dsimp only
  iapply (bindB c)
  iapply (part34 m K c)
  isplitr; · iexact He
  isplitl [Hal2]; · iexact Hal2
  isplitl [Hdst_al3]; · iexact Hdst_al3
  isplitl [Hts_al2]; · iexact Hts_al2
  isplitl [Htr_al2]; · iexact Htr_al2
  isplitl [His_al2]; · iexact His_al2
  isplitl [HHO]; · iexact HHO
  isplitl [HOR2]; · iexact HOR2
  iintro ⟨HOR2, HHO, Hal2h, Hps_al2⟩
  try dsimp only
  iapply (bindB c)
  iapply (part35 m K c)
  isplitr; · iexact He
  isplitl [Hpr_ar2]; · iexact Hpr_ar2
  isplitl [HHO]; · iexact HHO
  isplitl [Hdst_ar4]; · iexact Hdst_ar4
  isplitl [Hts_ar3]; · iexact Hts_ar3
  isplitl [Htr_ar3]; · iexact Htr_ar3
  isplitl [His_ar3]; · iexact His_ar3
  isplitl [HOL0]; · iexact HOL0
  iintro ⟨HOL0, HHO, Hd24, Har3h, Hps_ar3⟩
  try dsimp only
  iapply (bindB c)
  iapply (part36 m K c)
  isplitr; · iexact He
  isplitl [Hpr_ar3]; · iexact Hpr_ar3
  isplitl [HHO]; · iexact HHO
  isplitl [HOR0]; · iexact HOR0
  iintro ⟨HOR0, HHO, Har4, Hd25⟩
  try dsimp only
  iapply (bindB c)
  iapply (part37 m K c)
  isplitr; · iexact He
  isplitl [Hpr_al2]; · iexact Hpr_al2
  isplitl [HHO]; · iexact HHO
  isplitl [HOR1]; · iexact HOR1
  isplitl [Hps_rs0]; · iexact Hps_rs0
  iintro ⟨HOR1, Hrs0, HHO, Hal3, Hd31, Hd4⟩
  try dsimp only
  iapply (bindB c)
  iapply (part38 m K c)
  isplitr; · iexact He
  isplitl [Hps_rs1]; · iexact Hps_rs1
  isplitl [HHO]; · iexact HHO
  isplitl [Hps_rs2]; · iexact Hps_rs2
  isplitl [Hps_rs3]; · iexact Hps_rs3
  isplitl [Hps_ls0]; · iexact Hps_ls0
  iintro ⟨Hrs1, Hrs2, Hrs3, Hls0, HHO, Hd5, Hd6, Hd7, Hd12⟩
  try dsimp only
  iapply (bindB c)
  iapply (part39 m K c)
  isplitr; · iexact He
  isplitl [Hps_ls1]; · iexact Hps_ls1
  isplitl [HHO]; · iexact HHO
  isplitl [Hps_ls2]; · iexact Hps_ls2
  isplitl [Hps_ar0]; · iexact Hps_ar0
  isplitl [Hps_ar1]; · iexact Hps_ar1
  isplitl [Har1h]; · iexact Har1h
  iintro ⟨Hls1, Hls2, Har0, HHO, Har1, Hd13, Hd14, Hd18, Hd19⟩
  try dsimp only
  iapply (bindB c)
  iapply (part40 m K c)
  isplitr; · iexact He
  isplitl [Hps_ar2]; · iexact Hps_ar2
  isplitl [HHO]; · iexact HHO
  isplitl [Har2h]; · iexact Har2h
  isplitl [Hps_ar3]; · iexact Hps_ar3
  isplitl [Har3h]; · iexact Har3h
  isplitl [Hps_al0]; · iexact Hps_al0
  iintro ⟨Hal0, HHO, Har2, Har3, Hd20, Hd21, Hd26⟩
  try dsimp only
  simp only [Prog.lift, Prog.bind_op, Prog.bind_ret, Prog.pure_eq_ret]
  iapply (wt m K c 27 16 (alS 1) (P := owns (c : Thread nD τ) (alS 1) fullShare.left (agV m (right c))) (by decide) rfl rfl (by decide) rfl) $$ [Hps_al1 HHO]
  · isplitr; · iexact He
    isplitl [Hps_al1]; · iexact Hps_al1
    iexact HHO
  iintro ⟨Hal1l, Hd27, HHO⟩
  ihave Hal1 := (unhalve c (alS 1) (agV m (right c))) $$ [Hal1l Hal1h]
  · isplitl [Hal1l]; · iexact Hal1l
    iexact Hal1h
  iapply (wt m K c 28 16 (alS 2) (P := owns (c : Thread nD τ) (alS 2) fullShare.left (agV m (right (right c)))) (by decide) rfl rfl (by decide) rfl) $$ [Hps_al2 HHO]
  · isplitr; · iexact He
    isplitl [Hps_al2]; · iexact Hps_al2
    iexact HHO
  iintro ⟨Hal2l, Hd28, HHO⟩
  ihave Hal2 := (unhalve c (alS 2) (agV m (right (right c)))) $$ [Hal2l Hal2h]
  · isplitl [Hal2l]; · iexact Hal2l
    iexact Hal2h
  imod (ewClose m K c 0 3 (by decide)) $$ [Heq0] with Hd1
  · isplitr; · iexact He
    iexact Heq0
  imod (ewClose m K c 1 3 (by decide)) $$ [Heq1] with Hd2
  · isplitr; · iexact He
    iexact Heq1
  imod (ewClose m K c 2 2 (by decide)) $$ [Heq2] with Hd3
  · isplitr; · iexact He
    iexact Heq2
  iapply (retB c rfl)
  iapply Hk
  unfold bodyPost scratch
  rw [dones_eq]
  isplitl [Hx Hrw Hri Hsw]
  · isplitl [Hx]; · iexact Hx
    isplitl [Hrw]; · iexact Hrw
    isplitl [Hri]; · iexact Hri
    iexact Hsw
  isplitl [HOC HOR0 HOR1 HOR2 HOR3 HOL0 HOL1 HOL2]
  · iapply (outJoin c m)
    isplitl [HOC]; · iexact HOC
    isplitl [HOR0]; · iexact HOR0
    isplitl [HOR1]; · iexact HOR1
    isplitl [HOR2]; · iexact HOR2
    isplitl [HOR3]; · iexact HOR3
    isplitl [HOL0]; · iexact HOL0
    isplitl [HOL1]; · iexact HOL1
    iexact HOL2
  isplitl [Hwe0 Hwe1 Hwe2 Hwe3 Hwe4 Hwe5 Hwe6 Hwe7]
  · iapply (weJoin c m)
    isplitl [Hwe0]; · iexact Hwe0
    isplitl [Hwe1]; · iexact Hwe1
    isplitl [Hwe2]; · iexact Hwe2
    isplitl [Hwe3]; · iexact Hwe3
    isplitl [Hwe4]; · iexact Hwe4
    isplitl [Hwe5]; · iexact Hwe5
    isplitl [Hwe6]; · iexact Hwe6
    iexact Hwe7
  isplitl [Hew0 Hew1 Hew2 Hgt Hy Hrs0 Hrs1 Hrs2 Hrs3 Hrr0 Hrr1 Hrr2 Hrr3 Hls0 Hls1 Hls2 Hlr0 Hlr1 Hlr2 Har0 Har1 Har2 Har3 Har4 Hal0 Hal1 Hal2 Hal3]
  · isplitl [Hew0 Hew1 Hew2]
    · iapply (ewJoin (F := F) c)
      isplitl [Hew0]; · iexists _; iexact Hew0
      isplitl [Hew1]; · iexists _; iexact Hew1
      iexists _; iexact Hew2
    isplitl [Hgt]; · iexists _; iexact Hgt
    isplitl [Hy]; · iexists _; iexact Hy
    isplitl [Hrs0 Hrs1 Hrs2 Hrs3]
    · iapply (join4 (F := F) c rsM)
      isplitl [Hrs0]; · iexists _; iexact Hrs0
      isplitl [Hrs1]; · iexists _; iexact Hrs1
      isplitl [Hrs2]; · iexists _; iexact Hrs2
      iexists _; iexact Hrs3
    isplitl [Hrr0 Hrr1 Hrr2 Hrr3]
    · iapply (join4 (F := F) c rrM)
      isplitl [Hrr0]; · iexists _; iexact Hrr0
      isplitl [Hrr1]; · iexists _; iexact Hrr1
      isplitl [Hrr2]; · iexists _; iexact Hrr2
      iexists _; iexact Hrr3
    isplitl [Hls0 Hls1 Hls2]
    · iapply (join3 (F := F) c lsM)
      isplitl [Hls0]; · iexists _; iexact Hls0
      isplitl [Hls1]; · iexists _; iexact Hls1
      iexists _; iexact Hls2
    isplitl [Hlr0 Hlr1 Hlr2]
    · iapply (join3 (F := F) c lrM)
      isplitl [Hlr0]; · iexists _; iexact Hlr0
      isplitl [Hlr1]; · iexists _; iexact Hlr1
      iexists _; iexact Hlr2
    isplitl [Har0 Har1 Har2 Har3 Har4]
    · iapply (join5 (F := F) c arM)
      isplitl [Har0]; · iexists _; iexact Har0
      isplitl [Har1]; · iexists _; iexact Har1
      isplitl [Har2]; · iexists _; iexact Har2
      isplitl [Har3]; · iexists _; iexact Har3
      iexists _; iexact Har4
    iapply (join4 (F := F) c alM)
    isplitl [Hal0]; · iexists _; iexact Hal0
    isplitl [Hal1]; · iexists _; iexact Hal1
    isplitl [Hal2]; · iexists _; iexact Hal2
    iexists _; iexact Hal3
  isplitl [Hd0 Hd1 Hd2 Hd3 Hd4 Hd5 Hd6 Hd7 Hd8 Hd9 Hd10 Hd11 Hd12 Hd13 Hd14 Hd15 Hd16 Hd17 Hd18 Hd19 Hd20 Hd21 Hd22 Hd23 Hd24 Hd25 Hd26 Hd27 Hd28 Hd29 Hd30 Hd31]
  · isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    isplitl [Hd7]; · iexact Hd7
    isplitl [Hd8]; · iexact Hd8
    isplitl [Hd9]; · iexact Hd9
    isplitl [Hd10]; · iexact Hd10
    isplitl [Hd11]; · iexact Hd11
    isplitl [Hd12]; · iexact Hd12
    isplitl [Hd13]; · iexact Hd13
    isplitl [Hd14]; · iexact Hd14
    isplitl [Hd15]; · iexact Hd15
    isplitl [Hd16]; · iexact Hd16
    isplitl [Hd17]; · iexact Hd17
    isplitl [Hd18]; · iexact Hd18
    isplitl [Hd19]; · iexact Hd19
    isplitl [Hd20]; · iexact Hd20
    isplitl [Hd21]; · iexact Hd21
    isplitl [Hd22]; · iexact Hd22
    isplitl [Hd23]; · iexact Hd23
    isplitl [Hd24]; · iexact Hd24
    isplitl [Hd25]; · iexact Hd25
    isplitl [Hd26]; · iexact Hd26
    isplitl [Hd27]; · iexact Hd27
    isplitl [Hd28]; · iexact Hd28
    isplitl [Hd29]; · iexact Hd29
    isplitl [Hd30]; · iexact Hd30
    iexact Hd31
  iexact HHO

end Cert.MoeRing

end
-- ==== Proof.Ghost.lean ====
/-
What the launch hands out: the rights to signal and to transfer, minted at the cell they are for and dealt to the device
that uses them; the invariants of all the cells, allocated for all the devices at once; the credits for what will arrive.
-/
module

public import proofs.«01_k».proof.Proof.Body
public import Idealize.ShloMosaic.Lib.Pipeline.CollectiveSegs

@[expose] public section

noncomputable section

namespace Cert.MoeRing

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The rights -/

/-- The cells, and the rights as minted: `(c, j)` is the `j`-th right at a cell of device `c`. -/
def ringCells : Finset (GSem nD τ sig) := Finset.univ.map ⟨kcell, kcell_injective⟩
abbrev mint (cj : Dev nD × Fin 38) : GSem nD τ sig × ℕ × Bool := (kcell (cj.1, (deal cj.2).2.1), (deal cj.2).2.2.1, (deal cj.2).2.2.2)
theorem deal_injective : Function.Injective (fun j : Fin 38 => (deal j).2) := by decide +kernel
theorem mint_injective : Function.Injective (mint : Dev nD × Fin 38 → GSem nD τ sig × ℕ × Bool) := by
  rintro ⟨c, j⟩ ⟨c', j'⟩ h
  have h1 := kcell_injective (congrArg Prod.fst h)
  have h2 := congrArg Prod.snd h
  have hc : c = c' := congrArg Prod.fst h1
  have hj : j = j' := deal_injective (Prod.ext (congrArg Prod.snd h1) h2)
  rw [hc, hj]
def ringToks : Finset (GSem nD τ sig × ℕ × Bool) := Finset.univ.map ⟨mint, mint_injective⟩

def u₀ : UU := (initOf (Pipeline.cells cfgs cellOf_inj) (Pipeline.launchToks cfgs cellOf_inj), initOf ringCells ringToks)

/-- The rights at device `c`'s own cells. -/
def toks (c : Dev nD) : sProp 𝕄 := bigSep Finset.univ fun j : Fin 38 => tok c (deal j).2.1 (deal j).2.2.1 (deal j).2.2.2

def marks (c : Dev nD) : sProp 𝕄 := bigSep Finset.univ fun k : Fin 32 => reached ER (kcell (c, k)) 0

/-- What each device is dealt at first. -/
def G (c : Dev nD) : sProp 𝕄 :=
  iprop((bigSep Finset.univ fun k : Fin 32 => roundState ER (ringRd m) (kcell (c, k)) 0) ∗ idles c ∗ marks c ∗ toks c)

/-- What all can use, and what each has once the rights are passed round. -/
def records (K : Dev nD × Fin 32 → ℕ) : sProp 𝕄 :=
  iprop((bigSep Finset.univ fun ck : Dev nD × Fin 32 => cellInv ER (ringRd m) (K ck) (kcell ck))
    ∗ bigSep Finset.univ fun ck : Dev nD × Fin 32 => reached ER (kcell ck) 0)
instance records_persistent (K : Dev nD × Fin 32 → ℕ) : BI.Persistent (records m K) := by unfold records; infer_instance

def G' (c : Dev nD) : sProp 𝕄 := iprop(∃ K, records m K ∗ idles c ∗ payToks c)

omit [FloatOps F] in
theorem over_cells (Φ : GSem nD τ sig → sProp 𝕄) :
    bigSep ringCells Φ = bigSep Finset.univ fun c : Dev nD => bigSep Finset.univ fun k : Fin 32 => Φ (kcell (c, k)) := by
  unfold ringCells; rw [bigSep_map, bigSep_univ_prod]; rfl
omit [FloatOps F] in
theorem over_toks : bigSep ringToks (fun x => (dutyTok ER x.1 x.2.1 x.2.2 : sProp 𝕄)) = bigSep Finset.univ fun c : Dev nD => toks c := by
  unfold ringToks; rw [bigSep_map, bigSep_univ_prod]; rfl

theorem fund_ring : BI.own (ER (initOf ringCells ringToks)) ⊢ (|==> bigSep Finset.univ (G m) : sProp 𝕄) := by
  iintro HX
  imod (Rounds.fund ER (ringRd m) ringCells ringToks) $$ HX with ⟨Hst, Hr, Hat, Htok⟩
  imodintro
  ihave Hst' := (Entails.of_eq (over_cells fun g => roundState ER (ringRd m) g 0)) $$ Hst
  ihave Hat' := (Entails.of_eq (over_cells fun g => atPos ER g 0 ∅ 0)) $$ Hat
  ihave Hr' := (Entails.of_eq (over_cells fun g => reached ER g 0)) $$ Hr
  ihave Htok' := (Entails.of_eq over_toks) $$ Htok
  unfold G; simp only [bigSep_sep']
  isplitl [Hst']; · iexact Hst'
  isplitl [Hat']; · iexact Hat'
  isplitl [Hr']; · iexact Hr'
  iexact Htok'

omit [FloatOps F] in
theorem swapped {α β : Type} [Fintype α] [Fintype β] (Φ : α → β → sProp 𝕄) :
    (bigSep Finset.univ fun a => bigSep Finset.univ fun b => Φ a b) = bigSep Finset.univ fun b => bigSep Finset.univ fun a => Φ a b := by
  rw [← bigSep_univ_prod (fun p : α × β => Φ p.1 p.2), ← bigSep_univ_prod (fun p : β × α => Φ p.2 p.1),
    bigSep_univ_equiv (Equiv.prodComm β α) (fun p : α × β => Φ p.1 p.2)]
  rfl

omit [FloatOps F] in
theorem around : (bigSep Finset.univ fun c : Dev nD => (toks c : sProp 𝕄)) = bigSep Finset.univ fun c : Dev nD => payToks c := by
  unfold toks payToks
  rw [swapped, swapped (fun c : Dev nD => fun j : Fin 38 => (tok ((deal j).1 c) (deal j).2.1 (deal j).2.2.1 (deal j).2.2.2 : sProp 𝕄))]
  exact bigSep_congr fun j _ => bigSep_univ_equiv (deal j).1 fun c : Dev nD => (tok c (deal j).2.1 (deal j).2.2.1 (deal j).2.2.2 : sProp 𝕄)

/-! ## The invariants -/

omit [FloatOps F] in
theorem ownSems0_eq (c : Dev nD) : (Pipeline.ownSems0 (Ix := Unit) (Name := ℕ) (U := UU) (Lvl := ℕ) (Val := Elt F) (τ := τ) osem c : sProp 𝕄)
    = bigSep Finset.univ fun k : Fin 31 => done c k.succ := by
  unfold Pipeline.ownSems0; rfl
omit [FloatOps F] in
theorem unscopedSems0_eq (c : Dev nD) : (unscopedSems0 c : sProp 𝕄) = done c 0 := by
  unfold unscopedSems0; rw [bigSep_eq_bigSepL_of_eq [SemLoc.reg barS] (by decide) (by decide)]; rfl

omit [FloatOps F] in
theorem succ_erase : (Finset.univ : Finset (Fin 32)).erase 0 = (Finset.univ : Finset (Fin 31)).map ⟨Fin.succ, Fin.succ_injective 31⟩ := by decide +kernel

omit [FloatOps F] in
theorem dones_split (c : Dev nD) : (dones c : sProp 𝕄) = iprop(unscopedSems0 c
    ∗ Pipeline.ownSems0 (Ix := Unit) (Name := ℕ) (U := UU) (Lvl := ℕ) (Val := Elt F) (τ := τ) osem c) := by
  rw [ownSems0_eq, unscopedSems0_eq]
  unfold dones
  rw [bigSep_univ_at _ (0 : Fin 32), succ_erase, bigSep_map]; rfl

def cellInvs (c : Dev nD) : sProp 𝕄 := bigSep Finset.univ fun k : Fin 32 => iprop(∃ κ : ℕ, cellInv ER (ringRd m) κ (kcell (c, k)))

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop(cellInvs m c ∗ idles c ∗ marks c ∗ toks c) := by
  unfold G
  iintro ⟨Hos, Hus, Hst, Hrest⟩
  ihave Hv := (Entails.of_eq (dones_split (F := F) c).symm) $$ [Hos Hus]
  · isplitl [Hus] <;> iassumption
  imod (show iprop(dones c ∗ bigSep Finset.univ fun k : Fin 32 => roundState ER (ringRd m) (kcell (c, k)) 0)
      ⊢ (|={Set.univ}=> cellInvs m c : sProp 𝕄) from by
        unfold dones cellInvs
        rw [← bigSep_sep']
        exact (bigSep_mono fun k _ => (Rounds.body_intro ER (ringRd m) (kcell (c, k))).trans inv_alloc).trans (bigSep_fupd _ _)) $$ [Hv Hst] with Hinv
  · isplitl [Hv] <;> iassumption
  imodintro
  isplitl [Hinv]; · iexact Hinv
  iexact Hrest

omit [FloatOps F] in
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup : (bigSep Finset.univ fun c : Dev nD => iprop(cellInvs m c ∗ idles c ∗ marks c ∗ toks c) : sProp 𝕄) ⊢ bigSep Finset.univ (G' m) := by
  rw [bigSep_sep', bigSep_sep', bigSep_sep', around]
  unfold cellInvs marks
  rw [← bigSep_univ_prod (fun ck : Dev nD × Fin 32 => iprop(∃ κ : ℕ, cellInv ER (ringRd m) κ (kcell ck))),
    ← bigSep_univ_prod (fun ck : Dev nD × Fin 32 => (reached ER (kcell ck) 0 : sProp 𝕄))]
  iintro ⟨HI, Hat, #HR, Htok⟩
  ihave HK := (BI.bigSep_exists_pi Finset.univ (fun (ck : Dev nD × Fin 32) (κ : ℕ) => (cellInv ER (ringRd m) κ (kcell ck) : sProp 𝕄))) $$ HI
  icases HK with ⟨%K, #HI⟩
  iapply (with_persistent (R := records m K) (Φ := fun c : Dev nD => iprop(idles c ∗ payToks c)) fun c _ => show iprop(records m K ∗ idles c ∗ payToks c) ⊢ G' m c from by
    unfold G'; iintro H; iexists K; iexact H)
  isplitr
  · unfold records; isplitl; · iexact HI
    iexact HR
  · rw [bigSep_sep']
    isplitl [Hat] <;> iassumption

/-- Every device's semaphores and what it was dealt, made at once into what the devices share and what each keeps. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits -/

omit [FloatOps F] in
theorem owesL_at (l : List (Dev nD × Fin 32)) (ck : Dev nD × Fin 32) : owesL l (kcell ck) () = l.count ck * amt ck.2 := by
  induction l with
  | nil => rw [List.count_nil, Nat.zero_mul]; rfl
  | cons a l ih =>
    unfold owesL
    rw [Pi.add_apply, Finsupp.add_apply, tallyAt_apply, ih, List.count_cons]
    by_cases h : a = ck
    · subst h
      rw [if_pos ⟨rfl, rfl⟩, if_pos (beq_self_eq_true a), Nat.add_mul, Nat.one_mul]
    · rw [if_neg (fun h' => h (kcell_injective h'.1).symm), if_neg (fun h' => h (eq_of_beq h')), Nat.add_zero, Nat.add_zero]

/-- How many of all the devices' payments go to a cell. -/
def due (ck : Dev nD × Fin 32) : ℕ := ∑ d : Dev nD, (debts d).count ck
theorem due_bar (c : Dev nD) : due (c, 0) = 2 := by revert c; decide +kernel
theorem due_rcv (c : Dev nD) (i : Fin 14) : due (c, rcv i) = 1 := by revert c i; decide +kernel

omit [FloatOps F] in
theorem launch_at (ck : Dev nD × Fin 32) :
    tallyOn (kcell ck) (launchCredit (Pipeline.owing (O 0)) 0 (kcell ck)) = (tallyAt (kcell ck) () (due ck * amt ck.2) : CellTallies nD τ sig Unit) := by
  unfold tallyAt; refine congrArg _ (Finsupp.ext fun u => ?_); cases u
  rw [Pipeline.launchCredit_owing, Finsupp.single_eq_same]
  unfold due O
  rw [Finset.sum_mul]
  exact Finset.sum_congr rfl fun d _ => owesL_at _ _

theorem rcv_injective : Function.Injective rcv := by decide +kernel
theorem amt_rcv (i : Fin 14) : amt (rcv i) = NS := if_neg (by revert i; decide +kernel)

omit [FloatOps F] in
theorem creds (c : Dev nD) : (Pipeline.launchCred (O 0) c : sProp 𝕄) ⊢ credits c := by
  unfold Pipeline.launchCred credits
  rw [bigSep_univ_at _ (SemLoc.reg barS), show ((c : Thread nD τ), SemLoc.reg barS) = kcell (c, 0) from rfl, launch_at, due_bar]
  refine sep_mono_right ?_
  refine BIBase.Entails.trans (bigSep_subset (t := Finset.univ.map ⟨fun i => csem (rcv i), csem_injective.comp rcv_injective⟩) ?_) ?_
  · intro x hx
    obtain ⟨i, -, rfl⟩ := Finset.mem_map.mp hx
    exact Finset.mem_erase.mpr ⟨fun h => (by revert i; decide +kernel : ∀ i, csem (rcv i) ≠ SemLoc.reg barS) i h, Finset.mem_univ _⟩
  · rw [bigSep_map]
    refine Entails.of_eq (bigSep_congr fun i _ => ?_)
    show cred (tallyOn (kcell (c, rcv i)) (launchCredit (Pipeline.owing (O 0)) 0 (kcell (c, rcv i)))) = _
    rw [launch_at, due_rcv, amt_rcv, Nat.one_mul]

end Cert.MoeRing

end
-- ==== Proof.Run.lean ====
/-
The run: on eight devices, from any memory with zero counters, every execution of the program ends, with every counter
zero again, the arguments unchanged and the result at the contents the protocol names.
-/
module

public import proofs.«01_k».proof.Proof.Ghost
public import Idealize.ShloMosaic.Lib.Pipeline.FrameBody

@[expose] public section

noncomputable section

namespace Cert.MoeRing

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The data of the one region -/

/-- The expert weights where they were, at what they held. -/
def wts (c : Dev nD) : sProp 𝕄 := ((c : Thread nD τ).loc main_arg3) ↦{fullShare} m ((c : Thread nD τ).loc main_arg3)

def start (c : Dev nD) : sProp 𝕄 := iprop(G' m c ∗ levAts L lv ∗ credits c ∗ wts m c)

def Φ₀ (c : Dev nD) : sProp 𝕄 := iprop(start m c ∗ scratch c)
def Φ₁ (c : Dev nD) : sProp 𝕄 := iprop(dones c ∗ wts m c ∗ scratch c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xV m c
    | ⟨1, _⟩ => rwV m c
    | ⟨2, _⟩ => riV m c
    | ⟨3, _⟩ => swV m c
    | ⟨4, _⟩ => outV c m
  Φ t := match t with
    | ⟨0, _⟩ => Φ₀ m c
    | ⟨_ + 1, _⟩ => Φ₁ m c
  q _ := fullShare
  owed t := match t with
    | ⟨0, _⟩ => O 0 c
    | ⟨_ + 1, _⟩ => 0

theorem before_x (c : Dev nD) (d) : (dats m ρ 0 c).before (0 : Fin 5) t0_0 d = xV m c :=
  (dats m ρ 0 c).before_in_eq_fetched 0 rfl (fun _ => rfl) (fun _ _ _ => rfl) (fun t => by rw [fin_N0 t]; rfl) t0_0 d
theorem before_rw (c : Dev nD) (d) : (dats m ρ 0 c).before (1 : Fin 5) t0_0 d = rwV m c :=
  (dats m ρ 0 c).before_in_eq_fetched 1 rfl (fun _ => rfl) (fun _ _ _ => rfl) (fun t => by rw [fin_N0 t]; rfl) t0_0 d
theorem before_ri (c : Dev nD) (d) : (dats m ρ 0 c).before (2 : Fin 5) t0_0 d = riV m c :=
  (dats m ρ 0 c).before_in_eq_fetched 2 rfl (fun _ => rfl) (fun _ _ _ => rfl) (fun t => by rw [fin_N0 t]; rfl) t0_0 d
theorem before_sw (c : Dev nD) (d) : (dats m ρ 0 c).before (3 : Fin 5) t0_0 d = swV m c :=
  (dats m ρ 0 c).before_in_eq_fetched 3 rfl (fun _ => rfl) (fun _ _ _ => rfl) (fun t => by rw [fin_N0 t]; rfl) t0_0 d

omit [FloatOps F] in
theorem bigSep_W (Φ : Fin cfg0.W → sProp 𝕄) :
    bigSep Finset.univ Φ = iprop(Φ (0 : Fin 5) ∗ Φ (1 : Fin 5) ∗ Φ (2 : Fin 5) ∗ Φ (3 : Fin 5) ∗ Φ (4 : Fin 5)) := bigSep_W0 Φ

omit [FloatOps F] in
theorem owns_wts (c : Dev nD) : wts m c ⊢ owns (c : Thread nD τ) weM fullShare (weV m c) := by
  unfold wts owns
  simp only [Memref.view_whole, View.read_whole, View.set_whole]
  iintro H
  iexists (m ((c : Thread nD τ).loc main_arg3))
  isplitr; · ipureintro; rfl
  iexact H
omit [FloatOps F] in
theorem wts_owns (c : Dev nD) : owns (c : Thread nD τ) weM fullShare (weV m c) ⊢ wts m c := by
  unfold wts owns
  simp only [Memref.view_whole, View.read_whole, View.set_whole]
  iintro ⟨%f, %hf, H⟩
  subst hf
  iexact H

abbrev stgs (c : Dev nD) (X : FVec F S2048x1024 .bf16) (RW : FVec F S1024x64 .bf16) (RI : Vec F S2048x1 .i32) (SW : FVec F S1024x1024 .bf16) : sProp 𝕄 :=
  iprop(owns (c : Thread nD τ) xM fullShare X ∗ owns (c : Thread nD τ) rwM fullShare RW ∗ owns (c : Thread nD τ) riM fullShare RI ∗ owns (c : Thread nD τ) swM fullShare SW)

def regionPre (c : Dev nD) : sProp 𝕄 :=
  iprop(Φ₀ m c ∗ (dats m ρ 0 c).owesAt () t0_0.castSucc
    ∗ (∃ d, owns (c : Thread nD τ) xM fullShare ((dats m ρ 0 c).before (0 : Fin 5) t0_0 d))
    ∗ (∃ d, owns (c : Thread nD τ) rwM fullShare ((dats m ρ 0 c).before (1 : Fin 5) t0_0 d))
    ∗ (∃ d, owns (c : Thread nD τ) riM fullShare ((dats m ρ 0 c).before (2 : Fin 5) t0_0 d))
    ∗ (∃ d, owns (c : Thread nD τ) swM fullShare ((dats m ρ 0 c).before (3 : Fin 5) t0_0 d))
    ∗ (∃ d, owns (c : Thread nD τ) outM fullShare ((dats m ρ 0 c).before (4 : Fin 5) t0_0 d)))
def regionPost (c : Dev nD) : sProp 𝕄 :=
  iprop(Φ₁ m c ∗ (dats m ρ 0 c).owesAt () t0_0.succ
    ∗ owns (c : Thread nD τ) xM fullShare (xV m c) ∗ owns (c : Thread nD τ) rwM fullShare (rwV m c)
    ∗ owns (c : Thread nD τ) riM fullShare (riV m c) ∗ owns (c : Thread nD τ) swM fullShare (swV m c) ∗ owns (c : Thread nD τ) outM fullShare (outV c m))

theorem owes_in (c : Dev nD) : (dats m ρ 0 c).owesAt () t0_0.castSucc ⊢ owesW c 0 := by
  unfold Dat.owesAt Pipeline.owesWithin owesW
  rw [show (dats m ρ 0 c).owed t0_0.castSucc = O 0 c from rfl]
  iintro ⟨%W, -, H⟩
  iexists W; iexact H
theorem owes_out (c : Dev nD) : owesW c 16 ⊢ (dats m ρ 0 c).owesAt () t0_0.succ := by
  unfold Dat.owesAt Pipeline.owesWithin owesW
  rw [show (dats m ρ 0 c).owed t0_0.succ = O 16 c from rfl]
  iintro ⟨%W, H⟩
  iexists W
  isplitr; · ipureintro; exact fun _ _ => Or.inl trivial
  iexact H

theorem region (c : Dev nD) : regionPre m ρ c ⊢ wpB c (cc0_body xM (Memref.isWhole_whole _) rwM (Memref.isWhole_whole _) riM (Memref.isWhole_whole _) weM (Memref.isWhole_whole _) swM (Memref.isWhole_whole _) outM (Memref.isWhole_whole _) ewM (Memref.isWhole_whole _) gtM (Memref.isWhole_whole _) yM (Memref.isWhole_whole _) rsM (Memref.isWhole_whole _) rrM (Memref.isWhole_whole _) lsM (Memref.isWhole_whole _) lrM (Memref.isWhole_whole _) arM (Memref.isWhole_whole _) alM (Memref.isWhole_whole _) cc0_scratch9 cc0_scratch10 cc0_scratch11 cc0_scratch12 cc0_scratch13 cc0_scratch14 cc0_scratch15 cc0_scratch16 cc0_scratch17) (fun _ => regionPost m ρ c) := by
  unfold regionPre regionPost Φ₀ Φ₁ start G'
  simp only [before_x, before_rw, before_ri, before_sw]
  iintro ⟨⟨⟨⟨%K, #HR, Hid, Htok⟩, #HL, Hcr, Hw⟩, Hsc⟩, Ho, ⟨%d0, Hx⟩, ⟨%d1, Hrw⟩, ⟨%d2, Hri⟩, ⟨%d3, Hsw⟩, ⟨%d4, Hout⟩⟩
  ihave Hw := (owns_wts m c) $$ Hw
  ihave Ho := (owes_in m ρ c) $$ Ho
  iapply (body m K c)
  unfold bodyPre bodyPost
  isplitr
  · unfold env records
    icases HR with ⟨#H1, #H2⟩
    isplitr; · iexact H1
    isplitr; · iexact H2
    iexact HL
  isplitl
  · isplitl [Hx Hrw Hri Hsw]
    · isplitl [Hx]; · iexact Hx
      isplitl [Hrw]; · iexact Hrw
      isplitl [Hri]; · iexact Hri
      iexact Hsw
    isplitl [Hout]; · iexists _; iexact Hout
    isplitl [Hw]; · iexact Hw
    isplitl [Hsc]; · iexact Hsc
    isplitl [Hid]; · iexact Hid
    isplitl [Htok]; · iexact Htok
    isplitl [Hcr]; · iexact Hcr
    iexact Ho
  · iintro ⟨⟨Hx, Hrw, Hri, Hsw⟩, Hout, Hw, Hsc, Hd, Ho⟩
    ihave Hw := (wts_owns m c) $$ Hw
    ihave Ho := (owes_out m ρ c) $$ Ho
    isplitl [Hw Hsc Hd]
    · isplitl [Hd]; · iexact Hd
      isplitl [Hw]; · iexact Hw
      iexact Hsc
    isplitl [Ho]; · iexact Ho
    isplitl [Hx]; · iexact Hx
    isplitl [Hrw]; · iexact Hrw
    isplitl [Hri]; · iexact Hri
    isplitl [Hsw]; · iexact Hsw
    iexact Hout

set_option maxRecDepth 8000 in
theorem body_obligation (c : Dev nD) : BodyObligation (dats (F := F) m ρ 0 c) (defs₀ (F := F)) 𝒱₀ () Set.univ := fun t => by
  rw [fin_N0 t]
  rw [bigSep_W, bigSep_W]
  exact region m ρ c

/-! ## The launch -/

theorem ownSemFacts : Pipeline.OwnSemFacts cfg0.spec osem := by decide

theorem share_eq (c : Dev nD) (w : Fin cfg0.W) : (dats m ρ 0 c).share w = fullShare := by unfold Dat.share; split <;> rfl

omit [FloatOps F] in
theorem any_of_pts (c : Dev nD) (b : Ref sig .tc) :
    iprop(∃ f : Buf (Elt F) ((c : Thread nD τ).loc b), ((c : Thread nD τ).loc b) ↦{fullShare} f) ⊢ (anyOwns c (Memref.whole b) : sProp 𝕄) := by
  unfold anyOwns owns
  simp only [Memref.view_whole, View.read_whole, View.set_whole]
  iintro ⟨%f, H⟩
  iexists f; iexists f
  isplitr; · ipureintro; rfl
  iexact H
omit [FloatOps F] in
theorem pts_of_any (c : Dev nD) (b : Ref sig .tc) :
    (anyOwns c (Memref.whole b) : sProp 𝕄) ⊢ iprop(∃ f : Buf (Elt F) ((c : Thread nD τ).loc b), ((c : Thread nD τ).loc b) ↦{fullShare} f) := by
  unfold anyOwns owns
  simp only [Memref.view_whole, View.read_whole, View.set_whole]
  iintro ⟨%X, %f, -, H⟩
  iexists f; iexact H

omit [FloatOps F] in
theorem scratch_eq (c : Dev nD) : (Pipeline.scopedRest cfg0.spec c : sProp 𝕄) = scratch c := by
  have h (b : Ref sig .tc) : iprop(∃ f : Buf (Elt F) ((c : Thread nD τ).loc b), ((c : Thread nD τ).loc b) ↦{fullShare} f) = (anyOwns c (Memref.whole b) : sProp 𝕄) :=
    Idealize.SL.BI.Entails.antisymm (any_of_pts c b) (pts_of_any c b)
  rw [scopedRest0_eq]
  unfold scratch
  simp only [h]
  rfl

theorem start_intro (c : Dev nD) :
    iprop(Pipeline.unscopedRestP Pipeline.Prefetch.none cfg0.spec c (fun b => m ((c : Thread nD τ).loc b)) ∗ levAts L lv
        ∗ Pipeline.launchCred (O 0) c ∗ prngReg c (ρ c) ∗ G' m c)
      ⊢ |={Set.univ}=> iprop(start m c ∗ emp) := by
  rw [Pipeline.unscopedRestP_none, unscopedRest0_eq]
  iintro ⟨Hw, Hlev, Hcr, -, HG⟩
  ihave Hc := (creds (F := F) c) $$ Hcr
  imodintro
  unfold start wts
  isplitl
  · isplitl [HG]; · iexact HG
    isplitl [Hlev]; · iexact Hlev
    isplitl [Hc]; · iexact Hc
    iexact Hw
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scratch_eq]
  unfold Φ₀
  iintro ⟨Hs, -, Hr⟩
  isplitl [Hs] <;> iassumption

theorem phi1_exit (c : Dev nD) :
    (dats m ρ 0 c).Φ (Fin.last cfg0.N)
      ⊢ iprop((unscopedSems0 c ∗ wts m c) ∗ Pipeline.ownSems0 osem c ∗ Pipeline.scopedRest cfg0.spec c) := by
  rw [show (dats m ρ 0 c).Φ (Fin.last cfg0.N) = Φ₁ m c from rfl, scratch_eq]
  unfold Φ₁
  rw [dones_split]
  iintro ⟨⟨Hu, Ho⟩, Hw, Hs⟩
  isplitl [Hu Hw]
  · isplitl [Hu] <;> iassumption
  isplitl [Ho] <;> iassumption

theorem stage_below (w : Fin cfg0.W) (s : Fin (cfg0.win w).nbuf) : lvS (SemLoc.dma ((cfg0.win w).sem s) : SemLoc sig) = 0 := by revert w s; decide +kernel

theorem waits (c : Dev nD) : (levAts L lv : sProp 𝕄) ⊢ Pipeline.cellsWaits cfgs (dats m ρ) () 0 c :=
  Pipeline.cellsWaits_intro cfgs (dats m ρ) () 0 c fun (w : Fin cfg0.W) (s : Fin (cfg0.win w).nbuf) t => by
    have h : ∀ k ∈ ((debts c).drop 0).map Prod.snd, lvS (SemLoc.dma ((cfg0.win w).sem s) : SemLoc sig) < lvS (csem k) := by
      rw [stage_below]
      exact (by decide +kernel : ∀ c : Dev nD, ∀ k ∈ ((debts c).drop 0).map Prod.snd, 0 < lvS (csem k)) c
    rcases t with ⟨_ | _, ht⟩
    · exact mayWait c _ 0 h
    · exact mayWait c _ 16 (fun k hk => absurd hk (List.not_mem_nil))

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r => ∀ c : Dev nD,
  (∀ w : Fin cfg0.W, r.2.mem ((cfg0.win w).arr.view.loc (c : Thread nD τ)) = finalA m ρ c w)
    ∧ r.2.mem ((c : Thread nD τ).loc main_arg3) = m ((c : Thread nD τ).loc main_arg3)

set_option maxRecDepth 8000 in
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O 0) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => iprop(unscopedSems0 c ∗ wts m c)) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg3) = m ((c : Thread nD τ).loc main_arg3))
    (hY := fun c s' => by
      iintro ⟨⟨Hu, Hw⟩, -, HSI⟩
      unfold wts
      ihave %h := (SI_pointsTo_agree) $$ [HSI Hw]
      · isplitl [HSI] <;> iassumption
      imod (Pipeline.unscopedSems0_read (X := unscopedSems0 c) (c := c) fupd_intro s') $$ [Hu HSI] with ⟨%h', HSI⟩
      · isplitl [Hu] <;> iassumption
      imodintro
      isplitr
      · ipureintro; exact ⟨h', funext fun i => h i (Finset.mem_univ i)⟩
      iexact HSI)
    (hQ := fun _ h hs => ⟨fun c => ⟨fun w => (h c).1 w, (h c).2.2.2⟩, sem_eq_zero hs fun c => (h c).2.2.1⟩)

end Cert.MoeRing

end
-- ==== Proof.Final.lean ====
/-
The run read at the argument and result arrays: the arguments as they were, the result at the stacked row blocks.
-/
module

public import proofs.«01_k».proof.Proof.Run
public import Idealize.ShloMosaic.Lib.Claim

@[expose] public section

noncomputable section

namespace Cert.MoeRing

open Cert.KernelIdeal Cert.KernelIdeal.Gen

open Idealize.ShloMosaic
open Idealize.ShloMosaic.TcCoe
open Idealize.SL.Sem

variable {F : FTy → Type} [FloatOps F]
variable (m : (ℓ : Loc nD τ sig) → Buf (Elt F) ℓ) (ρ : Dev nD → PrngReg)

/-- The result array after the run. -/
theorem final_out (c : Dev nD) : finalA m ρ c (4 : Fin 5) = outV c m := by
  have h : (win0_4.blk (0 : Fin 1)).view.read (Elt F) (finalA m ρ c (4 : Fin 5)) = outV c m := by
    unfold finalA
    rw [show cfg0.N = ((0 : Fin 1) : Fin cfg0.N).val + 1 from rfl, (dats m ρ 0 c).arrAt_succ (4 : Fin 5) (0 : Fin 1)]
    rw [show (cfg0.win (4 : Fin 5)).flush (0 : Fin 1) = true from by decide, if_pos rfl]
    exact View.read_write_univ _ _
  have hz : (fun a => (win0_4.index (0 : Fin 1)) a * main_v1.ty.shape.size a) = fun _ => 0 :=
    funext fun a => by fin_cases a <;> decide
  rw [Memref.read_access_unit_zero (Elt F) main_v1 hz (fun a => by fin_cases a <;> decide)] at h
  exact h

theorem final_in (c : Dev nD) (w : Fin cfg0.W) (h : (cfg0.win w).isOut = false) :
    finalA m ρ c w = m ((cfg0.win w).arr.view.loc (c : Thread nD τ)) :=
  (dats (F := F) m ρ 0 c).arrAt_in w h _

/-- Every execution from `m` ends with, on every device, the result at `outV` and the arguments at what they were,
    and every counter at zero. -/
theorem run_out : θ_run defs (onTc (τ := τ) (main (F := F))) ⟨m, fun _ => 0, ρ⟩ (fun r =>
    (∀ c : Dev nD,
      r.2.mem ((c.tc : Thread nD τ).loc main_v1) = outV c m
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
    ∧ r.2.sem = fun _ => 0) :=
  (θ_run defs _ _).mono (fun _ h => ⟨fun c =>
    ⟨((h.1 c).1 (4 : Fin 5)).trans (final_out m ρ c), ((h.1 c).1 (0 : Fin 5)).trans (final_in m ρ c _ rfl),
      ((h.1 c).1 (1 : Fin 5)).trans (final_in m ρ c _ rfl), ((h.1 c).1 (2 : Fin 5)).trans (final_in m ρ c _ rfl),
      (h.1 c).2, ((h.1 c).1 (3 : Fin 5)).trans (final_in m ρ c _ rfl)⟩, h.2⟩) (run_main m ρ)

end Cert.MoeRing

end
-- ==== Proof.Count.lean ====
/-
Counting by doubling, and the place a routed token gets: the mathematics of the dispatch, over plain numbers.
-/
module

public import Idealize.ShloMosaic.Lib.ValueIdx
public import Mathlib.Data.Nat.Count

@[expose] public section

noncomputable section

namespace Cert.MoeRing

open scoped BigOperators

/-! ## Counting by doubling -/

section Window
variable (p : ℕ → Prop) [DecidablePred p]

/-- How many of the `k` numbers up to and including `t` satisfy `p`. -/
def windowCount (k t : ℕ) : ℕ := Nat.count p (t + 1) - Nat.count p (t + 1 - k)

theorem windowCount_one (t : ℕ) : windowCount p 1 t = if p t then 1 else 0 := by
  unfold windowCount
  rw [Nat.add_sub_cancel, Nat.count_succ]
  omega

theorem windowCount_double (k t : ℕ) : windowCount p (2 * k) t = windowCount p k t + if t < k then 0 else windowCount p k (t - k) := by
  unfold windowCount
  by_cases h : t < k
  · rw [if_pos h, show t + 1 - 2 * k = t + 1 - k by omega]
    rfl
  · rw [if_neg h, show t - k + 1 = t + 1 - k by omega, show t + 1 - k - k = t + 1 - 2 * k by omega]
    have h1 : Nat.count p (t + 1 - k) ≤ Nat.count p (t + 1) := Nat.count_monotone p (by omega)
    have h2 : Nat.count p (t + 1 - 2 * k) ≤ Nat.count p (t + 1 - k) := Nat.count_monotone p (by omega)
    omega

theorem windowCount_full {k t : ℕ} (h : t < k) : windowCount p k t = Nat.count p t + if p t then 1 else 0 := by
  unfold windowCount
  rw [show t + 1 - k = 0 by omega, Nat.count_zero, Nat.sub_zero, Nat.count_succ]

end Window

/-! ## Places -/

section Slot
variable (r : ℕ → ℕ) (T : ℕ)

/-- How many of the tokens before `t` go where `t` goes. -/
def place (t : ℕ) : ℕ := Nat.count (fun u => r u = r t) t

/-- The slot of token `t` on device `d`: past the last one if its expert is not there. -/
def slot (d t : ℕ) : ℕ := if r t / 8 = d then 64 * (r t % 8) + place r t else 512

/-- No expert is named by more tokens than it has slots. -/
def Fits : Prop := ∀ t < T, Nat.count (fun u => r u = r t) T ≤ 64

variable {r T}

theorem place_lt (h : Fits r T) {t : ℕ} (ht : t < T) : place r t < 64 := by
  have h1 : Nat.count (fun u => r u = r t) (t + 1) = place r t + 1 := by
    rw [Nat.count_succ, if_pos rfl]; rfl
  have h2 : Nat.count (fun u => r u = r t) (t + 1) ≤ Nat.count (fun u => r u = r t) T := Nat.count_monotone _ (by omega)
  have := h t ht
  omega

theorem slot_home {d t : ℕ} (h : r t / 8 = d) : slot r d t = 64 * (r t % 8) + place r t := if_pos h
theorem slot_away {d t : ℕ} (h : ¬r t / 8 = d) : slot r d t = 512 := if_neg h

theorem slot_home_lt (h : Fits r T) {d t : ℕ} (ht : t < T) (hd : r t / 8 = d) : slot r d t < 512 := by
  rw [slot_home hd]
  have := place_lt h ht
  have := Nat.mod_lt (r t) (show 8 > 0 by omega)
  omega

theorem slot_home_div (h : Fits r T) {d t : ℕ} (ht : t < T) (hd : r t / 8 = d) : slot r d t / 64 = r t % 8 := by
  rw [slot_home hd]
  have := place_lt h ht
  omega

/-- Two tokens on a device have different slots. -/
theorem slot_inj (h : Fits r T) {d t u : ℕ} (ht : t < T) (hu : u < T) (hd : r t / 8 = d) (e : slot r d u = slot r d t) : u = t := by
  by_cases hd' : r u / 8 = d
  · rw [slot_home hd, slot_home hd'] at e
    have h1 := place_lt h ht
    have h2 := place_lt h hu
    have hr : r u = r t := by omega
    have hp : place r u = place r t := by omega
    unfold place at hp
    rw [hr] at hp
    exact Nat.count_injective (p := fun v => r v = r t) hr rfl hp
  · rw [slot_away hd'] at e
    have := slot_home_lt h ht hd
    omega

end Slot

/-! ## Sums that pick one term -/

section Pick
variable {n : ℕ}

/-- A sum against the indicator of one index is the term there, whatever the others are. -/
theorem sum_pick (a : Fin n → EReal) (k : Fin n) (q : Fin n → Prop) [DecidablePred q] (hq : ∀ i, q i ↔ i = k) :
    ∑ i, (if q i then (1 : EReal) else 0) * a i = a k := by
  rw [Finset.sum_eq_single k]
  · rw [if_pos ((hq k).mpr rfl), one_mul]
  · intro b _ hb
    rw [if_neg (fun h => hb ((hq b).mp h)), zero_mul]
  · intro h; exact absurd (Finset.mem_univ k) h
theorem sum_pick_none (a : Fin n → EReal) (q : Fin n → Prop) [DecidablePred q] (hq : ∀ i, ¬q i) :
    ∑ i, (if q i then (1 : EReal) else 0) * a i = 0 :=
  Finset.sum_eq_zero fun i _ => by rw [if_neg (hq i), zero_mul]

theorem sum_select (a : Fin n → EReal) (k : Fin n) (q : Fin n → Prop) [DecidablePred q] (hq : ∀ i, q i ↔ i = k) :
    ∑ i, (if q i then a i else 0) = a k := by
  rw [Finset.sum_eq_single k]
  · rw [if_pos ((hq k).mpr rfl)]
  · intro b _ hb
    rw [if_neg (fun h => hb ((hq b).mp h))]
  · intro h; exact absurd (Finset.mem_univ k) h
theorem sum_select_none (a : Fin n → EReal) (q : Fin n → Prop) [DecidablePred q] (hq : ∀ i, ¬q i) :
    ∑ i, (if q i then a i else 0) = 0 :=
  Finset.sum_eq_zero fun i _ => by rw [if_neg (hq i)]

/-- The sum of indicators is the count. -/
theorem sum_indicator (p : ℕ → Prop) [DecidablePred p] (n : ℕ) :
    ∑ i : Fin n, (if p i.val then (1 : EReal) else 0) = ((Nat.count p n : ℕ) : EReal) := by
  induction n with
  | zero => simp
  | succ n ih =>
    rw [Fin.sum_univ_castSucc, Nat.count_succ]
    simp only [Fin.val_castSucc, Fin.val_last]
    rw [ih, Nat.cast_add]
    split <;> simp

end Pick

end Cert.MoeRing

end
-- ==== Proof.At.lean ====
/-
Operations on matrices read at an entry.
-/
module

public import proofs.«01_k».proof.Proof.Count
public import Idealize.ShloMosaic.Lib.KernelVsHost
public import Idealize.ShloMosaic.Lib.MatmulPlain

@[expose] public section

noncomputable section

namespace Cert.MoeRing

open Idealize.ShloMosaic
open Idealize.ShloMosaic.ValueIdx
open scoped BigOperators

/-! ## Words and bits -/

theorem select_of (P : Prop) [Decidable P] {α : Type} (a b : α) : Scalar.select (if P then 1#1 else 0#1) a b = if P then a else b := by
  by_cases h : P <;> simp [Scalar.select, h]

theorem cmpi_eq_of (x y : BitVec 32) : IntOp.cmpi .eq x y = if x.toNat = y.toNat then 1#1 else 0#1 := by
  unfold IntOp.cmpi
  by_cases h : x = y
  · subst h; simp
  · rw [if_neg (fun e => h (BitVec.eq_of_toNat_eq e))]
    rw [beq_eq_false_iff_ne.mpr h]; rfl

/-- The 32-bit words of the zero, the one, sixty-four and five hundred and twelve. -/
theorem word_zero : Ideal.ofBits .f32 0x00000000#32 = ((0 : ℕ) : EReal) := by rw [Ideal.ofBits_zero_f32]; simp
theorem word_one : Ideal.ofBits .f32 0x3F800000#32 = ((1 : ℕ) : EReal) := by
  simp [Ideal.ofBits, Ideal.ieee, ← EReal.coe_mul]
  norm_num
theorem word_64 : Ideal.ofBits .f32 0x42800000#32 = ((64 : ℕ) : EReal) := by
  simp [Ideal.ofBits, Ideal.ieee, ← EReal.coe_mul]
  norm_num
  rfl
theorem word_512 : Ideal.ofBits .f32 0x44000000#32 = ((512 : ℕ) : EReal) := by
  simp [Ideal.ofBits, Ideal.ieee, ← EReal.coe_mul]
  norm_num
  rfl
theorem word_bot : Ideal.ofBits .f32 0xFF800000#32 = (⊥ : EReal) := by simp [Ideal.ofBits, Ideal.ieee]

/-- A small number converted to a word is that word. -/
theorem fptosi_nat (n : ℕ) (h : n < 2 ^ 31) : Ideal.fptosi 32 ((n : ℕ) : EReal) = BitVec.ofNat 32 n := by
  rw [show ((n : ℕ) : EReal) = (((n : ℕ) : ℝ) : EReal) from rfl, Ideal.fptosi, Ideal.toIntClamped_coe, if_pos (Nat.cast_nonneg n), Int.floor_natCast]
  rw [show max (-((2 ^ (32 - 1) : ℕ) : ℤ)) (min (((2 ^ (32 - 1) : ℕ) : ℤ) - 1) (n : ℤ)) = (n : ℤ) by omega]
  exact BitVec.ofInt_natCast ..

theorem sub_nat (a b : ℕ) (h : b ≤ a) : ((a : ℕ) : EReal) - ((b : ℕ) : EReal) = ((a - b : ℕ) : EReal) := by
  rw [show ((a : ℕ) : EReal) = (((a : ℕ) : ℝ) : EReal) from rfl, show ((b : ℕ) : EReal) = (((b : ℕ) : ℝ) : EReal) from rfl,
    show ((a - b : ℕ) : EReal) = (((a - b : ℕ) : ℝ) : EReal) from rfl, ← EReal.coe_sub, Nat.cast_sub h]
theorem add_nat (a b : ℕ) : ((a : ℕ) : EReal) + ((b : ℕ) : EReal) = ((a + b : ℕ) : EReal) := (Nat.cast_add a b).symm
theorem mul_nat (a b : ℕ) : ((a : ℕ) : EReal) * ((b : ℕ) : EReal) = ((a * b : ℕ) : EReal) := by
  norm_cast
theorem lt_nat (a b : ℕ) : ((a : ℕ) : EReal) < ((b : ℕ) : EReal) ↔ a < b := by norm_cast
theorem le_nat (a b : ℕ) : ((a : ℕ) : EReal) ≤ ((b : ℕ) : EReal) ↔ a ≤ b := by norm_cast

/-! ## Columns and rows -/

section Col
variable {n k : ℕ} {α : Type}

theorem col_spread (hn : n ≠ 1) (v : (⟨2, ![n, 1]⟩ : Shape).Idx → α) (h : (⟨2, ![n, 1]⟩ : Shape).Broadcasts ⟨2, ![n, k]⟩) (a : Fin n) (b : Fin k) :
    broadcastTo ⟨2, ![n, k]⟩ v h (ix2 a b) = v (ix2 a (0 : Fin 1)) :=
  broadcastTo_apply v h (ix2 a b) (ix2 a (0 : Fin 1)) fun x => match x with
    | ⟨0, _⟩ => (if_neg hn).symm
    | ⟨1, _⟩ => rfl

theorem col_of (v : (⟨1, ![n]⟩ : Shape).Idx → α) (h : (⟨1, ![n]⟩ : Shape).ShapeCasts ⟨2, ![n, 1]⟩) (a : Fin n) (b : Fin 1) :
    shapeCast ⟨2, ![n, 1]⟩ v h (ix2 a b) = v (ix1 a) :=
  shapeCast_apply v h (ix2 a b) (ix1 a) (by
    rw [Shape.rowMajor_val_two, Shape.rowMajor_val_one]
    show a.val = a.val * 1 + b.val
    omega)

theorem lift_row (h : (⟨2, ![n, k]⟩ : Shape).Reduces [1] ⟨1, ![n]⟩) (a : Fin n) (b : Fin k) : h.lift (ix1 a) b = ix2 a b := by
  funext c; apply Fin.ext
  match c with
  | ⟨0, _⟩ => rfl
  | ⟨1, _⟩ => rfl

theorem row_sum (v : FVec Ideal ⟨2, ![n, k]⟩ .f32) (w : BitVec 32) (h : (⟨2, ![n, k]⟩ : Shape).Reduces [1] ⟨1, ![n]⟩) (hw : w = FKind.add.neutral .f32 (.inl rfl)) (a : Fin n) :
    multiReduction .add [1] ⟨1, ![n]⟩ v w h (.inl rfl) hw (ix1 a) = ∑ b : Fin k, v (ix2 a b) :=
  (Ideal.multiReduction_add_single v w h (.inl rfl) hw (ix1 a)).trans
    (Finset.sum_congr rfl fun b _ => congrArg v (lift_row h a b))

/-- The largest of some zeros and ones is a one if there is any. -/
theorem row_any (v : FVec Ideal ⟨2, ![n, k]⟩ .f32) (h : (⟨2, ![n, k]⟩ : Shape).Reduces [1] ⟨1, ![n]⟩) (hw : (0xFF800000#32 : BitVec 32) = FKind.maximumf.neutral .f32 (.inl rfl)) (a : Fin n)
    (q : Fin k → Prop) [DecidablePred q] (hk : 0 < k) (hv : ∀ b, v (ix2 a b) = if q b then ((1 : ℕ) : EReal) else ((0 : ℕ) : EReal)) :
    multiReduction .maximumf [1] ⟨1, ![n]⟩ v 0xFF800000#32 h (.inl rfl) hw (ix1 a) = if ∃ b, q b then ((1 : ℕ) : EReal) else ((0 : ℕ) : EReal) := by
  refine (Ideal.multiReduction_maximumf_single v _ h (.inl rfl) hw (ix1 a)).trans ?_
  rw [show (FloatOps.ofBits .f32 0xFF800000#32 : Ideal .f32) = (⊥ : EReal) from word_bot]
  rw [show (v ∘ h.lift (ix1 a)) = (fun b : Fin k => if q b then ((1 : ℕ) : EReal) else ((0 : ℕ) : EReal)) from
    funext fun b => (congrArg v (lift_row h a b)).trans (hv b)]
  by_cases hq : ∃ b, q b
  · rw [if_pos hq]
    obtain ⟨b, hb⟩ := hq
    refine le_antisymm (Finset.fold_max_le _ |>.mpr ⟨bot_le, fun x _ => ?_⟩) (Finset.le_fold_max _ |>.mpr (Or.inr ⟨b, Finset.mem_univ b, ?_⟩))
    · split <;> norm_cast
    · rw [if_pos hb]
  · rw [if_neg hq]
    refine le_antisymm (Finset.fold_max_le _ |>.mpr ⟨bot_le, fun x _ => ?_⟩) (Finset.le_fold_max _ |>.mpr (Or.inr ⟨⟨0, hk⟩, Finset.mem_univ _, ?_⟩))
    · rw [if_neg (fun hx => hq ⟨x, hx⟩)]
    · exact (if_neg (fun hx => hq ⟨_, hx⟩)).ge

end Col

/-! ## Products -/

section Product
variable {M K N : ℕ} {φ₁ φ₂ : FTy}

/-- A matrix product into zeros. -/
theorem product_apply (d : DotDims ⟨2, ![M, K]⟩ ⟨2, ![K, N]⟩ ⟨2, ![M, N]⟩) (hd : d = DotDims.plain M K N) (prec : Option ContractPrecision)
    (l : FVec Ideal ⟨2, ![M, K]⟩ φ₁) (r : FVec Ideal ⟨2, ![K, N]⟩ φ₂) (a : Fin M) (b : Fin N) :
    matmul d prec l r (constant ⟨2, ![M, N]⟩ .f32 0x00000000#32) (ix2 a b) = ∑ k : Fin K, l (ix2 a k) * r (ix2 k b) := by
  subst hd
  refine (Ideal.matmul_plain_apply prec l r _ a b).trans ?_
  rw [constant_apply, Ideal.ofBits_zero_f32, zero_add]

/-- A product with the left matrix's rows contracted, into zeros. -/
theorem product_left_apply (w : DotDims.WF ⟨2, ![K, M]⟩ ⟨2, ![K, N]⟩ ⟨2, ![M, N]⟩ [0] [0] [1] [1] [] []) (prec : Option ContractPrecision)
    (l : FVec Ideal ⟨2, ![K, M]⟩ φ₁) (r : FVec Ideal ⟨2, ![K, N]⟩ φ₂) (a : Fin M) (b : Fin N) :
    matmul (⟨[0], [0], [1], [1], [], [], w⟩ : DotDims ⟨2, ![K, M]⟩ ⟨2, ![K, N]⟩ ⟨2, ![M, N]⟩) prec l r (constant ⟨2, ![M, N]⟩ .f32 0x00000000#32) (ix2 a b)
      = ∑ k : Fin K, l (ix2 k a) * r (ix2 k b) := by
  refine (Ideal.matmul_constant_zero_apply _ prec l r (ix2 a b)).trans ?_
  rw [← Equiv.sum_comp (contrEquiv1 (⟨[0], [0], [1], [1], [], [], w⟩ : DotDims ⟨2, ![K, M]⟩ ⟨2, ![K, N]⟩ ⟨2, ![M, N]⟩) K rfl rfl).symm]
  refine Finset.sum_congr rfl fun k _ => ?_
  have hk := contrEquiv1_symm_val (⟨[0], [0], [1], [1], [], [], w⟩ : DotDims ⟨2, ![K, M]⟩ ⟨2, ![K, N]⟩ ⟨2, ![M, N]⟩) K rfl rfl k
  refine congrArg₂ (fun u v : EReal => u * v) (congrArg l ?_) (congrArg r ?_)
  · funext x; apply Fin.ext
    match x with
    | ⟨0, _⟩ => exact hk
    | ⟨1, _⟩ => rfl
  · funext x; apply Fin.ext
    match x with
    | ⟨0, _⟩ => exact hk
    | ⟨1, _⟩ => rfl

end Product

end Cert.MoeRing

end
-- ==== Proof.Dispatch.lean ====
/-
The dispatch matrix over the extended reals: token `t`'s row has a one at the token's slot and zeros elsewhere.
-/
module

public import proofs.«01_k».proof.Proof.At
public import proofs.«01_k».proof.Proof.Gen.KernelIdeal
public import proofs.«01_k».proof.Proof.Gen.KernelIdeal.Skeleton

@[expose] public section

noncomputable section

namespace Cert.MoeRing

open Cert.KernelIdeal Cert.KernelIdeal.Gen

open Idealize.ShloMosaic
open Idealize.ShloMosaic.ValueIdx
open scoped BigOperators

/-- The expert token `t` is routed to; none past the last token. -/
def routeN (ri : IVec S2048x1 32) (t : ℕ) : ℕ := if h : t < 2048 then (ri (ix2 (⟨t, h⟩ : Fin 2048) (0 : Fin 1))).toNat else 64

theorem routeN_of (ri : IVec S2048x1 32) (t : Fin 2048) : routeN ri t.val = (ri (ix2 t (0 : Fin 1))).toNat := dif_pos t.isLt

/-- Every route names an expert, and every expert has slots for its tokens. -/
structure Routed (ri : IVec S2048x1 32) : Prop where
  lt : ∀ t < 2048, routeN ri t < 64
  fits : Fits (routeN ri) 2048

section
variable (c : Fin 8) (ri : IVec S2048x1 32)

theorem pay3_eq : k0_pay3 (F := Ideal) ri = ri := shapeCast_self _ _

theorem expert_word : ∀ c j : Fin 8, (IntOp.addi (Scalar.muli (BitVec.ofNat 32 c.val) 8#32) (BitVec.ofNat 32 j.val)).toNat = 8 * c.val + j.val := by
  decide

/-- Whether token `t` goes to the device's expert `j`. -/
theorem pay5_apply (t : Fin 2048) (j : Fin 8) :
    k0_pay5 (F := Ideal) (BitVec.ofNat 32 c.val) ri (ix2 t j) = if routeN ri t.val = 8 * c.val + j.val then 1#1 else 0#1 := by
  show IntOp.cmpi .eq (broadcastTo S2048x8 (k0_pay3 (F := Ideal) ri) broadcasts_S2048x1_S2048x8 (ix2 t j))
    (IntOp.addi (Scalar.muli (BitVec.ofNat 32 c.val) 8#32) (iota .tc S2048x8 32 [1] iota_S2048x8_d1_w32 (ix2 t j))) = _
  rw [cmpi_eq_of, col_spread (by decide), pay3_eq, iota_single_apply, ← routeN_of]
  rw [show (ix2 t j : S2048x8.Idx) 1 = j from rfl, expert_word]

theorem pay6_apply (t : Fin 2048) (j : Fin 8) :
    k0_pay6 (F := Ideal) (BitVec.ofNat 32 c.val) ri (ix2 t j) = if routeN ri t.val = 8 * c.val + j.val then ((1 : ℕ) : EReal) else ((0 : ℕ) : EReal) := by
  show Scalar.select (k0_pay5 (F := Ideal) (BitVec.ofNat 32 c.val) ri (ix2 t j)) (Ideal.ofBits .f32 0x3F800000#32) (Ideal.ofBits .f32 0x00000000#32) = _
  rw [pay5_apply, select_of, word_one, word_zero]

/-- The array of counts in the window of `k` tokens. -/
def Counts (k : ℕ) (f : FVec Ideal S2048x8 .f32) : Prop :=
  ∀ (t : Fin 2048) (j : Fin 8), f (ix2 t j) = ((windowCount (fun u => routeN ri u = 8 * c.val + j.val) k t.val : ℕ) : EReal)

theorem counts_one : Counts c ri 1 (k0_pay6 (F := Ideal) (BitVec.ofNat 32 c.val) ri) := fun t j => by
  rw [pay6_apply, windowCount_one]
  split <;> rfl

variable {c ri}

/-- The array shifted down by `k` rows, zeros coming in. -/
theorem shifted_apply {k q : ℕ} (hkq : k + q = 2048) (f : FVec Ideal S2048x8 .f32)
    (hs : S2048x8.Slices ![0, 0] ⟨2, ![q, 8]⟩) (hc : Shape.Concatenates [⟨2, ![k, 8]⟩, ⟨2, ![q, 8]⟩] S2048x8 0) (t : Fin 2048) (j : Fin 8) :
    concatenate S2048x8 0 [⟨⟨2, ![k, 8]⟩, broadcast ⟨2, ![k, 8]⟩ (Scalar.ofBits (F := Ideal) .f32 0x00000000#32)⟩,
      ⟨⟨2, ![q, 8]⟩, extractStridedSlice ⟨2, ![q, 8]⟩ ![0, 0] f hs⟩] hc (ix2 t j)
      = if h : t.val < k then ((0 : ℕ) : EReal) else f (ix2 (⟨t.val - k, by omega⟩ : Fin 2048) j) := by
  by_cases h : t.val < k
  · rw [dif_pos h]
    refine (concatenate_pair_apply_left (t := S2048x8) (s₁ := ⟨2, ![k, 8]⟩) (s₂ := ⟨2, ![q, 8]⟩) 0 _ _ hc (ix2 t j) rfl (ix2 (⟨t.val, h⟩ : Fin k) j) (fun b => match b with | ⟨0, _⟩ => rfl | ⟨1, _⟩ => rfl)).trans ?_
    exact word_zero
  · rw [dif_neg h]
    refine (concatenate_pair_apply_right (t := S2048x8) (s₁ := ⟨2, ![k, 8]⟩) (s₂ := ⟨2, ![q, 8]⟩) 0 _ _ hc (ix2 t j) rfl rfl (ix2 (⟨t.val - k, by omega⟩ : Fin q) j) (fun b hb => match b, hb with
      | ⟨0, _⟩, hb => absurd rfl hb | ⟨1, _⟩, _ => rfl) ?_).trans ?_
    · show t.val - k + k = t.val
      omega
    · exact extractStridedSlice_apply (s := S2048x8) (t := ⟨2, ![q, 8]⟩) ![0, 0] f hs _ _ (fun a => match a with
        | ⟨0, _⟩ => (Nat.zero_add _).symm | ⟨1, _⟩ => (Nat.zero_add _).symm)

theorem Counts.double {k q : ℕ} {f : FVec Ideal S2048x8 .f32} (hf : Counts c ri k f) (hkq : k + q = 2048)
    (hs : S2048x8.Slices ![0, 0] ⟨2, ![q, 8]⟩) (hc : Shape.Concatenates [⟨2, ![k, 8]⟩, ⟨2, ![q, 8]⟩] S2048x8 0) :
    Counts c ri (2 * k) (addf f (concatenate S2048x8 0 [⟨⟨2, ![k, 8]⟩, broadcast ⟨2, ![k, 8]⟩ (Scalar.ofBits (F := Ideal) .f32 0x00000000#32)⟩,
      ⟨⟨2, ![q, 8]⟩, extractStridedSlice ⟨2, ![q, 8]⟩ ![0, 0] f hs⟩] hc)) := fun t j => by
  rw [addf_apply, shifted_apply hkq, hf, windowCount_double, ← add_nat]
  refine congrArg _ ?_
  by_cases h : t.val < k
  · rw [dif_pos h, if_pos h]
  · rw [dif_neg h, if_neg h, hf]

variable (c ri)

theorem counts_64 : Counts c ri 64 (k0_pay7 (F := Ideal) (BitVec.ofNat 32 c.val) ri) :=
  ((((((counts_one c ri).double (k := 1) (q := 2047) rfl slices_S2048x8_o0_0_S2047x8 concatenates_S1x8_S2047x8_S2048x8_d0).double
    (k := 2) (q := 2046) rfl slices_S2048x8_o0_0_S2046x8 concatenates_S2x8_S2046x8_S2048x8_d0).double
    (k := 4) (q := 2044) rfl slices_S2048x8_o0_0_S2044x8 concatenates_S4x8_S2044x8_S2048x8_d0).double
    (k := 8) (q := 2040) rfl slices_S2048x8_o0_0_S2040x8 concatenates_S8x8_S2040x8_S2048x8_d0).double
    (k := 16) (q := 2032) rfl slices_S2048x8_o0_0_S2032x8 concatenates_S16x8_S2032x8_S2048x8_d0).double
    (k := 32) (q := 2016) rfl slices_S2048x8_o0_0_S2016x8 concatenates_S32x8_S2016x8_S2048x8_d0

/-- The counts over all the tokens up to each, from those over sixty-four. -/
def count119 (v103 v106 : FVec Ideal S2048x8 .f32) : FVec Ideal S2048x8 .f32 :=
  let v107 := addf v103 v106
  let v111 := addf v107 (concatenate S2048x8 0 [⟨S128x8, broadcast S128x8 (Scalar.ofBits (F := Ideal) .f32 0x00000000#32)⟩, ⟨S1920x8, extractStridedSlice S1920x8 ![0, 0] v107 slices_S2048x8_o0_0_S1920x8⟩] concatenates_S128x8_S1920x8_S2048x8_d0)
  let v115 := addf v111 (concatenate S2048x8 0 [⟨S256x8, broadcast S256x8 (Scalar.ofBits (F := Ideal) .f32 0x00000000#32)⟩, ⟨S1792x8, extractStridedSlice S1792x8 ![0, 0] v111 slices_S2048x8_o0_0_S1792x8⟩] concatenates_S256x8_S1792x8_S2048x8_d0)
  let v119 := addf v115 (concatenate S2048x8 0 [⟨S512x8, broadcast S512x8 (Scalar.ofBits (F := Ideal) .f32 0x00000000#32)⟩, ⟨S1536x8, extractStridedSlice S1536x8 ![0, 0] v115 slices_S2048x8_o0_0_S1536x8⟩] concatenates_S512x8_S1536x8_S2048x8_d0)
  addf v119 (concatenate S2048x8 0 [⟨S1024x8, broadcast S1024x8 (Scalar.ofBits (F := Ideal) .f32 0x00000000#32)⟩, ⟨S1024x8, extractStridedSlice S1024x8 ![0, 0] v119 slices_S2048x8_o0_0_S1024x8⟩] concatenates_S1024x8_S1024x8_S2048x8_d0)

theorem counts_2048 : Counts c ri 2048 (count119 (k0_pay7 (F := Ideal) (BitVec.ofNat 32 c.val) ri) (k0_pay8 (F := Ideal) (BitVec.ofNat 32 c.val) ri)) :=
  (((((counts_64 c ri).double (k := 64) (q := 1984) rfl slices_S2048x8_o0_0_S1984x8 concatenates_S64x8_S1984x8_S2048x8_d0).double
    (k := 128) (q := 1920) rfl slices_S2048x8_o0_0_S1920x8 concatenates_S128x8_S1920x8_S2048x8_d0).double
    (k := 256) (q := 1792) rfl slices_S2048x8_o0_0_S1792x8 concatenates_S256x8_S1792x8_S2048x8_d0).double
    (k := 512) (q := 1536) rfl slices_S2048x8_o0_0_S1536x8 concatenates_S512x8_S1536x8_S2048x8_d0).double
    (k := 1024) (q := 1024) rfl slices_S2048x8_o0_0_S1024x8 concatenates_S1024x8_S1024x8_S2048x8_d0

/-- A token's place, from the counts: how many before it go to the same expert. -/
def before (v79 w : FVec Ideal S2048x8 .f32) : FVec Ideal S2048x8 .f32 := subf w v79

theorem before_apply (t : Fin 2048) (j : Fin 8) :
    before (k0_pay6 (F := Ideal) (BitVec.ofNat 32 c.val) ri) (count119 (k0_pay7 (F := Ideal) (BitVec.ofNat 32 c.val) ri) (k0_pay8 (F := Ideal) (BitVec.ofNat 32 c.val) ri)) (ix2 t j)
      = ((Nat.count (fun u => routeN ri u = 8 * c.val + j.val) t.val : ℕ) : EReal) := by
  show _ - _ = _
  rw [counts_2048 c ri t j, pay6_apply, windowCount_full _ t.isLt]
  split
  · rw [sub_nat _ _ (by omega), Nat.add_sub_cancel]
  · rw [sub_nat _ _ (by omega), Nat.add_zero, Nat.sub_zero]

variable {c ri}

/-- A token is on the device exactly when its expert is one of the device's eight. -/
theorem home_iff (n : ℕ) (j : Fin 8) : n = 8 * c.val + j.val ↔ n / 8 = c.val ∧ j = (⟨n % 8, Nat.mod_lt _ (by decide)⟩ : Fin 8) := by
  have := j.isLt
  constructor
  · intro h; exact ⟨by omega, Fin.ext (by show j.val = n % 8; omega)⟩
  · rintro ⟨h, rfl⟩; show n = 8 * c.val + n % 8; omega

variable (c ri)

/-- The condition of the dispatch: the token goes to the device's expert `j` and has a slot. -/
def okm : IVec S2048x8 1 :=
  andi (k0_pay5 (F := Ideal) (BitVec.ofNat 32 c.val) ri)
    (cmpf .olt (before (k0_pay6 (F := Ideal) (BitVec.ofNat 32 c.val) ri) (count119 (k0_pay7 (F := Ideal) (BitVec.ofNat 32 c.val) ri) (k0_pay8 (F := Ideal) (BitVec.ofNat 32 c.val) ri))) (broadcast S2048x8 (Scalar.ofBits (F := Ideal) .f32 0x42800000#32)))

variable {ri} in
theorem okm_apply (hr : Routed ri) (t : Fin 2048) (j : Fin 8) : okm c ri (ix2 t j) = if routeN ri t.val = 8 * c.val + j.val then 1#1 else 0#1 := by
  show IntOp.andi (k0_pay5 (F := Ideal) (BitVec.ofNat 32 c.val) ri (ix2 t j)) (Ideal.cmp .olt (before _ _ (ix2 t j)) (Ideal.ofBits .f32 0x42800000#32)) = _
  rw [pay5_apply, before_apply, word_64]
  by_cases h : routeN ri t.val = 8 * c.val + j.val
  · rw [if_pos h]
    have hp : Nat.count (fun u => routeN ri u = 8 * c.val + j.val) t.val < 64 := by
      have := place_lt hr.fits t.isLt
      unfold place at this
      rw [h] at this
      exact this
    have hd : decide (((Nat.count (fun u => routeN ri u = 8 * c.val + j.val) t.val : ℕ) : EReal) < ((64 : ℕ) : EReal)) = true := decide_eq_true ((lt_nat _ _).mpr hp)
    show IntOp.andi 1#1 (BitVec.ofBool (decide (((Nat.count (fun u => routeN ri u = 8 * c.val + j.val) t.val : ℕ) : EReal) < ((64 : ℕ) : EReal)))) = 1#1
    rw [hd]
    rfl
  · rw [if_neg h]
    exact BitVec.zero_and

/-- What is summed along a row for the slot, and whether there is a slot; the slot, as the kernel computes it. -/
def rankTerm : FVec Ideal S2048x8 .f32 :=
  select (okm c ri) (addf (mulf (sitofp (F := Ideal) .f32 (iota .tc S2048x8 32 [1] iota_S2048x8_d1_w32)) (broadcast S2048x8 (Scalar.ofBits (F := Ideal) .f32 0x42800000#32)))
      (before (k0_pay6 (F := Ideal) (BitVec.ofNat 32 c.val) ri) (count119 (k0_pay7 (F := Ideal) (BitVec.ofNat 32 c.val) ri) (k0_pay8 (F := Ideal) (BitVec.ofNat 32 c.val) ri))))
    (broadcast S2048x8 (Scalar.ofBits (F := Ideal) .f32 0x00000000#32))
def okF : FVec Ideal S2048x8 .f32 :=
  select (okm c ri) (broadcast S2048x8 (Scalar.ofBits (F := Ideal) .f32 0x3F800000#32)) (broadcast S2048x8 (Scalar.ofBits (F := Ideal) .f32 0x00000000#32))
def rankV : FVec Ideal S2048x1 .f32 :=
  addf (shapeCast S2048x1 (multiReduction .add [1] S2048 (rankTerm c ri) 0x00000000#32 reduces_S2048x8_S2048 (.inl rfl) rfl) shapeCasts_S2048_S2048x1)
    (mulf (subf (broadcast S2048x1 (Scalar.ofBits (F := Ideal) .f32 0x3F800000#32))
        (shapeCast S2048x1 (multiReduction .maximumf [1] S2048 (okF c ri) 0xFF800000#32 reduces_S2048x8_S2048 (.inl rfl) rfl) shapeCasts_S2048_S2048x1))
      (broadcast S2048x1 (Scalar.ofBits (F := Ideal) .f32 0x44000000#32)))

theorem ofNat_toInt_small : ∀ j : Fin 8, (BitVec.ofNat 32 j.val).toInt = (j.val : ℤ) := by decide

variable {ri} in
theorem rankTerm_apply (hr : Routed ri) (t : Fin 2048) (j : Fin 8) : rankTerm c ri (ix2 t j)
    = if routeN ri t.val = 8 * c.val + j.val then (((j.val * 64 + Nat.count (fun u => routeN ri u = 8 * c.val + j.val) t.val : ℕ)) : EReal) else 0 := by
  show Scalar.select (okm c ri (ix2 t j)) ((((iota .tc S2048x8 32 [1] iota_S2048x8_d1_w32 (ix2 t j)).toInt : ℝ) : EReal) * Ideal.ofBits .f32 0x42800000#32
    + before _ _ (ix2 t j)) (Ideal.ofBits .f32 0x00000000#32) = _
  rw [okm_apply c hr, select_of, before_apply, iota_single_apply, word_64, Ideal.ofBits_zero_f32]
  rw [show (ix2 t j : S2048x8.Idx) 1 = j from rfl, ofNat_toInt_small]
  rw [show (((j.val : ℤ) : ℝ) : EReal) = ((j.val : ℕ) : EReal) from rfl, mul_nat, add_nat]

variable {ri} in
theorem okF_apply (hr : Routed ri) (t : Fin 2048) (j : Fin 8) : okF c ri (ix2 t j)
    = if routeN ri t.val = 8 * c.val + j.val then ((1 : ℕ) : EReal) else ((0 : ℕ) : EReal) := by
  show Scalar.select (okm c ri (ix2 t j)) (Ideal.ofBits .f32 0x3F800000#32) (Ideal.ofBits .f32 0x00000000#32) = _
  rw [okm_apply c hr, select_of, word_one, word_zero]

variable {ri} in
theorem rankV_apply (hr : Routed ri) (t : Fin 2048) (b : Fin 1) : rankV c ri (ix2 t b) = ((slot (routeN ri) c.val t.val : ℕ) : EReal) := by
  have e1 := (col_of (b := b) _ shapeCasts_S2048_S2048x1 t).trans (row_sum (n := 2048) (k := 8) (rankTerm c ri) 0x00000000#32 reduces_S2048x8_S2048 rfl t)
  have e2 := (col_of (b := b) _ shapeCasts_S2048_S2048x1 t).trans (row_any (n := 2048) (k := 8) (okF c ri) reduces_S2048x8_S2048 rfl t
    (fun j : Fin 8 => routeN ri t.val = 8 * c.val + j.val) (by decide) (okF_apply c hr t))
  rw [Finset.sum_congr rfl (fun j _ => rankTerm_apply c hr t j)] at e1
  refine (congrArg₂ (fun u v : EReal => u + (Ideal.ofBits .f32 0x3F800000#32 - v) * Ideal.ofBits .f32 0x44000000#32) e1 e2).trans ?_
  rw [word_one, word_512]
  by_cases h : routeN ri t.val / 8 = c.val
  · rw [if_pos ⟨⟨routeN ri t.val % 8, Nat.mod_lt _ (by decide)⟩, (home_iff _ _).mpr ⟨h, rfl⟩⟩]
    rw [sum_select _ ⟨routeN ri t.val % 8, Nat.mod_lt _ (by decide)⟩ _ (fun j => ⟨fun e => ((home_iff _ _).mp e).2, fun e => (home_iff _ _).mpr ⟨h, e⟩⟩)]
    rw [sub_nat _ _ (le_refl _), mul_nat, add_nat, slot_home h]
    unfold place
    have : 8 * c.val + routeN ri t.val % 8 = routeN ri t.val := by omega
    simp only [this]
    refine congrArg (fun n : ℕ => (n : EReal)) ?_
    rw [Nat.sub_self, Nat.zero_mul, Nat.add_zero, Nat.mul_comm]
  · rw [if_neg (fun ⟨j, e⟩ => h ((home_iff _ _).mp e).1), sum_select_none _ _ (fun j e => h ((home_iff _ _).mp e).1), slot_away h]
    rw [sub_nat _ _ (Nat.zero_le _), mul_nat, zero_add]

variable {ri} in
/-- The dispatch matrix. -/
theorem dispatch_apply (hr : Routed ri) (t : Fin 2048) (s : Fin 512) :
    k0_pay10 (F := Ideal) (k0_pay9 (iota .tc S2048x8 32 [1] iota_S2048x8_d1_w32) (k0_pay5 (F := Ideal) (BitVec.ofNat 32 c.val) ri) (k0_pay6 (BitVec.ofNat 32 c.val) ri) (k0_pay7 (BitVec.ofNat 32 c.val) ri) (k0_pay8 (BitVec.ofNat 32 c.val) ri)) (ix2 t s)
      = if slot (routeN ri) c.val t.val = s.val then 1 else 0 := by
  have hs : slot (routeN ri) c.val t.val ≤ 512 := by
    by_cases h : routeN ri t.val / 8 = c.val
    · exact (slot_home_lt hr.fits t.isLt h).le
    · exact (slot_away h).le
  have e : k0_pay10 (F := Ideal) (k0_pay9 (iota .tc S2048x8 32 [1] iota_S2048x8_d1_w32) (k0_pay5 (F := Ideal) (BitVec.ofNat 32 c.val) ri) (k0_pay6 (BitVec.ofNat 32 c.val) ri) (k0_pay7 (BitVec.ofNat 32 c.val) ri) (k0_pay8 (BitVec.ofNat 32 c.val) ri))
      = truncf .bf16 (sitofp (F := Ideal) .f32 (extui 32 (cmpi .eq (broadcastTo S2048x512 (fptosi 32 (rankV c ri)) broadcasts_S2048x1_S2048x512) (iota .tc S2048x512 32 [1] iota_S2048x512_d1_w32)) natLt_1_32)) bitsLt_bf16_f32 :=
    shapeCast_self _ _
  rw [e, truncf_apply, sitofp_apply, extui_apply]
  show (FloatOps.sitofp .f32 ((IntOp.cmpi .eq (broadcastTo S2048x512 (fptosi 32 (rankV c ri)) broadcasts_S2048x1_S2048x512 (ix2 t s)) (iota .tc S2048x512 32 [1] iota_S2048x512_d1_w32 (ix2 t s))).setWidth 32) : Ideal .f32) = _
  rw [col_spread (by decide), iota_single_apply, cmpi_eq_of]
  rw [show fptosi 32 (rankV c ri) (ix2 t (0 : Fin 1)) = BitVec.ofNat 32 (slot (routeN ri) c.val t.val) from by
    show Ideal.fptosi 32 (rankV c ri (ix2 t (0 : Fin 1))) = _
    rw [rankV_apply c hr, fptosi_nat _ (by omega)]]
  have hsl : s.val < 512 := s.isLt
  rw [BitVec.toNat_ofNat, BitVec.toNat_ofNat, Nat.mod_eq_of_lt (by omega), Nat.mod_eq_of_lt (show s.val < 2 ^ 32 by omega)]
  show ((((if slot (routeN ri) c.val t.val = s.val then 1#1 else 0#1 : BitVec 1).setWidth 32).toInt : ℝ) : EReal) = _
  split <;> simp

end

end Cert.MoeRing

end
-- ==== Proof.Expert.lean ====
/-
A device's contribution to a token's row over the extended reals: the token's expert's product times the expert's
probability if the expert is there, nothing otherwise.
-/
module

public import proofs.«01_k».proof.Proof.Dispatch
public import proofs.«01_k».proof.Proof.Common

@[expose] public section

noncomputable section

namespace Cert.MoeRing

open Cert.KernelIdeal Cert.KernelIdeal.Gen

open Idealize.ShloMosaic
open Idealize.ShloMosaic.TcCoe
open Idealize.ShloMosaic.ValueIdx
open scoped BigOperators

/-- The probabilities of the experts, as the kernel computes them. -/
def probV (x : FVec Ideal S2048x1024 .bf16) (rw : FVec Ideal S1024x64 .bf16) : FVec Ideal S2048x64 .f32 :=
  divf (k0_pay1 x rw) (k0_pay2 x rw)

theorem routeN_fin {ri : IVec S2048x1 32} (hr : Routed ri) (t : Fin 2048) : routeN ri t.val < 64 := hr.lt t.val t.isLt

/-- The chosen expert's probability. -/
theorem chosen_apply (x : FVec Ideal S2048x1024 .bf16) (rw : FVec Ideal S1024x64 .bf16) {ri : IVec S2048x1 32} (hr : Routed ri) (t : Fin 2048) (b : Fin 1) :
    k0_pay4 (F := Ideal) (k0_pay1 x rw) (k0_pay2 x rw) ri (ix2 t b) = probV x rw (ix2 t ⟨routeN ri t.val, routeN_fin hr t⟩) := by
  have e : ∀ k : Fin 64, select (cmpi .eq (broadcastTo S2048x64 (k0_pay3 (F := Ideal) ri) broadcasts_S2048x1_S2048x64) (iota .tc S2048x64 32 [1] iota_S2048x64_d1_w32))
      (probV x rw) (broadcast S2048x64 (Scalar.ofBits (F := Ideal) .f32 0x00000000#32)) (ix2 t k) = if routeN ri t.val = k.val then probV x rw (ix2 t k) else 0 := by
    intro k
    show Scalar.select (IntOp.cmpi .eq (broadcastTo S2048x64 (k0_pay3 (F := Ideal) ri) broadcasts_S2048x1_S2048x64 (ix2 t k)) (iota .tc S2048x64 32 [1] iota_S2048x64_d1_w32 (ix2 t k)))
      (probV x rw (ix2 t k)) (Ideal.ofBits .f32 0x00000000#32) = _
    rw [col_spread (by decide), pay3_eq, iota_single_apply, cmpi_eq_of, select_of, ← routeN_of, Ideal.ofBits_zero_f32]
    have hk : k.val < 64 := k.isLt
    rw [BitVec.toNat_ofNat, show ((ix2 t k : S2048x64.Idx) 1) = k from rfl, Nat.mod_eq_of_lt (by omega)]
  refine (col_of (b := b) _ shapeCasts_S2048_S2048x1 t).trans ((row_sum (n := 2048) (k := 64) _ 0x00000000#32 reduces_S2048x64_S2048 rfl t).trans ?_)
  refine (Finset.sum_congr rfl fun k _ => e k).trans ?_
  exact sum_select _ ⟨routeN ri t.val, routeN_fin hr t⟩ _ fun k => ⟨fun h => Fin.ext h.symm, fun h => (congrArg Fin.val h).symm⟩

theorem word_dev : ∀ c : Dev nD, meV c = BitVec.ofNat 32 c.val := by decide +kernel

/-- Sixty-four slots' tokens through one expert's weight, times the slots' probabilities. -/
theorem expert_apply (o : ℕ) (ho : o + 64 ≤ 512) (h1 : S512x1024.Slices ![o, 0] S64x1024) (h2 : S512x1.Slices ![o, 0] S64x1)
    (coef : FVec Ideal S512x1 .f32) (xg : FVec Ideal S512x1024 .bf16) (w : FVec Ideal S1x1024x1024 .f32) (a : Fin 64) (f : Fin 1024) :
    mulf (matmul dot_S64x1024_S1024x1024_S64x1024_1_0_0_1_n_n none (extractStridedSlice S64x1024 ![o, 0] xg h1)
        (truncf .bf16 (shapeCast S1024x1024 w shapeCasts_S1x1024x1024_S1024x1024) bitsLt_bf16_f32) (constant S64x1024 .f32 0x00000000#32))
      (broadcastTo S64x1024 (extractStridedSlice S64x1 ![o, 0] coef h2) broadcasts_S64x1_S64x1024) (ix2 a f)
      = (∑ k : Fin 1024, xg (ix2 (⟨o + a.val, by omega⟩ : Fin 512) k) * w (ix3 (0 : Fin 1) k f)) * coef (ix2 (⟨o + a.val, by omega⟩ : Fin 512) (0 : Fin 1)) := by
  rw [mulf_apply]
  refine congrArg₂ (fun u v : EReal => u * v) ?_ ?_
  · refine (product_apply _ rfl none _ _ a f).trans (Finset.sum_congr rfl fun k _ => congrArg₂ (fun u v : EReal => u * v) ?_ ?_)
    · exact extractStridedSlice_apply ![o, 0] xg h1 _ _ fun x => match x with
        | ⟨0, _⟩ => rfl | ⟨1, _⟩ => (Nat.zero_add _).symm
    · rw [truncf_apply]
      refine (shapeCast_dropUnit_apply ![1024, 1024] w shapeCasts_S1x1024x1024_S1024x1024 (ix2 k f)).trans (congrArg w ?_)
      funext x
      match x with
      | ⟨0, _⟩ => rfl
      | ⟨1, _⟩ => rfl
      | ⟨2, _⟩ => rfl
  · refine (col_spread (by decide) _ broadcasts_S64x1_S64x1024 a f).trans ?_
    exact extractStridedSlice_apply ![o, 0] coef h2 _ _ fun x => match x with
        | ⟨0, _⟩ => rfl | ⟨1, _⟩ => rfl

section
variable (m : (ℓ : Loc nD τ sig) → Buf (Elt Ideal) ℓ) (c : Dev nD)

theorem wV_apply (j : Fin 8) (k f : Fin 1024) : wV m c j (ix3 (0 : Fin 1) k f) = weV m c (ix3 j k f) := by
  unfold wV
  refine congrArg (weV m c) (funext fun x => Fin.ext ?_)
  match x with
  | ⟨0, _⟩ => exact (Nat.add_zero _)
  | ⟨1, _⟩ => show 0 + 1 * k.val = k.val; omega
  | ⟨2, _⟩ => show 0 + 1 * f.val = f.val; omega

/-- The experts' outputs. -/
theorem yV_apply (j : Fin 8) (a : Fin 64) (f : Fin 1024) : yV m c j (ix2 a f)
    = (∑ k : Fin 1024, xgV m c (ix2 (⟨64 * j.val + a.val, by omega⟩ : Fin 512) k) * weV m c (ix3 j k f)) * coefV m c (ix2 (⟨64 * j.val + a.val, by omega⟩ : Fin 512) (0 : Fin 1)) := by
  rw [← Finset.sum_congr rfl (fun k _ => congrArg (fun v : EReal => xgV m c (ix2 (⟨64 * j.val + a.val, by omega⟩ : Fin 512) k) * v) (wV_apply m c j k f))]
  match j with
  | 0 => exact (congrFun (shapeCast_self _ shapeCasts_S64x1024_S64x1024) _).trans (expert_apply 0 (by decide) slices_S512x1024_o0_0_S64x1024 slices_S512x1_o0_0_S64x1 (coefV m c) (xgV m c) (wV m c 0) a f)
  | 1 => exact (congrFun (shapeCast_self _ shapeCasts_S64x1024_S64x1024) _).trans (expert_apply 64 (by decide) slices_S512x1024_o64_0_S64x1024 slices_S512x1_o64_0_S64x1 (coefV m c) (xgV m c) (wV m c 1) a f)
  | 2 => exact (congrFun (shapeCast_self _ shapeCasts_S64x1024_S64x1024) _).trans (expert_apply 128 (by decide) slices_S512x1024_o128_0_S64x1024 slices_S512x1_o128_0_S64x1 (coefV m c) (xgV m c) (wV m c 2) a f)
  | 3 => exact (congrFun (shapeCast_self _ shapeCasts_S64x1024_S64x1024) _).trans (expert_apply 192 (by decide) slices_S512x1024_o192_0_S64x1024 slices_S512x1_o192_0_S64x1 (coefV m c) (xgV m c) (wV m c 3) a f)
  | 4 => exact (congrFun (shapeCast_self _ shapeCasts_S64x1024_S64x1024) _).trans (expert_apply 256 (by decide) slices_S512x1024_o256_0_S64x1024 slices_S512x1_o256_0_S64x1 (coefV m c) (xgV m c) (wV m c 4) a f)
  | 5 => exact (congrFun (shapeCast_self _ shapeCasts_S64x1024_S64x1024) _).trans (expert_apply 320 (by decide) slices_S512x1024_o320_0_S64x1024 slices_S512x1_o320_0_S64x1 (coefV m c) (xgV m c) (wV m c 5) a f)
  | 6 => exact (congrFun (shapeCast_self _ shapeCasts_S64x1024_S64x1024) _).trans (expert_apply 384 (by decide) slices_S512x1024_o384_0_S64x1024 slices_S512x1_o384_0_S64x1 (coefV m c) (xgV m c) (wV m c 6) a f)
  | 7 => exact (congrFun (shapeCast_self _ shapeCasts_S64x1024_S64x1024) _).trans (expert_apply 448 (by decide) slices_S512x1024_o448_0_S64x1024 slices_S512x1_o448_0_S64x1 (coefV m c) (xgV m c) (wV m c 7) a f)

variable {m c} (hr : Routed (riV m c))
include hr

theorem gtV_apply (t : Fin 2048) (s : Fin 512) : gtV m c (ix2 t s) = if slot (routeN (riV m c)) c.val t.val = s.val then 1 else 0 := by
  unfold gtV
  rw [word_dev]
  exact dispatch_apply (c : Fin 8) hr t s

/-- At a token's slot stand its probability and its row. -/
theorem slot_iff {t : Fin 2048} (h : routeN (riV m c) t.val / 8 = c.val) (u : Fin 2048) :
    slot (routeN (riV m c)) c.val u.val = slot (routeN (riV m c)) c.val t.val ↔ u = t :=
  ⟨fun e => Fin.ext (slot_inj hr.fits t.isLt u.isLt h e), fun e => e ▸ rfl⟩

theorem coefV_at (t : Fin 2048) (h : routeN (riV m c) t.val / 8 = c.val) (b : Fin 1) :
    coefV m c (ix2 (⟨slot (routeN (riV m c)) c.val t.val, slot_home_lt hr.fits t.isLt h⟩ : Fin 512) b)
      = probV (xV m c) (rwV m c) (ix2 t ⟨routeN (riV m c) t.val, routeN_fin hr t⟩) := by
  refine (product_left_apply dot_S2048x512_S2048x1_S512x1_0_0_1_1_n_n_wf none (gtV m c) (truncf .bf16 (pV m c) bitsLt_bf16_f32) _ b).trans ?_
  refine (Finset.sum_congr rfl fun u _ => congrArg (fun v : EReal => v * _) (gtV_apply hr u _)).trans ?_
  refine (sum_pick _ t _ (fun u => slot_iff hr h u)).trans ?_
  exact chosen_apply (xV m c) (rwV m c) hr t b

theorem xgV_at (t : Fin 2048) (h : routeN (riV m c) t.val / 8 = c.val) (k : Fin 1024) :
    xgV m c (ix2 (⟨slot (routeN (riV m c)) c.val t.val, slot_home_lt hr.fits t.isLt h⟩ : Fin 512) k) = xV m c (ix2 t k) := by
  refine (product_left_apply dot_S2048x512_S2048x1024_S512x1024_0_0_1_1_n_n_wf none (gtV m c) (shapeCast S2048x1024 (xV m c) shapeCasts_S2048x1024_S2048x1024) _ k).trans ?_
  refine (Finset.sum_congr rfl fun u _ => congrArg (fun v : EReal => v * _) (gtV_apply hr u _)).trans ?_
  refine (sum_pick _ t _ (fun u => slot_iff hr h u)).trans ?_
  exact congrFun (shapeCast_self _ _) _

/-- What the expert makes of a token: its row times the expert's weight, times the expert's probability. -/
def made (m : (ℓ : Loc nD τ sig) → Buf (Elt Ideal) ℓ) (c : Dev nD) (hr : Routed (riV m c)) (t : Fin 2048) (f : Fin 1024) : EReal :=
  (∑ k : Fin 1024, xV m c (ix2 t k) * weV m c (ix3 (⟨routeN (riV m c) t.val % 8, Nat.mod_lt _ (by decide)⟩ : Fin 8) k f))
    * probV (xV m c) (rwV m c) (ix2 t ⟨routeN (riV m c) t.val, routeN_fin hr t⟩)

theorem ybV_at (t : Fin 2048) (h : routeN (riV m c) t.val / 8 = c.val) (f : Fin 1024) :
    ybV m c (ix2 (⟨slot (routeN (riV m c)) c.val t.val, slot_home_lt hr.fits t.isLt h⟩ : Fin 512) f) = made m c hr t f := by
  have hd := slot_home_div hr.fits t.isLt h
  have e : (⟨64 * (slot (routeN (riV m c)) c.val t.val / 64) + slot (routeN (riV m c)) c.val t.val % 64, by
      have := slot_home_lt hr.fits t.isLt h; omega⟩ : Fin 512) = ⟨slot (routeN (riV m c)) c.val t.val, slot_home_lt hr.fits t.isLt h⟩ := Fin.ext (by
    show 64 * (slot (routeN (riV m c)) c.val t.val / 64) + slot (routeN (riV m c)) c.val t.val % 64 = slot (routeN (riV m c)) c.val t.val
    omega)
  refine (yV_apply m c (⟨slot (routeN (riV m c)) c.val t.val / 64, by have := slot_home_lt hr.fits t.isLt h; omega⟩ : Fin 8)
    (⟨slot (routeN (riV m c)) c.val t.val % 64, Nat.mod_lt _ (by decide)⟩ : Fin 64) f).trans ?_
  unfold made
  rw [e, coefV_at hr t h]
  refine congrArg (fun v : EReal => v * _) (Finset.sum_congr rfl fun k _ => ?_)
  rw [xgV_at hr t h]
  refine congrArg (fun j : Fin 8 => xV m c (ix2 t k) * weV m c (ix3 j k f)) (Fin.ext hd)

/-- The device's contribution to a row block. -/
theorem partV_apply (r : Fin 8) (i : Fin 256) (f : Fin 1024) :
    partV m c r (ix2 i f) = if routeN (riV m c) (256 * r.val + i.val) / 8 = c.val then made m c hr (⟨256 * r.val + i.val, by omega⟩ : Fin 2048) f else 0 := by
  have hg : ∀ s : Fin 512, gtR m c r (ix2 i s) = if slot (routeN (riV m c)) c.val (256 * r.val + i.val) = s.val then 1 else 0 := fun s => by
    refine Eq.trans (congrArg (gtV m c) (funext fun x => Fin.ext ?_)) (gtV_apply hr (⟨256 * r.val + i.val, by omega⟩ : Fin 2048) s)
    match x with
    | ⟨0, _⟩ => show 256 * r.val + 1 * i.val = 256 * r.val + i.val; omega
    | ⟨1, _⟩ => show 0 + 1 * s.val = s.val; omega
  refine (product_apply _ rfl none (gtR m c r) (ybV m c) i f).trans ?_
  refine (Finset.sum_congr rfl fun s _ => congrArg (fun v : EReal => v * _) (hg s)).trans ?_
  by_cases h : routeN (riV m c) (256 * r.val + i.val) / 8 = c.val
  · rw [if_pos h]
    refine (sum_pick _ ⟨slot (routeN (riV m c)) c.val (256 * r.val + i.val), slot_home_lt hr.fits (t := 256 * r.val + i.val) (by omega) h⟩ _
      (fun s => ⟨fun e => Fin.ext e.symm, fun e => (congrArg Fin.val e).symm⟩)).trans ?_
    exact ybV_at hr (⟨256 * r.val + i.val, by omega⟩ : Fin 2048) h f
  · rw [if_neg h]
    refine sum_pick_none _ _ fun s e => ?_
    rw [slot_away h] at e
    have := s.isLt
    omega

end

end Cert.MoeRing

end
-- ==== Proof.Sum.lean ====
/-
The result over the extended reals: the sum of the contributions round the ring leaves, of each token, the one of the
device that has its expert, next to the shared expert's.
-/
module

public import proofs.«01_k».proof.Proof.Expert
public import proofs.«01_k».proof.Proof.Cut

@[expose] public section

noncomputable section

namespace Cert.MoeRing

open Cert.KernelIdeal Cert.KernelIdeal.Gen

open Idealize.ShloMosaic
open Idealize.ShloMosaic.TcCoe
open Idealize.ShloMosaic.ValueIdx
open scoped BigOperators

theorem add_front {α : Type} (v : S256x1024.Idx → α) (h : S256x1024.ShapeCasts S1x256x1024) (i : Fin 256) (f : Fin 1024) :
    shapeCast S1x256x1024 v h (ix3 (0 : Fin 1) i f) = v (ix2 i f) :=
  (shapeCast_addUnit_apply ![256, 1024] v h (ix3 (0 : Fin 1) i f)).trans (congrArg v (funext fun x => match x with | ⟨0, _⟩ => rfl | ⟨1, _⟩ => rfl))

theorem drop_front {α : Type} (v : S1x256x1024.Idx → α) (h : S1x256x1024.ShapeCasts S256x1024) (i : Fin 256) (f : Fin 1024) :
    shapeCast S256x1024 v h (ix2 i f) = v (ix3 (0 : Fin 1) i f) :=
  (shapeCast_dropUnit_apply ![256, 1024] v h (ix2 i f)).trans (congrArg v (funext fun x => match x with | ⟨0, _⟩ => rfl | ⟨1, _⟩ => rfl | ⟨2, _⟩ => rfl))

theorem same_block (v : FVec Ideal S256x1024 .f32) (i : Fin 256) (f : Fin 1024) :
    shapeCast S256x1024 v shapeCasts_S256x1024_S256x1024 (ix2 i f) = v (ix2 i f) := congrFun (shapeCast_self v _) _

theorem hop_apply (P : FVec Ideal S256x1024 .f32) (R : FVec Ideal S1x256x1024 .bf16) (i : Fin 256) (f : Fin 1024) :
    hop P R (ix3 (0 : Fin 1) i f) = (P (ix2 i f) + R (ix3 (0 : Fin 1) i f) : EReal) := by
  unfold hop
  exact (add_front (addf (F := Ideal) (φ := .f32) (shapeCast S256x1024 P shapeCasts_S256x1024_S256x1024) (shapeCast S256x1024 R shapeCasts_S1x256x1024_S256x1024)) shapeCasts_S256x1024_S1x256x1024 i f).trans
    (congrArg₂ (fun u v : EReal => u + v) (same_block P i f) (drop_front R shapeCasts_S1x256x1024_S256x1024 i f))

theorem first_right (P : FVec Ideal S256x1024 .f32) (i : Fin 256) (f : Fin 1024) : (k0_pay24 (F := Ideal) P (ix3 (0 : Fin 1) i f) : EReal) = P (ix2 i f) :=
  (add_front (shapeCast S256x1024 P shapeCasts_S256x1024_S256x1024) shapeCasts_S256x1024_S1x256x1024 i f).trans (same_block P i f)

theorem first_left (P : FVec Ideal S256x1024 .f32) (i : Fin 256) (f : Fin 1024) : (k0_pay27 (F := Ideal) (k0_pay26 P) (ix3 (0 : Fin 1) i f) : EReal) = P (ix2 i f) :=
  (add_front (shapeCast S256x1024 P shapeCasts_S256x1024_S256x1024) shapeCasts_S256x1024_S1x256x1024 i f).trans (same_block P i f)

theorem reach_R0 : ∀ c : Dev nD, rowR (left (left (left (left c)))) 0 = c := by decide
theorem reach_R1 : ∀ c : Dev nD, rowR (left (left (left c))) (Fin.ofNat 4 (0 + 1)) = c := by decide
theorem reach_R2 : ∀ c : Dev nD, rowR (left (left c)) (Fin.ofNat 4 (1 + 1)) = c := by decide
theorem reach_R3 : ∀ c : Dev nD, rowR (left c) (Fin.ofNat 4 (2 + 1)) = c := by decide
theorem reach_L0 : ∀ c : Dev nD, rowL (right (right (right c))) 0 = c := by decide
theorem reach_L1 : ∀ c : Dev nD, rowL (right (right c)) (Fin.ofNat 4 (0 + 1)) = c := by decide
theorem reach_L2 : ∀ c : Dev nD, rowL (right c) (Fin.ofNat 4 (1 + 1)) = c := by decide

/-- The devices round the ring from `c` are all the devices. -/
theorem round_sum (a : Fin 8 → EReal) (z : EReal) (c : Fin 8) :
    (a c + z) + (a (c - 1) + (a (c - 1 - 1) + (a (c - 1 - 1 - 1) + a (c - 1 - 1 - 1 - 1)))) + (a (c + 1) + (a (c + 1 + 1) + a (c + 1 + 1 + 1)))
      = z + ∑ d, a d := by
  rw [Fin.sum_univ_eight]
  match c with
  | 0 => show (a 0 + z) + (a 7 + (a 6 + (a 5 + a 4))) + (a 1 + (a 2 + a 3)) = _; ac_rfl
  | 1 => show (a 1 + z) + (a 0 + (a 7 + (a 6 + a 5))) + (a 2 + (a 3 + a 4)) = _; ac_rfl
  | 2 => show (a 2 + z) + (a 1 + (a 0 + (a 7 + a 6))) + (a 3 + (a 4 + a 5)) = _; ac_rfl
  | 3 => show (a 3 + z) + (a 2 + (a 1 + (a 0 + a 7))) + (a 4 + (a 5 + a 6)) = _; ac_rfl
  | 4 => show (a 4 + z) + (a 3 + (a 2 + (a 1 + a 0))) + (a 5 + (a 6 + a 7)) = _; ac_rfl
  | 5 => show (a 5 + z) + (a 4 + (a 3 + (a 2 + a 1))) + (a 6 + (a 7 + a 0)) = _; ac_rfl
  | 6 => show (a 6 + z) + (a 5 + (a 4 + (a 3 + a 2))) + (a 7 + (a 0 + a 1)) = _; ac_rfl
  | 7 => show (a 7 + z) + (a 6 + (a 5 + (a 4 + a 3))) + (a 0 + (a 1 + a 2)) = _; ac_rfl

section
variable (m : (ℓ : Loc nD τ sig) → Buf (Elt Ideal) ℓ) (c : Dev nD)

theorem sendR_apply (i : Fin 256) (f : Fin 1024) : sendR m 3 (left c) (ix3 (0 : Fin 1) i f)
    = partV m (left c) c (ix2 i f) + (partV m (left (left c)) c (ix2 i f) + (partV m (left (left (left c))) c (ix2 i f) + (partV m (left (left (left (left c)))) c (ix2 i f) : EReal))) := by
  refine (hop_apply _ _ i f).trans (congrArg₂ (fun u v : EReal => u + v) (by rw [reach_R3]) ?_)
  refine (hop_apply _ _ i f).trans (congrArg₂ (fun u v : EReal => u + v) (by rw [reach_R2]) ?_)
  refine (hop_apply _ _ i f).trans (congrArg₂ (fun u v : EReal => u + v) (by rw [reach_R1]) ?_)
  exact (first_right _ i f).trans (by rw [reach_R0])

theorem sendL_apply (i : Fin 256) (f : Fin 1024) : sendL m 2 (right c) (ix3 (0 : Fin 1) i f)
    = partV m (right c) c (ix2 i f) + (partV m (right (right c)) c (ix2 i f) + (partV m (right (right (right c))) c (ix2 i f) : EReal)) := by
  refine (hop_apply _ _ i f).trans (congrArg₂ (fun u v : EReal => u + v) (by rw [reach_L2]) ?_)
  refine (hop_apply _ _ i f).trans (congrArg₂ (fun u v : EReal => u + v) (by rw [reach_L1]) ?_)
  exact (first_left _ i f).trans (by rw [reach_L0])

/-- The shared expert's rows. -/
theorem shared_apply (P : FVec Ideal S256x1024 .f32) (i : Fin 256) (f : Fin 1024) :
    k0_pay43 P (fun i => xV m c ((rctO c).emb i)) (swV m c) (ix2 i f)
      = (P (ix2 i f) + ∑ k : Fin 1024, xV m c (ix2 (⟨256 * c.val + i.val, by have : c.val < 8 := c.isLt; omega⟩ : Fin 2048) k) * swV m c (ix2 k f) : EReal) := by
  refine congrArg (fun v : EReal => P (ix2 i f) + v) ?_
  refine (product_apply dot_S256x1024_S1024x1024_S256x1024_1_0_0_1_n_n rfl none _ _ i f).trans (Finset.sum_congr rfl fun k _ => congrArg₂ (fun u v : EReal => u * v) ?_ ?_)
  · refine (congrFun (shapeCast_self _ shapeCasts_S256x1024_S256x1024) _).trans (congrArg (xV m c) (funext fun x => Fin.ext ?_))
    match x with
    | ⟨0, _⟩ => show 256 * c.val + 1 * i.val = 256 * c.val + i.val; omega
    | ⟨1, _⟩ => show 0 + 1 * k.val = k.val; omega
  · exact congrFun (shapeCast_self _ shapeCasts_S1024x1024_S1024x1024) _

/-- A device's own row block: the shared expert's rows and everyone's contribution. -/
theorem ownV_apply (i : Fin 256) (f : Fin 1024) : ownV m c (ix2 i f)
    = ((∑ k : Fin 1024, xV m c (ix2 (⟨256 * c.val + i.val, by have : c.val < 8 := c.isLt; omega⟩ : Fin 2048) k) * swV m c (ix2 k f)) + ∑ d : Fin 8, partV m d c (ix2 i f) : EReal) := by
  refine Eq.trans ?_ (round_sum (fun d => partV m d c (ix2 i f)) _ c)
  refine congrArg₂ (fun u v : EReal => u + v) (congrArg₂ (fun u v : EReal => u + v) ?_ ?_) ?_
  · exact (same_block _ i f).trans (shared_apply m c _ i f)
  · exact (drop_front _ shapeCasts_S1x256x1024_S256x1024 i f).trans (sendR_apply m c i f)
  · exact (drop_front _ shapeCasts_S1x256x1024_S256x1024 i f).trans (sendL_apply m c i f)

/-- The rounded blocks carried round are the blocks themselves. -/
theorem rowV_apply (i : Fin 256) (f : Fin 1024) : rowV m c (ix2 i f) = ownV m c (ix2 i f) :=
  (drop_front _ shapeCasts_S1x256x1024_S256x1024 i f).trans ((add_front _ shapeCasts_S256x1024_S1x256x1024 i f).trans (same_block (ownV m c) i f))

end

/-- What the layer makes of token `t`: the shared expert's row plus its own expert's, weighted. -/
def layer (x : FVec Ideal S2048x1024 .bf16) (rw : FVec Ideal S1024x64 .bf16) (ri : IVec S2048x1 32) (sw : FVec Ideal S1024x1024 .bf16)
    (W : Fin 8 → FVec Ideal S8x1024x1024 .f32) (hr : Routed ri) (t : Fin 2048) (f : Fin 1024) : EReal :=
  (∑ k : Fin 1024, x (ix2 t k) * sw (ix2 k f))
    + (∑ k : Fin 1024, x (ix2 t k) * W (⟨routeN ri t.val / 8, by have := routeN_fin hr t; omega⟩ : Fin 8) (ix3 (⟨routeN ri t.val % 8, Nat.mod_lt _ (by decide)⟩ : Fin 8) k f))
      * probV x rw (ix2 t ⟨routeN ri t.val, routeN_fin hr t⟩)

variable {m : (ℓ : Loc nD τ sig) → Buf (Elt Ideal) ℓ}
variable {x : FVec Ideal S2048x1024 .bf16} {rw : FVec Ideal S1024x64 .bf16} {ri : IVec S2048x1 32} {sw : FVec Ideal S1024x1024 .bf16}

theorem partV_all (hx : ∀ d, xV m d = x) (hw : ∀ d, rwV m d = rw) (hi : ∀ d, riV m d = ri) (hr : Routed ri) (d : Dev nD) (r : Fin 8) (i : Fin 256) (f : Fin 1024) :
    partV m d r (ix2 i f) = if routeN ri (256 * r.val + i.val) / 8 = d.val then
      (∑ k : Fin 1024, x (ix2 (⟨256 * r.val + i.val, by omega⟩ : Fin 2048) k) * weV m d (ix3 (⟨routeN ri (256 * r.val + i.val) % 8, Nat.mod_lt _ (by decide)⟩ : Fin 8) k f))
        * probV x rw (ix2 (⟨256 * r.val + i.val, by omega⟩ : Fin 2048) ⟨routeN ri (256 * r.val + i.val), routeN_fin hr ⟨256 * r.val + i.val, by omega⟩⟩) else 0 := by
  obtain rfl := hx d
  obtain rfl := hw d
  obtain rfl := hi d
  exact partV_apply hr r i f

theorem ownV_all (hx : ∀ d, xV m d = x) (hw : ∀ d, rwV m d = rw) (hi : ∀ d, riV m d = ri) (hs : ∀ d, swV m d = sw) (hr : Routed ri) (c : Fin 8) (i : Fin 256) (f : Fin 1024) :
    ownV m c (ix2 i f) = layer x rw ri sw (fun d => weV m d) hr (⟨256 * c.val + i.val, by omega⟩ : Fin 2048) f := by
  refine (ownV_apply m c i f).trans ?_
  rw [hx, hs]
  refine congrArg (fun v : EReal => (∑ k : Fin 1024, x (ix2 (⟨256 * c.val + i.val, by omega⟩ : Fin 2048) k) * sw (ix2 k f)) + v) ?_
  refine (Finset.sum_congr rfl fun d _ => partV_all hx hw hi hr d c i f).trans ?_
  exact sum_select (fun d : Fin 8 => (∑ k : Fin 1024, x (ix2 (⟨256 * c.val + i.val, by omega⟩ : Fin 2048) k) * weV m d (ix3 (⟨routeN ri (256 * c.val + i.val) % 8, Nat.mod_lt _ (by decide)⟩ : Fin 8) k f))
        * probV x rw (ix2 (⟨256 * c.val + i.val, by omega⟩ : Fin 2048) ⟨routeN ri (256 * c.val + i.val), routeN_fin hr ⟨256 * c.val + i.val, by omega⟩⟩))
    (⟨routeN ri (256 * c.val + i.val) / 8, by have := hr.lt (256 * c.val + i.val) (by omega); omega⟩ : Fin 8) _ fun d => ⟨fun e => Fin.ext e.symm, fun e => (congrArg Fin.val e).symm⟩

/-- The kernel's result, on every device. -/
theorem outV_all (hx : ∀ d, xV m d = x) (hw : ∀ d, rwV m d = rw) (hi : ∀ d, riV m d = ri) (hs : ∀ d, swV m d = sw) (hr : Routed ri) (c : Dev nD) (t : Fin 2048) (f : Fin 1024) :
    outV c m (ix2 t f) = layer x rw ri sw (fun d => weV m d) hr t f := by
  have ht : (⟨256 * (t.val / 256) + t.val % 256, by omega⟩ : Fin 2048) = t := Fin.ext (by show 256 * (t.val / 256) + t.val % 256 = t.val; omega)
  have hb : ∀ r : Fin 8, (if r = c then ownV m c else rowV m r) (ix2 (⟨t.val % 256, Nat.mod_lt _ (by decide)⟩ : Fin 256) f) = ownV m r (ix2 (⟨t.val % 256, Nat.mod_lt _ (by decide)⟩ : Fin 256) f) := fun r => by
    by_cases h : r = c
    · rw [if_pos h, h]
    · rw [if_neg h]; exact rowV_apply m r _ f
  refine (hb (⟨t.val / 256, by omega⟩ : Fin 8)).trans ((ownV_all hx hw hi hs hr _ _ f).trans ?_)
  exact congrArg (fun u => layer x rw ri sw (fun d => weV m d) hr u f) ht

end Cert.MoeRing

end
-- ==== Proof.Gather.lean ====
/-
The host's gathers, products and row broadcasts of the reference, read at an index.
-/
module

public import proofs.«01_k».proof.Proof.At
public import Idealize.ShloMosaic.Lib.StackMember
public import Idealize.ShloMosaic.Lib.IdealHost

@[expose] public section

noncomputable section

namespace Cert.MoeRing

open Idealize.ShloMosaic
open Idealize.ShloMosaic.ValueIdx
open scoped BigOperators

section Gathers
variable {α : Type} {N K P Q : ℕ}

/-- The dimension numbers of taking one entry of each row. -/
abbrev entryDims (N K : ℕ) (w : GatherDims.WF ⟨2, ![N, K]⟩ ⟨3, ![N, 1, 1]⟩ ⟨2, ![N, 1]⟩ [] [1] [0] [1] [0] 2 ![1, 1]) :
    GatherDims ⟨2, ![N, K]⟩ ⟨3, ![N, 1, 1]⟩ ⟨2, ![N, 1]⟩ := ⟨[], [1], [0], [0], [1], 2, ![1, 1], w⟩

/-- The dimension numbers of taking one matrix of a stack for each row. -/
abbrev matrixDims (N K P Q : ℕ) (w : GatherDims.WF ⟨3, ![K, P, Q]⟩ ⟨2, ![N, 1]⟩ ⟨3, ![N, P, Q]⟩ [1, 2] [0] [] [0] [] 1 ![1, P, Q]) :
    GatherDims ⟨3, ![K, P, Q]⟩ ⟨2, ![N, 1]⟩ ⟨3, ![N, P, Q]⟩ := ⟨[1, 2], [0], [], [], [0], 1, ![1, P, Q], w⟩

/-- One entry of each row, the index given row by row. -/
theorem gather_entry (hK : 0 < K) (w : GatherDims.WF ⟨2, ![N, K]⟩ ⟨3, ![N, 1, 1]⟩ ⟨2, ![N, 1]⟩ [] [1] [0] [1] [0] 2 ![1, 1])
    (v : (⟨2, ![N, K]⟩ : Shape).Idx → α) (idx : IVec ⟨3, ![N, 1, 1]⟩ 32) (a : Fin N) :
    Host.gather (entryDims N K w) v idx (ix2 a (0 : Fin 1)) = v (ix2 a (⟨min (idx (ix3 a (0 : Fin 1) (0 : Fin 1))).toInt.toNat (K - 1), by omega⟩ : Fin K)) := by
  have h0 : (entryDims N K w).start (ix2 a (0 : Fin 1)) idx 0 + (entryDims N K w).batchCoord (ix2 a (0 : Fin 1)) 0 + (entryDims N K w).offCoord (ix2 a (0 : Fin 1)) 0 = a.val := by
    rw [GatherDims.start_batching _ _ _ _ (List.mem_singleton.mpr rfl),
      GatherDims.offCoord_eq_zero _ _ _ (fun h => ((GatherDims.mem_sKept _ _).mp h).2 (List.mem_singleton.mpr rfl)), Nat.zero_add, Nat.add_zero]
    exact dif_pos (show (0 : Fin 2) ∈ (entryDims N K w).operandBatchingDims from List.mem_singleton.mpr rfl)
  have h1 : (entryDims N K w).start (ix2 a (0 : Fin 1)) idx 1 + (entryDims N K w).batchCoord (ix2 a (0 : Fin 1)) 1 + (entryDims N K w).offCoord (ix2 a (0 : Fin 1)) 1
      = min (idx (ix3 a (0 : Fin 1) (0 : Fin 1))).toInt.toNat (K - 1) := by
    rw [GatherDims.batchCoord_eq_zero _ _ _ (show (1 : Fin 2) ∉ (entryDims N K w).operandBatchingDims by simp),
      GatherDims.offCoord_eq_zero _ _ _ (fun h => ((GatherDims.mem_sKept _ _).mp h).1 (List.mem_singleton.mpr rfl)), Nat.add_zero]
    refine (dif_pos (show (1 : Fin 2) ∈ (entryDims N K w).startIndexMap from List.mem_singleton.mpr rfl)).trans ?_
    refine congrArg (fun j => min (idx j).toInt.toNat (K - 1)) (funext fun b => Fin.ext ?_)
    match b with
    | ⟨0, _⟩ => rfl
    | ⟨1, _⟩ => rfl
    | ⟨2, _⟩ => rfl
  unfold Host.gather
  refine congrArg v (funext fun x => Fin.ext ?_)
  match x with
  | ⟨0, _⟩ => exact h0
  | ⟨1, _⟩ => exact h1

/-- One matrix of a stack for each row. -/
theorem gather_matrix (hK : 0 < K) (w : GatherDims.WF ⟨3, ![K, P, Q]⟩ ⟨2, ![N, 1]⟩ ⟨3, ![N, P, Q]⟩ [1, 2] [0] [] [0] [] 1 ![1, P, Q])
    (v : (⟨3, ![K, P, Q]⟩ : Shape).Idx → α) (idx : IVec ⟨2, ![N, 1]⟩ 32) (a : Fin N) (p : Fin P) (q : Fin Q) :
    Host.gather (matrixDims N K P Q w) v idx (ix3 a p q) = v (ix3 (⟨min (idx (ix2 a (0 : Fin 1))).toInt.toNat (K - 1), by omega⟩ : Fin K) p q) := by
  have h0 : (matrixDims N K P Q w).start (ix3 a p q) idx 0 + (matrixDims N K P Q w).batchCoord (ix3 a p q) 0 + (matrixDims N K P Q w).offCoord (ix3 a p q) 0
      = min (idx (ix2 a (0 : Fin 1))).toInt.toNat (K - 1) := by
    rw [GatherDims.batchCoord_eq_zero _ _ _ List.not_mem_nil,
      GatherDims.offCoord_eq_zero _ _ _ (fun h => ((GatherDims.mem_sKept _ _).mp h).1 (List.mem_singleton.mpr rfl)), Nat.add_zero]
    refine (dif_pos (show (0 : Fin 3) ∈ (matrixDims N K P Q w).startIndexMap from List.mem_singleton.mpr rfl)).trans ?_
    refine congrArg (fun j => min (idx j).toInt.toNat (K - 1)) (funext fun b => Fin.ext ?_)
    match b with
    | ⟨0, _⟩ => rfl
    | ⟨1, _⟩ => rfl
  have h1 : (matrixDims N K P Q w).start (ix3 a p q) idx 1 + (matrixDims N K P Q w).batchCoord (ix3 a p q) 1 + (matrixDims N K P Q w).offCoord (ix3 a p q) 1 = p.val := by
    rw [GatherDims.batchCoord_eq_zero _ _ _ List.not_mem_nil, show (matrixDims N K P Q w).start (ix3 a p q) idx 1 = 0 from
      dif_neg (show (1 : Fin 3) ∉ (matrixDims N K P Q w).startIndexMap by simp), Nat.zero_add]
    exact dif_pos (show (1 : Fin 3) ∈ (matrixDims N K P Q w).sKept from (GatherDims.mem_sKept _ _).mpr ⟨by simp, List.not_mem_nil⟩)
  have h2 : (matrixDims N K P Q w).start (ix3 a p q) idx 2 + (matrixDims N K P Q w).batchCoord (ix3 a p q) 2 + (matrixDims N K P Q w).offCoord (ix3 a p q) 2 = q.val := by
    rw [GatherDims.batchCoord_eq_zero _ _ _ List.not_mem_nil, show (matrixDims N K P Q w).start (ix3 a p q) idx 2 = 0 from
      dif_neg (show (2 : Fin 3) ∉ (matrixDims N K P Q w).startIndexMap by simp), Nat.zero_add]
    exact dif_pos (show (2 : Fin 3) ∈ (matrixDims N K P Q w).sKept from (GatherDims.mem_sKept _ _).mpr ⟨by simp, List.not_mem_nil⟩)
  unfold Host.gather
  refine congrArg v (funext fun x => Fin.ext ?_)
  match x with
  | ⟨0, _⟩ => exact h0
  | ⟨1, _⟩ => exact h1
  | ⟨2, _⟩ => exact h2

/-- The host's spread of a row's value over the row is the vector unit's. -/
theorem spread_host (hN : N ≠ 1) (v : (⟨1, ![N]⟩ : Shape).Idx → α)
    (h1 : (⟨2, ![N, 1]⟩ : Shape).BroadcastsInDim ⟨2, ![N, K]⟩ ![0, 1]) (h2 : (⟨1, ![N]⟩ : Shape).BroadcastsInDim ⟨2, ![N, 1]⟩ ![0])
    (h3 : (⟨2, ![N, 1]⟩ : Shape).Broadcasts ⟨2, ![N, K]⟩) (h4 : (⟨1, ![N]⟩ : Shape).ShapeCasts ⟨2, ![N, 1]⟩) :
    broadcastInDim ⟨2, ![N, K]⟩ ![0, 1] h1 (broadcastInDim ⟨2, ![N, 1]⟩ ![0] h2 v) = broadcastTo ⟨2, ![N, K]⟩ (shapeCast ⟨2, ![N, 1]⟩ v h4) h3 := by
  funext i
  obtain ⟨a, b, rfl⟩ : ∃ (a : Fin N) (b : Fin K), i = ix2 a b := ⟨i 0, i 1, eq_ix2 i⟩
  rw [col_spread hN, col_of]
  refine (broadcastInDim_apply _ h1 _ (ix2 a b) (ix2 a (0 : Fin 1)) fun x => ?_).trans (broadcastInDim_apply _ h2 v (ix2 a (0 : Fin 1)) (ix1 a) fun x => ?_)
  · match x with
    | ⟨0, _⟩ => exact (if_neg hN).symm
    | ⟨1, _⟩ => rfl
  · match x with
    | ⟨0, _⟩ => exact (if_neg hN).symm

end Gathers

section Products
variable {M K N : ℕ} {φ₁ φ₂ : FTy}

/-- The host's product, at an index. -/
theorem host_product_apply (d : DotDims ⟨2, ![M, K]⟩ ⟨2, ![K, N]⟩ ⟨2, ![M, N]⟩) (hd : d = DotDims.plain M K N) (prec : Option ContractPrecision)
    (l : FVec Ideal ⟨2, ![M, K]⟩ φ₁) (r : FVec Ideal ⟨2, ![K, N]⟩ φ₂) (a : Fin M) (b : Fin N) :
    Host.dotGeneral d prec l r (ix2 a b) = ∑ k : Fin K, l (ix2 a k) * r (ix2 k b) := by
  subst hd
  exact StackMember.dotGeneral_plain_apply prec l r a b

/-- The host's product of each row by its own matrix, at an index. -/
theorem host_rows_apply (w : DotDims.WF ⟨2, ![M, K]⟩ ⟨3, ![M, K, N]⟩ ⟨2, ![M, N]⟩ [1] [1] [] [2] [0] [0]) (prec : Option ContractPrecision)
    (l : FVec Ideal ⟨2, ![M, K]⟩ φ₁) (r : FVec Ideal ⟨3, ![M, K, N]⟩ φ₂) (a : Fin M) (b : Fin N) :
    Host.dotGeneral (⟨[1], [1], [], [2], [0], [0], w⟩ : DotDims ⟨2, ![M, K]⟩ ⟨3, ![M, K, N]⟩ ⟨2, ![M, N]⟩) prec l r (ix2 a b) = ∑ k : Fin K, l (ix2 a k) * r (ix3 a k b) := by
  show FloatOps.dotGeneral _ prec _ l r (ix2 a b) = _
  rw [Ideal.dotGeneral_apply, ← Equiv.sum_comp (contrEquiv1 (⟨[1], [1], [], [2], [0], [0], w⟩ : DotDims ⟨2, ![M, K]⟩ ⟨3, ![M, K, N]⟩ ⟨2, ![M, N]⟩) K rfl rfl).symm]
  refine Finset.sum_congr rfl fun k _ => ?_
  have hk := contrEquiv1_symm_val (⟨[1], [1], [], [2], [0], [0], w⟩ : DotDims ⟨2, ![M, K]⟩ ⟨3, ![M, K, N]⟩ ⟨2, ![M, N]⟩) K rfl rfl k
  refine congrArg₂ (fun u v : EReal => u * v) (congrArg l (funext fun x => Fin.ext ?_)) (congrArg r (funext fun x => Fin.ext ?_))
  · match x with
    | ⟨0, _⟩ => simp [DotDims.lhsIdx]; rfl
    | ⟨1, _⟩ => simp [DotDims.lhsIdx]; exact hk
  · match x with
    | ⟨0, _⟩ => simp [DotDims.rhsIdx]; rfl
    | ⟨1, _⟩ => simp [DotDims.rhsIdx]; exact hk
    | ⟨2, _⟩ => simp [DotDims.rhsIdx]; rfl

end Products

end Cert.MoeRing

end
-- ==== Proof.RefValue.lean ====
/-
The reference's result over the extended reals is the layer's.
-/
module

public import proofs.«01_k».proof.Proof.Sum
public import proofs.«01_k».proof.Proof.Gather
public import proofs.«01_k».proof.Proof.Gen.ReferenceIdeal
public import proofs.«01_k».proof.Proof.Gen.ReferenceIdeal.Run

@[expose] public section

noncomputable section

namespace Cert.MoeRing

open Idealize.ShloMosaic
open Idealize.ShloMosaic.ValueIdx
open scoped BigOperators
open Cert.ReferenceIdeal (S2048x1024 S1024x64 S2048x1 S64x1024x1024 S1024x1024 S2048x64 S_ S2048 S2048x1x1 S2048x1024x1024)
open Cert.ReferenceIdeal.Facts₀

variable (x : FVec Ideal S2048x1024 .bf16) (rw : FVec Ideal S1024x64 .bf16) (ri : IVec S2048x1 32) (W : FVec Ideal S64x1024x1024 .f32) (sw : FVec Ideal S1024x1024 .bf16)

/-- The reference's scores, its exponentials and its probabilities. -/
def refS : FVec Ideal S2048x64 .f32 :=
  Host.dotGeneral Cert.ReferenceIdeal.dot_S2048x1024_S1024x64_S2048x64_1_0_0_1_n_n none (extf .f32 x bitsLt_bf16_f32) (extf .f32 rw bitsLt_bf16_f32)
def refE : FVec Ideal S2048x64 .f32 :=
  Host.exp (subf (refS x rw) (broadcastInDim S2048x64 ![0, 1] bcast_S2048x1_S2048x64_0_1 (broadcastInDim S2048x1 ![0] bcast_S2048_S2048x1_0
    (Host.reduce FloatOps.maximumf (refS x rw) (constant S_ .f32 0xFF800000#32) reducesTo_S2048x64_S2048_d1 h_S_))))
def refP : FVec Ideal S2048x64 .f32 :=
  Host.divf (refE x rw) (broadcastInDim S2048x64 ![0, 1] bcast_S2048x1_S2048x64_0_1 (broadcastInDim S2048x1 ![0] bcast_S2048_S2048x1_0
    (Host.reduceAdd (refE x rw) (constant S_ .f32 0x00000000#32) reducesTo_S2048x64_S2048_d1 h_S_)))

theorem refS_eq : refS x rw = matmul Cert.KernelIdeal.dot_S2048x1024_S1024x64_S2048x64_1_0_0_1_n_n none
    (shapeCast S2048x1024 x Cert.KernelIdeal.Facts₀.shapeCasts_S2048x1024_S2048x1024) (shapeCast S1024x64 rw Cert.KernelIdeal.Facts₀.shapeCasts_S1024x64_S1024x64)
    (constant S2048x64 .f32 0x00000000#32) := by
  funext i
  obtain ⟨a, b, rfl⟩ : ∃ (a : Fin 2048) (b : Fin 64), i = ix2 a b := ⟨i 0, i 1, eq_ix2 i⟩
  refine (host_product_apply _ rfl none _ _ a b).trans (Eq.trans ?_ (product_apply _ rfl none _ _ a b).symm)
  rw [shapeCast_self, shapeCast_self]
  rfl

theorem refE_eq : refE x rw = Cert.KernelIdeal.Gen.k0_pay1 x rw := by
  unfold refE
  rw [spread_host (N := 2048) (K := 64) (by decide) _ _ _ Cert.KernelIdeal.Facts₀.broadcasts_S2048x1_S2048x64 Cert.KernelIdeal.Facts₀.shapeCasts_S2048_S2048x1,
    hostReduce_maximumf_eq_multiReduction (refS x rw) 0xFF800000#32 reducesTo_S2048x64_S2048_d1 h_S_ Cert.KernelIdeal.Facts₀.reduces_S2048x64_S2048 (.inl rfl) rfl,
    refS_eq]
  rfl

theorem refP_eq : refP x rw = probV x rw := by
  unfold refP
  rw [spread_host (N := 2048) (K := 64) (by decide) _ _ _ Cert.KernelIdeal.Facts₀.broadcasts_S2048x1_S2048x64 Cert.KernelIdeal.Facts₀.shapeCasts_S2048_S2048x1,
    ← multiReduction_add_eq_hostReduceAdd (refE x rw) 0x00000000#32 Cert.KernelIdeal.Facts₀.reduces_S2048x64_S2048 (.inl rfl) rfl (constant S_ .f32 0x00000000#32)
      reducesTo_S2048x64_S2048_d1 h_S_ Ideal.ofBits_zero_f32, refE_eq]
  rfl

/-- The reference's indices into a row of probabilities and into the experts' weights. -/
def refI : IVec S2048x1x1 32 :=
  shapeCast S2048x1x1 (select (cmpi .slt ri (broadcastInDim S2048x1 ![] bcast_S_S2048x1 (constantI S_ 32 0#32)))
    (addi ri (broadcastInDim S2048x1 ![] bcast_S_S2048x1 (constantI S_ 32 64#32))) ri) shapeCasts_S2048x1_S2048x1x1
def refJ : IVec S2048x1 32 := broadcastInDim S2048x1 ![0] bcast_S2048_S2048x1_0 (shapeCast S2048 ri shapeCasts_S2048x1_S2048)

theorem route_word {v : BitVec 32} (h : v.toNat < 64) : v.toInt = v.toNat := by
  rw [BitVec.toInt_eq_toNat_of_lt (by omega)]

variable {ri} (hr : Routed ri)
include hr

theorem route_lt (t : Fin 2048) : (ri (ix2 t (0 : Fin 1))).toNat < 64 := by
  rw [← routeN_of]; exact routeN_fin hr t

theorem refI_at (t : Fin 2048) : refI ri (ix3 t (0 : Fin 1) (0 : Fin 1)) = ri (ix2 t (0 : Fin 1)) := by
  unfold refI
  refine (shapeCast_apply _ shapeCasts_S2048x1_S2048x1x1 (ix3 t (0 : Fin 1) (0 : Fin 1)) (ix2 t (0 : Fin 1)) (by
    rw [Shape.rowMajor_val_two, Shape.rowMajor_val_three]; show t.val * 1 + 0 = (t.val * 1 + 0) * 1 + 0; omega)).trans ?_
  show Scalar.select (IntOp.cmpi .slt (ri (ix2 t (0 : Fin 1))) 0#32) _ _ = _
  have h := route_word (route_lt hr t)
  have h0 : IntOp.cmpi .slt (ri (ix2 t (0 : Fin 1))) 0#32 = 0#1 := by
    show BitVec.ofBool ((ri (ix2 t (0 : Fin 1))).slt 0#32) = 0#1
    have : (ri (ix2 t (0 : Fin 1))).slt 0#32 = false := by
      rw [BitVec.slt, h]; simp
    rw [this]; rfl
  rw [h0]
  rfl

theorem refJ_at (t : Fin 2048) : refJ ri (ix2 t (0 : Fin 1)) = ri (ix2 t (0 : Fin 1)) := by
  unfold refJ
  refine (broadcastInDim_apply _ bcast_S2048_S2048x1_0 _ (ix2 t (0 : Fin 1)) (ix1 t) fun a => ?_).trans ?_
  · match a with
    | ⟨0, _⟩ => exact (if_neg (show ¬(2048 : ℕ) = 1 by decide)).symm
  · exact shapeCast_apply _ shapeCasts_S2048x1_S2048 (ix1 t) (ix2 t (0 : Fin 1)) (by
      rw [Shape.rowMajor_val_two, Shape.rowMajor_val_one]; show t.val * 1 + 0 = t.val; omega)

theorem clamp_route (t : Fin 2048) : min (ri (ix2 t (0 : Fin 1))).toInt.toNat (64 - 1) = routeN ri t.val := by
  rw [route_word (route_lt hr t), Int.toNat_natCast, ← routeN_of]
  have := routeN_fin hr t
  omega

omit hr in
/-- The reference's result. -/
def refV (x : FVec Ideal S2048x1024 .bf16) (rw : FVec Ideal S1024x64 .bf16) (ri : IVec S2048x1 32) (W : FVec Ideal S64x1024x1024 .f32) (sw : FVec Ideal S1024x1024 .bf16) : FVec Ideal S2048x1024 .f32 :=
  addf (Host.dotGeneral Cert.ReferenceIdeal.dot_S2048x1024_S1024x1024_S2048x1024_1_0_0_1_n_n none (extf .f32 x bitsLt_bf16_f32) (extf .f32 sw bitsLt_bf16_f32))
    (mulf (broadcastInDim S2048x1024 ![0, 1] bcast_S2048x1_S2048x1024_0_1 (Host.gather Cert.ReferenceIdeal.gather_S2048x64_S2048x1x1_S2048x1_n_1_0_0_1_2_11 (refP x rw) (refI ri)))
      (Host.dotGeneral Cert.ReferenceIdeal.dot_S2048x1024_S2048x1024x1024_S2048x1024_1_1_n_2_0_0 none (extf .f32 x bitsLt_bf16_f32)
        (Host.gather Cert.ReferenceIdeal.gather_S64x1024x1024_S2048x1_S2048x1024x1024_12_0_n_n_0_1_110241024 W (refJ ri))))

theorem refV_apply (t : Fin 2048) (f : Fin 1024) : refV x rw ri W sw (ix2 t f)
    = ((∑ k : Fin 1024, x (ix2 t k) * sw (ix2 k f))
      + probV x rw (ix2 t ⟨routeN ri t.val, routeN_fin hr t⟩) * ∑ k : Fin 1024, x (ix2 t k) * W (ix3 (⟨routeN ri t.val, routeN_fin hr t⟩ : Fin 64) k f) : EReal) := by
  unfold refV
  rw [addf_apply, mulf_apply]
  refine congrArg₂ (fun u v : EReal => u + v) ?_ (congrArg₂ (fun u v : EReal => u * v) ?_ ?_)
  · exact host_product_apply _ rfl none _ _ t f
  · refine (broadcastInDim_apply _ bcast_S2048x1_S2048x1024_0_1 _ (ix2 t f) (ix2 t (0 : Fin 1)) fun a => ?_).trans ?_
    · match a with
      | ⟨0, _⟩ => exact (if_neg (show ¬(2048 : ℕ) = 1 by decide)).symm
      | ⟨1, _⟩ => rfl
    · refine (gather_entry (N := 2048) (K := 64) (by decide) gather_S2048x64_S2048x1x1_S2048x1_n_1_0_0_1_2_11_wf (refP x rw) (refI ri) t).trans ?_
      rw [refP_eq]
      refine congrArg (fun e : Fin 64 => probV x rw (ix2 t e)) (Fin.ext ?_)
      show min (refI ri (ix3 t (0 : Fin 1) (0 : Fin 1))).toInt.toNat (64 - 1) = _
      rw [refI_at hr]
      exact clamp_route hr t
  · refine (host_rows_apply (M := 2048) (K := 1024) (N := 1024) dot_S2048x1024_S2048x1024x1024_S2048x1024_1_1_n_2_0_0_wf none _ _ t f).trans ?_
    refine Finset.sum_congr rfl fun k _ => congrArg (fun v : EReal => x (ix2 t k) * v) ?_
    refine (gather_matrix (N := 2048) (K := 64) (by decide) gather_S64x1024x1024_S2048x1_S2048x1024x1024_12_0_n_n_0_1_110241024_wf W (refJ ri) t k f).trans ?_
    refine congrArg (fun e : Fin 64 => W (ix3 e k f)) (Fin.ext ?_)
    show min (refJ ri (ix2 t (0 : Fin 1))).toInt.toNat (64 - 1) = _
    rw [refJ_at hr]
    exact clamp_route hr t

end Cert.MoeRing

end
-- ==== Proof.Pre.lean ====
/-
The precondition says what it is for: every route names an expert, and every expert has slots for its tokens.
-/
module

public import proofs.«01_k».proof.Proof.Dispatch
public import proofs.«01_k».proof.Defs
public import Idealize.ShloMosaic.Lib.IdealHost

@[expose] public section

noncomputable section

namespace Cert.MoeRing

open Idealize.ShloMosaic
open Idealize.ShloMosaic.ValueIdx
open scoped BigOperators

instance preFacts : Cert.Pre_routed_and_fits_KernelIdeal.Facts where
  bcast_S2048x1_S2048x64_0_1 := by decide
  bcast_S_S2048x64 := by decide
  reducesTo_S2048x64_S64_d0 := by decide
  h_S_ := by decide
  bcast_S_S2048x1 := by decide
  bcast_S_S64 := by decide

instance preFactsReference : Cert.Pre_routed_and_fits_ReferenceIdeal.Facts where
  bcast_S2048x1_S2048x64_0_1 := by decide
  bcast_S_S2048x64 := by decide
  reducesTo_S2048x64_S64_d0 := by decide
  h_S_ := by decide
  bcast_S_S2048x1 := by decide
  bcast_S_S64 := by decide

open Cert.Pre_routed_and_fits_KernelIdeal (S2048x1024 S1024x64 S2048x1 S8x1024x1024 S1024x1024 S2048x64 S_ S64 fn)
open Cert.Pre_routed_and_fits_KernelIdeal.Facts

theorem both_one : ∀ a b : BitVec 1, IntOp.andi a b = 1#1 → a = 1#1 ∧ b = 1#1 := by decide
theorem of_bool_one : ∀ b : Bool, BitVec.ofBool b = 1#1 → b = true := by decide

theorem word_route (v : BitVec 32) (h : IntOp.andi (IntOp.cmpi .sge v 0#32) (IntOp.cmpi .slt v 64#32) = 1#1) : v.toNat < 64 := by
  obtain ⟨h0, h1⟩ := both_one _ _ h
  have g0 : (0#32).sle v = true := of_bool_one _ h0
  have g1 : v.slt 64#32 = true := of_bool_one _ h1
  have e0 : (0#32 : BitVec 32).toInt ≤ v.toInt := BitVec.sle_iff_toInt_le.mp g0
  have e1 : v.toInt < (64#32 : BitVec 32).toInt := BitVec.slt_iff_toInt_lt.mp g1
  have z0 : (0#32 : BitVec 32).toInt = 0 := by decide
  have z1 : (64#32 : BitVec 32).toInt = 64 := by decide
  have hv := v.isLt
  have e := BitVec.toInt_eq_toNat_cond v
  split at e <;> omega

theorem reduces_rows : S2048x64.Reduces [0] S64 := by decide

theorem lift_col (a : Fin 64) (b : Fin 2048) : reduces_rows.lift (ix1 a) b = ix2 b a := by
  funext x
  match x with
  | ⟨0, _⟩ => rfl
  | ⟨1, _⟩ => rfl

section
variable (x : FVec Ideal S2048x1024 .bf16) (rw : FVec Ideal S1024x64 .bf16) (ri : IVec S2048x1 32) (we : FVec Ideal S8x1024x1024 .f32) (sw : FVec Ideal S1024x1024 .bf16)

/-- The tokens marked for each expert. -/
def markV : FVec Ideal S2048x64 .f32 :=
  select (cmpi .eq (broadcastInDim S2048x64 ![0, 1] bcast_S2048x1_S2048x64_0_1 ri) (iotaInDim S2048x64 32 1))
    (broadcastInDim S2048x64 ![] bcast_S_S2048x64 (constant S_ .f32 0x3F800000#32)) (broadcastInDim S2048x64 ![] bcast_S_S2048x64 (constant S_ .f32 0x00000000#32))

theorem markV_apply (t : Fin 2048) (e : Fin 64) : markV ri (ix2 t e) = if routeN ri t.val = e.val then (1 : EReal) else 0 := by
  have hb : broadcastInDim S2048x64 ![0, 1] bcast_S2048x1_S2048x64_0_1 ri (ix2 t e) = ri (ix2 t (0 : Fin 1)) :=
    broadcastInDim_apply _ bcast_S2048x1_S2048x64_0_1 ri (ix2 t e) (ix2 t (0 : Fin 1)) fun a => match a with
      | ⟨0, _⟩ => (if_neg (show ¬(2048 : ℕ) = 1 by decide)).symm
      | ⟨1, _⟩ => rfl
  show Scalar.select (IntOp.cmpi .eq (broadcastInDim S2048x64 ![0, 1] bcast_S2048x1_S2048x64_0_1 ri (ix2 t e)) (BitVec.ofNat 32 e.val))
    (Ideal.ofBits .f32 0x3F800000#32) (Ideal.ofBits .f32 0x00000000#32) = _
  have he := e.isLt
  rw [hb, cmpi_eq_of, select_of, ← routeN_of, BitVec.toNat_ofNat, Nat.mod_eq_of_lt (by omega), word_one, word_zero]
  simp

theorem routed_of (h1 : (fn (F := Ideal) x rw ri we sw).1 = fun _ => 1#1) (h2 : (fn (F := Ideal) x rw ri we sw).2 = fun _ => 1#1) : Routed ri := by
  have lt : ∀ t < 2048, routeN ri t < 64 := fun t ht => by
    rw [show t = (⟨t, ht⟩ : Fin 2048).val from rfl, routeN_of]
    exact word_route _ (congrFun h1 (ix2 (⟨t, ht⟩ : Fin 2048) (0 : Fin 1)))
  refine ⟨lt, fun t ht => ?_⟩
  have h := congrFun h2 (ix1 (⟨routeN ri t, lt t ht⟩ : Fin 64))
  have hc : Ideal.cmp .ole (Host.reduceAdd (markV ri) (constant S_ .f32 0x00000000#32) reducesTo_S2048x64_S64_d0 h_S_ (ix1 (⟨routeN ri t, lt t ht⟩ : Fin 64))) (Ideal.ofBits .f32 0x42800000#32) = 1#1 := h
  have hs : Host.reduceAdd (markV ri) (constant S_ .f32 0x00000000#32) reducesTo_S2048x64_S64_d0 h_S_ (ix1 (⟨routeN ri t, lt t ht⟩ : Fin 64))
      = ((Nat.count (fun u => routeN ri u = routeN ri t) 2048 : ℕ) : EReal) := by
    rw [hostReduceAdd_apply, Ideal.hostReduceAdd_single reducesTo_S2048x64_S64_d0 reduces_rows]
    rw [show (constant (F := Ideal) S_ .f32 0x00000000#32 (Shape.Idx.first h_S_)) = (0 : EReal) from Ideal.ofBits_zero_f32, zero_add]
    refine (Finset.sum_congr rfl fun u _ => (congrArg (markV ri) (lift_col _ u)).trans (markV_apply ri u _)).trans ?_
    exact sum_indicator (fun u => routeN ri u = routeN ri t) 2048
  rw [hs, word_64] at hc
  have hd := of_bool_one _ hc
  exact (le_nat _ _).mp (of_decide_eq_true hd)

end

end Cert.MoeRing

end
-- ==== Proof.Equation.lean ====
/-
The kernel's result is the reference's: the arguments matched, both are the layer's.
-/
module

public import proofs.«01_k».proof.Proof.RefValue
public import proofs.«01_k».proof.Proof.Pre
public import proofs.«01_k».proof.Proof.Final

@[expose] public section

noncomputable section

namespace Cert.MoeRing

open Idealize.ShloMosaic
open Idealize.ShloMosaic.TcCoe
open Idealize.ShloMosaic.ValueIdx
open Idealize.SL.Sem
open scoped BigOperators
open Cert.KernelIdeal

section
variable {F : FTy → Type} [FloatOps F]
variable (m : (ℓ : Loc nD τ sig) → Buf (Elt F) ℓ) (c : Dev nD)

/-- The staged inputs are the arguments. -/
theorem xV_eq : xV m c = m ((c : Thread nD τ).loc main_arg0) :=
  Memref.read_access_unit_zero (Elt F) main_arg0 (funext fun a => by fin_cases a <;> decide) (fun a => by fin_cases a <;> decide) _
theorem rwV_eq : rwV m c = m ((c : Thread nD τ).loc main_arg1) :=
  Memref.read_access_unit_zero (Elt F) main_arg1 (funext fun a => by fin_cases a <;> decide) (fun a => by fin_cases a <;> decide) _
theorem riV_eq : riV m c = m ((c : Thread nD τ).loc main_arg2) :=
  Memref.read_access_unit_zero (Elt F) main_arg2 (funext fun a => by fin_cases a <;> decide) (fun a => by fin_cases a <;> decide) _
theorem swV_eq : swV m c = m ((c : Thread nD τ).loc main_arg4) :=
  Memref.read_access_unit_zero (Elt F) main_arg4 (funext fun a => by fin_cases a <;> decide) (fun a => by fin_cases a <;> decide) _

end

/-- An expert's weight in its device's block is its weight in the whole array. -/
theorem expert_weight (W : FVec Ideal Cert.ReferenceIdeal.S64x1024x1024 .f32) (n : ℕ) (hn : n < 64) (k f : Fin 1024) :
    (Layout.block ⟨3, ![8, 1024, 1024]⟩ ⟨3, ![64, 1024, 1024]⟩ 0 8 (⟨n / 8, by omega⟩ : Fin 8) W) (ix3 (⟨n % 8, Nat.mod_lt _ (by decide)⟩ : Fin 8) k f)
      = W (ix3 (⟨n, hn⟩ : Fin 64) k f) := by
  rw [Layout.block_apply]
  refine congrArg W (funext fun a => Fin.ext ?_)
  rw [Layout.Tiles.idx_val]
  match a with
  | ⟨0, _⟩ => show n / 8 * 8 + n % 8 = n; omega
  | ⟨1, _⟩ => rfl
  | ⟨2, _⟩ => rfl

variable {x : FVec Ideal S2048x1024 .bf16} {rw : FVec Ideal S1024x64 .bf16} {ri : IVec S2048x1 32} {W : FVec Ideal Cert.ReferenceIdeal.S64x1024x1024 .f32} {sw : FVec Ideal S1024x1024 .bf16}

/-- The result that each device ends with is the reference's, of the whole arrays that the devices hold between them. -/
theorem outV_eq (m : (ℓ : Loc nD τ sig) → Buf (Elt Ideal) ℓ) (hr : Routed ri)
    (hx : ∀ c : Dev nD, m ((c : Thread nD τ).loc main_arg0) = x) (hw : ∀ c : Dev nD, m ((c : Thread nD τ).loc main_arg1) = rw)
    (hi : ∀ c : Dev nD, m ((c : Thread nD τ).loc main_arg2) = ri)
    (he : ∀ c : Dev nD, m ((c : Thread nD τ).loc main_arg3) = Layout.block ⟨3, ![8, 1024, 1024]⟩ ⟨3, ![64, 1024, 1024]⟩ 0 8 c W)
    (hs : ∀ c : Dev nD, m ((c : Thread nD τ).loc main_arg4) = sw) (c : Dev nD) : outV c m = refV x rw ri W sw := by
  funext i
  obtain ⟨t, f, rfl⟩ : ∃ (t : Fin 2048) (f : Fin 1024), i = ix2 t f := ⟨i 0, i 1, eq_ix2 i⟩
  rw [outV_all (fun d => (xV_eq m d).trans (hx d)) (fun d => (rwV_eq m d).trans (hw d)) (fun d => (riV_eq m d).trans (hi d)) (fun d => (swV_eq m d).trans (hs d)) hr c t f,
    refV_apply x rw W sw hr t f]
  unfold layer
  refine congrArg (fun v : EReal => (∑ k : Fin 1024, x (ix2 t k) * sw (ix2 k f)) + v) ((mul_comm _ _).trans ?_)
  refine congrArg (fun v : EReal => probV x rw (ix2 t ⟨routeN ri t.val, routeN_fin hr t⟩) * v) (Finset.sum_congr rfl fun k _ => congrArg (fun v : EReal => x (ix2 t k) * v) ?_)
  refine (congrFun (he _) _).trans ?_
  exact expert_weight W (routeN ri t.val) (routeN_fin hr t) k f

end Cert.MoeRing

end
-- ==== Proof.lean ====
/-
The certificate's claims: the two kernels' frames from one run, written over any float values; the reference's frame from
its own; that the ideal kernel is the kernel's own text; and that over the extended reals it computes the reference's
result.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Final
public import proofs.«01_k».proof.Proof.Equation
public import Idealize.ShloMosaic.Adequacy
public import Idealize.ShloMosaic.Init

@[expose] public section

noncomputable section

namespace Cert.Proof

open Idealize.ShloMosaic Idealize.SL.Sem

/-- The two kernels' pipelines have one body. -/
theorem bodies_same : Cert.Kernel.defs₀ (F := Bits) = Cert.KernelIdeal.defs₀ (F := Bits) := by
  unfold Cert.Kernel.defs₀ Cert.KernelIdeal.defs₀
  refine congrArg Defs.onTc ?_
  funext l x
  match l, x with
  | ⟨0, _⟩, (t, s) => rfl

theorem defs_same : Cert.Kernel.defs (F := Bits) = Cert.KernelIdeal.defs (F := Bits) := by
  unfold Cert.Kernel.defs Cert.KernelIdeal.defs
  exact congrArg (Pipeline.defs _) bodies_same

/-- The kernel over bits: it ends, its arguments unchanged, every counter at zero. -/
theorem frame_kernel : Cert.quiescent_Kernel := by
  intro m ρ _
  rw [defs_same]
  exact (θ_run Cert.KernelIdeal.defs _ _).mono (fun _ h => ⟨fun c => (h.1 c).2, h.2⟩)
    (Cert.MoeRing.run_out (F := Bits) m ρ)

/-- The kernel over the extended reals likewise. -/
theorem frame_ideal : Cert.quiescent_KernelIdeal := fun m ρ _ =>
  (θ_run Cert.KernelIdeal.defs _ _).mono (fun _ h => ⟨fun c => (h.1 c).2, h.2⟩) (Cert.MoeRing.run_out (F := Ideal) m ρ)

/-- The reference likewise. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Every device's result is the reference's. -/
theorem same_result : Cert.algebraic_KernelIdeal_ReferenceIdeal_pre_routed_and_fits_KernelIdeal := by
  intro m ρ m' ρ' hp ha
  have hr := Cert.MoeRing.routed_of _ _ _ _ _ (hp 0).1 (hp 0).2
  rw [(ha 0).2.2.1] at hr
  refine ⟨_, (θ_run Cert.KernelIdeal.defs _ _).mono (fun _ h c => ⟨(h.1 c).1.trans ?_, (h.1 c).2⟩) (Cert.MoeRing.run_out (F := Ideal) m ρ),
    (θ_run Cert.ReferenceIdeal.defs _ _).mono (fun r h => ⟨(h 0).1, (h 0).2⟩) (Cert.ReferenceIdeal.Value.run (F := Ideal) m' ρ')⟩
  exact Cert.MoeRing.outV_eq m hr (fun c => (ha c).1) (fun c => (ha c).2.1) (fun c => (ha c).2.2.1) (fun c => (ha c).2.2.2.1) (fun c => (ha c).2.2.2.2) c

theorem claim : Cert.Claim := ⟨Cert.Kernel.Gen.facts, Cert.KernelIdeal.Gen.facts, Cert.ReferenceIdeal.Gen.facts,
  Cert.MoeRing.preFacts, Cert.MoeRing.preFactsReference,
  frame_kernel, frame_ideal, fun m ρ _ => frame_ideal m ρ trivial, frame_reference, fun m ρ _ => frame_reference m ρ trivial, trivial, same_result⟩

end Cert.Proof

end
